-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_scores_separate [hPre_scores_separate : Cert.Pre_scores_separate.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_scores_separate.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_scores_separate [hPre_scores_separate : Cert.Pre_scores_separate.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_scores_separate.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15))) = (fun _ => 1#1)

def Pre_Kernel1 (m : (ℓ : Loc Cert.Kernel1.nD Cert.Kernel1.τ Cert.Kernel1.sig) → Buf (Elt Bits) ℓ) : Prop :=
  True

def Pre_Kernel1Ideal (m : (ℓ : Loc Cert.Kernel1Ideal.nD Cert.Kernel1Ideal.τ Cert.Kernel1Ideal.sig) → Buf (Elt Ideal) ℓ) : Prop :=
  True

def Pre_Kernel1Ideal_tokens_in_range [hPre_tokens_in_range : Cert.Pre_tokens_in_range.Facts] (m : (ℓ : Loc Cert.Kernel1Ideal.nD Cert.Kernel1Ideal.τ Cert.Kernel1Ideal.sig) → Buf (Elt Ideal) ℓ) : Prop :=
  ∀ c : Dev Cert.Kernel1Ideal.nD,
    (Cert.Pre_tokens_in_range.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5)) (m ((c.tc : Thread Cert.Kernel1Ideal.nD Cert.Kernel1Ideal.τ).loc Cert.Kernel1Ideal.main_arg6)) (m ((c.tc : Thread Cert.Kernel1Ideal.nD Cert.Kernel1Ideal.τ).loc Cert.Kernel1Ideal.main_arg7)) (m ((c.tc : Thread Cert.Kernel1Ideal.nD Cert.Kernel1Ideal.τ).loc Cert.Kernel1Ideal.main_arg8))) = (fun _ => 1#1)

def Pre_Reference1Ideal (m : (ℓ : Loc Cert.Reference1Ideal.nD Cert.Reference1Ideal.τ Cert.Reference1Ideal.sig) → Buf (Elt Ideal) ℓ) : Prop :=
  True

def Pre_Reference1Ideal_tokens_in_range [hPre_tokens_in_range : Cert.Pre_tokens_in_range.Facts] (m : (ℓ : Loc Cert.Reference1Ideal.nD Cert.Reference1Ideal.τ Cert.Reference1Ideal.sig) → Buf (Elt Ideal) ℓ) : Prop :=
  ∀ c : Dev Cert.Reference1Ideal.nD,
    (Cert.Pre_tokens_in_range.fn (F := Ideal) (m ((c.tc : Thread Cert.Reference1Ideal.nD Cert.Reference1Ideal.τ).loc Cert.Reference1Ideal.main_arg0)) (m ((c.tc : Thread Cert.Reference1Ideal.nD Cert.Reference1Ideal.τ).loc Cert.Reference1Ideal.main_arg1)) (m ((c.tc : Thread Cert.Reference1Ideal.nD Cert.Reference1Ideal.τ).loc Cert.Reference1Ideal.main_arg2)) (m ((c.tc : Thread Cert.Reference1Ideal.nD Cert.Reference1Ideal.τ).loc Cert.Reference1Ideal.main_arg3)) (m ((c.tc : Thread Cert.Reference1Ideal.nD Cert.Reference1Ideal.τ).loc Cert.Reference1Ideal.main_arg4)) (m ((c.tc : Thread Cert.Reference1Ideal.nD Cert.Reference1Ideal.τ).loc Cert.Reference1Ideal.main_arg5)) (m ((c.tc : Thread Cert.Reference1Ideal.nD Cert.Reference1Ideal.τ).loc Cert.Reference1Ideal.main_arg6)) (m ((c.tc : Thread Cert.Reference1Ideal.nD Cert.Reference1Ideal.τ).loc Cert.Reference1Ideal.main_arg7)) (m ((c.tc : Thread Cert.Reference1Ideal.nD Cert.Reference1Ideal.τ).loc Cert.Reference1Ideal.main_arg8))) = (fun _ => 1#1)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ r.2.sem = fun _ => 0)

def quiescent_Kernel2Ideal_pre_scores_separate [hKernel2Ideal : Cert.Kernel2Ideal.Facts] [hPre_scores_separate : Cert.Pre_scores_separate.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_scores_separate m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15))
      ∧ r.2.sem = fun _ => 0)

def quiescent_Reference2Ideal_pre_scores_separate [hReference2Ideal : Cert.Reference2Ideal.Facts] [hPre_scores_separate : Cert.Pre_scores_separate.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_scores_separate m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15))
      ∧ r.2.sem = fun _ => 0)

def quiescent_Kernel1 [hKernel1 : Cert.Kernel1.Facts] : Prop :=
  ∀ (m : (ℓ : Loc Cert.Kernel1.nD Cert.Kernel1.τ Cert.Kernel1.sig) → Buf (Elt Bits) ℓ) (g : Dev Cert.Kernel1.nD → PrngReg), Pre_Kernel1 m →
    θ_run (Cert.Kernel1.defs (F := Bits)) (onTc (τ := Cert.Kernel1.τ) (Cert.Kernel1.main (F := Bits))) ⟨m, fun _ => 0, g⟩ (fun r => (∀ c : Dev Cert.Kernel1.nD,
      r.2.mem ((c.tc : Thread Cert.Kernel1.nD Cert.Kernel1.τ).loc Cert.Kernel1.main_arg0) = m ((c.tc : Thread Cert.Kernel1.nD Cert.Kernel1.τ).loc Cert.Kernel1.main_arg0)
      ∧ r.2.mem ((c.tc : Thread Cert.Kernel1.nD Cert.Kernel1.τ).loc Cert.Kernel1.main_arg1) = m ((c.tc : Thread Cert.Kernel1.nD Cert.Kernel1.τ).loc Cert.Kernel1.main_arg1)
      ∧ r.2.mem ((c.tc : Thread Cert.Kernel1.nD Cert.Kernel1.τ).loc Cert.Kernel1.main_arg2) = m ((c.tc : Thread Cert.Kernel1.nD Cert.Kernel1.τ).loc Cert.Kernel1.main_arg2)
      ∧ r.2.mem ((c.tc : Thread Cert.Kernel1.nD Cert.Kernel1.τ).loc Cert.Kernel1.main_arg3) = m ((c.tc : Thread Cert.Kernel1.nD Cert.Kernel1.τ).loc Cert.Kernel1.main_arg3)
      ∧ r.2.mem ((c.tc : Thread Cert.Kernel1.nD Cert.Kernel1.τ).loc Cert.Kernel1.main_arg4) = m ((c.tc : Thread Cert.Kernel1.nD Cert.Kernel1.τ).loc Cert.Kernel1.main_arg4)
      ∧ r.2.mem ((c.tc : Thread Cert.Kernel1.nD Cert.Kernel1.τ).loc Cert.Kernel1.main_arg5) = m ((c.tc : Thread Cert.Kernel1.nD Cert.Kernel1.τ).loc Cert.Kernel1.main_arg5)
      ∧ r.2.mem ((c.tc : Thread Cert.Kernel1.nD Cert.Kernel1.τ).loc Cert.Kernel1.main_arg6) = m ((c.tc : Thread Cert.Kernel1.nD Cert.Kernel1.τ).loc Cert.Kernel1.main_arg6)
      ∧ r.2.mem ((c.tc : Thread Cert.Kernel1.nD Cert.Kernel1.τ).loc Cert.Kernel1.main_arg7) = m ((c.tc : Thread Cert.Kernel1.nD Cert.Kernel1.τ).loc Cert.Kernel1.main_arg7)
      ∧ r.2.mem ((c.tc : Thread Cert.Kernel1.nD Cert.Kernel1.τ).loc Cert.Kernel1.main_arg8) = m ((c.tc : Thread Cert.Kernel1.nD Cert.Kernel1.τ).loc Cert.Kernel1.main_arg8))
      ∧ r.2.sem = fun _ => 0)

def quiescent_Kernel1Ideal [hKernel1Ideal : Cert.Kernel1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
      ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
      ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
      ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
      ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7)
      ∧ r.2.mem ((c.tc : Thread Cert.Kernel1Ideal.nD Cert.Kernel1Ideal.τ).loc Cert.Kernel1Ideal.main_arg8) = m ((c.tc : Thread Cert.Kernel1Ideal.nD Cert.Kernel1Ideal.τ).loc Cert.Kernel1Ideal.main_arg8))
      ∧ r.2.sem = fun _ => 0)

def quiescent_Kernel1Ideal_pre_tokens_in_range [hKernel1Ideal : Cert.Kernel1Ideal.Facts] [hPre_tokens_in_range : Cert.Pre_tokens_in_range.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal_tokens_in_range m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
      ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
      ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
      ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
      ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7)
      ∧ r.2.mem ((c.tc : Thread Cert.Kernel1Ideal.nD Cert.Kernel1Ideal.τ).loc Cert.Kernel1Ideal.main_arg8) = m ((c.tc : Thread Cert.Kernel1Ideal.nD Cert.Kernel1Ideal.τ).loc Cert.Kernel1Ideal.main_arg8))
      ∧ r.2.sem = fun _ => 0)

def quiescent_Reference1Ideal [hReference1Ideal : Cert.Reference1Ideal.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4)
      ∧ r.2.mem ((c.tc : Thread Cert.Reference1Ideal.nD Cert.Reference1Ideal.τ).loc Cert.Reference1Ideal.main_arg5) = m ((c.tc : Thread Cert.Reference1Ideal.nD Cert.Reference1Ideal.τ).loc Cert.Reference1Ideal.main_arg5)
      ∧ r.2.mem ((c.tc : Thread Cert.Reference1Ideal.nD Cert.Reference1Ideal.τ).loc Cert.Reference1Ideal.main_arg6) = m ((c.tc : Thread Cert.Reference1Ideal.nD Cert.Reference1Ideal.τ).loc Cert.Reference1Ideal.main_arg6)
      ∧ r.2.mem ((c.tc : Thread Cert.Reference1Ideal.nD Cert.Reference1Ideal.τ).loc Cert.Reference1Ideal.main_arg7) = m ((c.tc : Thread Cert.Reference1Ideal.nD Cert.Reference1Ideal.τ).loc Cert.Reference1Ideal.main_arg7)
      ∧ r.2.mem ((c.tc : Thread Cert.Reference1Ideal.nD Cert.Reference1Ideal.τ).loc Cert.Reference1Ideal.main_arg8) = m ((c.tc : Thread Cert.Reference1Ideal.nD Cert.Reference1Ideal.τ).loc Cert.Reference1Ideal.main_arg8))
      ∧ r.2.sem = fun _ => 0)

def quiescent_Reference1Ideal_pre_tokens_in_range [hReference1Ideal : Cert.Reference1Ideal.Facts] [hPre_tokens_in_range : Cert.Pre_tokens_in_range.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal_tokens_in_range m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4)
      ∧ r.2.mem ((c.tc : Thread Cert.Reference1Ideal.nD Cert.Reference1Ideal.τ).loc Cert.Reference1Ideal.main_arg5) = m ((c.tc : Thread Cert.Reference1Ideal.nD Cert.Reference1Ideal.τ).loc Cert.Reference1Ideal.main_arg5)
      ∧ r.2.mem ((c.tc : Thread Cert.Reference1Ideal.nD Cert.Reference1Ideal.τ).loc Cert.Reference1Ideal.main_arg6) = m ((c.tc : Thread Cert.Reference1Ideal.nD Cert.Reference1Ideal.τ).loc Cert.Reference1Ideal.main_arg6)
      ∧ r.2.mem ((c.tc : Thread Cert.Reference1Ideal.nD Cert.Reference1Ideal.τ).loc Cert.Reference1Ideal.main_arg7) = m ((c.tc : Thread Cert.Reference1Ideal.nD Cert.Reference1Ideal.τ).loc Cert.Reference1Ideal.main_arg7)
      ∧ r.2.mem ((c.tc : Thread Cert.Reference1Ideal.nD Cert.Reference1Ideal.τ).loc Cert.Reference1Ideal.main_arg8) = m ((c.tc : Thread Cert.Reference1Ideal.nD Cert.Reference1Ideal.τ).loc Cert.Reference1Ideal.main_arg8))
      ∧ r.2.sem = fun _ => 0)

def preserves_Kernel2_Kernel2Ideal : Prop :=
  IdealRules.named_const.Statement Cert.Kernel2Ideal.κ "mask" .f32 0xCE6E6B28#32 ⊥

def algebraic_Kernel2Ideal_Reference2Ideal_pre_scores_separate [hKernel2Ideal : Cert.Kernel2Ideal.Facts] [hReference2Ideal : Cert.Reference2Ideal.Facts] [hPre_scores_separate : Cert.Pre_scores_separate.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_scores_separate m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v121) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15))

def preserves_Kernel1_Kernel1Ideal : Prop :=
  True

def algebraic_Kernel1Ideal_Reference1Ideal_pre_tokens_in_range [hKernel1Ideal : Cert.Kernel1Ideal.Facts] [hReference1Ideal : Cert.Reference1Ideal.Facts] [hPre_tokens_in_range : Cert.Pre_tokens_in_range.Facts] : Prop :=
  ∀ (m : (ℓ : Loc Cert.Kernel1Ideal.nD Cert.Kernel1Ideal.τ Cert.Kernel1Ideal.sig) → Buf (Elt Ideal) ℓ) (g : Dev Cert.Kernel1Ideal.nD → PrngReg)
    (m' : (ℓ : Loc Cert.Reference1Ideal.nD Cert.Reference1Ideal.τ Cert.Reference1Ideal.sig) → Buf (Elt Ideal) ℓ) (g' : Dev Cert.Reference1Ideal.nD → PrngReg), Pre_Kernel1Ideal_tokens_in_range m →
    (∀ c : Dev Cert.Kernel1Ideal.nD,
      m' ((c.tc : Thread Cert.Reference1Ideal.nD Cert.Reference1Ideal.τ).loc Cert.Reference1Ideal.main_arg0) = m ((c.tc : Thread Cert.Kernel1Ideal.nD Cert.Kernel1Ideal.τ).loc Cert.Kernel1Ideal.main_arg0)
      ∧ m' ((c.tc : Thread Cert.Reference1Ideal.nD Cert.Reference1Ideal.τ).loc Cert.Reference1Ideal.main_arg1) = m ((c.tc : Thread Cert.Kernel1Ideal.nD Cert.Kernel1Ideal.τ).loc Cert.Kernel1Ideal.main_arg1)
      ∧ m' ((c.tc : Thread Cert.Reference1Ideal.nD Cert.Reference1Ideal.τ).loc Cert.Reference1Ideal.main_arg2) = m ((c.tc : Thread Cert.Kernel1Ideal.nD Cert.Kernel1Ideal.τ).loc Cert.Kernel1Ideal.main_arg2)
      ∧ m' ((c.tc : Thread Cert.Reference1Ideal.nD Cert.Reference1Ideal.τ).loc Cert.Reference1Ideal.main_arg3) = m ((c.tc : Thread Cert.Kernel1Ideal.nD Cert.Kernel1Ideal.τ).loc Cert.Kernel1Ideal.main_arg3)
      ∧ m' ((c.tc : Thread Cert.Reference1Ideal.nD Cert.Reference1Ideal.τ).loc Cert.Reference1Ideal.main_arg4) = m ((c.tc : Thread Cert.Kernel1Ideal.nD Cert.Kernel1Ideal.τ).loc Cert.Kernel1Ideal.main_arg4)
      ∧ m' ((c.tc : Thread Cert.Reference1Ideal.nD Cert.Reference1Ideal.τ).loc Cert.Reference1Ideal.main_arg5) = m ((c.tc : Thread Cert.Kernel1Ideal.nD Cert.Kernel1Ideal.τ).loc Cert.Kernel1Ideal.main_arg5)
      ∧ m' ((c.tc : Thread Cert.Reference1Ideal.nD Cert.Reference1Ideal.τ).loc Cert.Reference1Ideal.main_arg6) = m ((c.tc : Thread Cert.Kernel1Ideal.nD Cert.Kernel1Ideal.τ).loc Cert.Kernel1Ideal.main_arg6)
      ∧ m' ((c.tc : Thread Cert.Reference1Ideal.nD Cert.Reference1Ideal.τ).loc Cert.Reference1Ideal.main_arg7) = m ((c.tc : Thread Cert.Kernel1Ideal.nD Cert.Kernel1Ideal.τ).loc Cert.Kernel1Ideal.main_arg7)
      ∧ m' ((c.tc : Thread Cert.Reference1Ideal.nD Cert.Reference1Ideal.τ).loc Cert.Reference1Ideal.main_arg8) = m ((c.tc : Thread Cert.Kernel1Ideal.nD Cert.Kernel1Ideal.τ).loc Cert.Kernel1Ideal.main_arg8)) →
    ∃ (v0 : (c : Dev Cert.Kernel1Ideal.nD) → Buf (Elt Ideal) ((c.tc : Thread Cert.Kernel1Ideal.nD Cert.Kernel1Ideal.τ).loc Cert.Kernel1Ideal.main_v0_0)) (v1 : (c : Dev Cert.Kernel1Ideal.nD) → Buf (Elt Ideal) ((c.tc : Thread Cert.Kernel1Ideal.nD Cert.Kernel1Ideal.τ).loc Cert.Kernel1Ideal.main_v0_1)) (v2 : (c : Dev Cert.Kernel1Ideal.nD) → Buf (Elt Ideal) ((c.tc : Thread Cert.Kernel1Ideal.nD Cert.Kernel1Ideal.τ).loc Cert.Kernel1Ideal.main_v0_2)) (v3 : (c : Dev Cert.Kernel1Ideal.nD) → Buf (Elt Ideal) ((c.tc : Thread Cert.Kernel1Ideal.nD Cert.Kernel1Ideal.τ).loc Cert.Kernel1Ideal.main_v0_3)) (v4 : (c : Dev Cert.Kernel1Ideal.nD) → Buf (Elt Ideal) ((c.tc : Thread Cert.Kernel1Ideal.nD Cert.Kernel1Ideal.τ).loc Cert.Kernel1Ideal.main_v0_4)) (v5 : (c : Dev Cert.Kernel1Ideal.nD) → Buf (Elt Ideal) ((c.tc : Thread Cert.Kernel1Ideal.nD Cert.Kernel1Ideal.τ).loc Cert.Kernel1Ideal.main_v0_5)) (v6 : (c : Dev Cert.Kernel1Ideal.nD) → Buf (Elt Ideal) ((c.tc : Thread Cert.Kernel1Ideal.nD Cert.Kernel1Ideal.τ).loc Cert.Kernel1Ideal.main_v0_6)),
      θ_run (Cert.Kernel1Ideal.defs (F := Ideal)) (onTc (τ := Cert.Kernel1Ideal.τ) (Cert.Kernel1Ideal.main (F := Ideal))) ⟨m, fun _ => 0, g⟩ (fun r => ∀ c : Dev Cert.Kernel1Ideal.nD,
          r.2.mem ((c.tc : Thread Cert.Kernel1Ideal.nD Cert.Kernel1Ideal.τ).loc Cert.Kernel1Ideal.main_v0_0) = v0 c
          ∧ r.2.mem ((c.tc : Thread Cert.Kernel1Ideal.nD Cert.Kernel1Ideal.τ).loc Cert.Kernel1Ideal.main_v0_1) = v1 c
          ∧ r.2.mem ((c.tc : Thread Cert.Kernel1Ideal.nD Cert.Kernel1Ideal.τ).loc Cert.Kernel1Ideal.main_v0_2) = v2 c
          ∧ r.2.mem ((c.tc : Thread Cert.Kernel1Ideal.nD Cert.Kernel1Ideal.τ).loc Cert.Kernel1Ideal.main_v0_3) = v3 c
          ∧ r.2.mem ((c.tc : Thread Cert.Kernel1Ideal.nD Cert.Kernel1Ideal.τ).loc Cert.Kernel1Ideal.main_v0_4) = v4 c
          ∧ r.2.mem ((c.tc : Thread Cert.Kernel1Ideal.nD Cert.Kernel1Ideal.τ).loc Cert.Kernel1Ideal.main_v0_5) = v5 c
          ∧ r.2.mem ((c.tc : Thread Cert.Kernel1Ideal.nD Cert.Kernel1Ideal.τ).loc Cert.Kernel1Ideal.main_v0_6) = v6 c
          ∧ r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
          ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
          ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
          ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
          ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
          ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
          ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
          ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7)
          ∧ r.2.mem ((c.tc : Thread Cert.Kernel1Ideal.nD Cert.Kernel1Ideal.τ).loc Cert.Kernel1Ideal.main_arg8) = m ((c.tc : Thread Cert.Kernel1Ideal.nD Cert.Kernel1Ideal.τ).loc Cert.Kernel1Ideal.main_arg8))
      ∧ θ_run (Cert.Reference1Ideal.defs (F := Ideal)) (onTc (τ := Cert.Reference1Ideal.τ) (Cert.Reference1Ideal.main (F := Ideal))) ⟨m', fun _ => 0, g'⟩ (fun r => ∀ c : Dev Cert.Reference1Ideal.nD,
          r.2.mem ((c.tc : Thread Cert.Reference1Ideal.nD Cert.Reference1Ideal.τ).loc Cert.Reference1Ideal.main_v32) = v0 c
          ∧ r.2.mem ((c.tc : Thread Cert.Reference1Ideal.nD Cert.Reference1Ideal.τ).loc Cert.Reference1Ideal.main_v33) = v1 c
          ∧ r.2.mem ((c.tc : Thread Cert.Reference1Ideal.nD Cert.Reference1Ideal.τ).loc Cert.Reference1Ideal.main_v34) = v2 c
          ∧ r.2.mem ((c.tc : Thread Cert.Reference1Ideal.nD Cert.Reference1Ideal.τ).loc Cert.Reference1Ideal.main_v18) = v3 c
          ∧ r.2.mem ((c.tc : Thread Cert.Reference1Ideal.nD Cert.Reference1Ideal.τ).loc Cert.Reference1Ideal.main_v35) = v4 c
          ∧ r.2.mem ((c.tc : Thread Cert.Reference1Ideal.nD Cert.Reference1Ideal.τ).loc Cert.Reference1Ideal.main_v36) = v5 c
          ∧ r.2.mem ((c.tc : Thread Cert.Reference1Ideal.nD Cert.Reference1Ideal.τ).loc Cert.Reference1Ideal.main_v31) = v6 c
          ∧ r.2.mem ((c.tc : Thread Cert.Reference1Ideal.nD Cert.Reference1Ideal.τ).loc Cert.Reference1Ideal.main_arg0) = m' ((c.tc : Thread Cert.Reference1Ideal.nD Cert.Reference1Ideal.τ).loc Cert.Reference1Ideal.main_arg0)
          ∧ r.2.mem ((c.tc : Thread Cert.Reference1Ideal.nD Cert.Reference1Ideal.τ).loc Cert.Reference1Ideal.main_arg1) = m' ((c.tc : Thread Cert.Reference1Ideal.nD Cert.Reference1Ideal.τ).loc Cert.Reference1Ideal.main_arg1)
          ∧ r.2.mem ((c.tc : Thread Cert.Reference1Ideal.nD Cert.Reference1Ideal.τ).loc Cert.Reference1Ideal.main_arg2) = m' ((c.tc : Thread Cert.Reference1Ideal.nD Cert.Reference1Ideal.τ).loc Cert.Reference1Ideal.main_arg2)
          ∧ r.2.mem ((c.tc : Thread Cert.Reference1Ideal.nD Cert.Reference1Ideal.τ).loc Cert.Reference1Ideal.main_arg3) = m' ((c.tc : Thread Cert.Reference1Ideal.nD Cert.Reference1Ideal.τ).loc Cert.Reference1Ideal.main_arg3)
          ∧ r.2.mem ((c.tc : Thread Cert.Reference1Ideal.nD Cert.Reference1Ideal.τ).loc Cert.Reference1Ideal.main_arg4) = m' ((c.tc : Thread Cert.Reference1Ideal.nD Cert.Reference1Ideal.τ).loc Cert.Reference1Ideal.main_arg4)
          ∧ r.2.mem ((c.tc : Thread Cert.Reference1Ideal.nD Cert.Reference1Ideal.τ).loc Cert.Reference1Ideal.main_arg5) = m' ((c.tc : Thread Cert.Reference1Ideal.nD Cert.Reference1Ideal.τ).loc Cert.Reference1Ideal.main_arg5)
          ∧ r.2.mem ((c.tc : Thread Cert.Reference1Ideal.nD Cert.Reference1Ideal.τ).loc Cert.Reference1Ideal.main_arg6) = m' ((c.tc : Thread Cert.Reference1Ideal.nD Cert.Reference1Ideal.τ).loc Cert.Reference1Ideal.main_arg6)
          ∧ r.2.mem ((c.tc : Thread Cert.Reference1Ideal.nD Cert.Reference1Ideal.τ).loc Cert.Reference1Ideal.main_arg7) = m' ((c.tc : Thread Cert.Reference1Ideal.nD Cert.Reference1Ideal.τ).loc Cert.Reference1Ideal.main_arg7)
          ∧ r.2.mem ((c.tc : Thread Cert.Reference1Ideal.nD Cert.Reference1Ideal.τ).loc Cert.Reference1Ideal.main_arg8) = m' ((c.tc : Thread Cert.Reference1Ideal.nD Cert.Reference1Ideal.τ).loc Cert.Reference1Ideal.main_arg8))

def Claim : Prop :=
  ∃ (hKernel2 : Cert.Kernel2.Facts) (hKernel2Ideal : Cert.Kernel2Ideal.Facts) (hReference2Ideal : Cert.Reference2Ideal.Facts) (hKernel1 : Cert.Kernel1.Facts) (hKernel1Ideal : Cert.Kernel1Ideal.Facts) (hReference1Ideal : Cert.Reference1Ideal.Facts) (hPre_scores_separate : Cert.Pre_scores_separate.Facts) (hPre_tokens_in_range : Cert.Pre_tokens_in_range.Facts),
    quiescent_Kernel2 (hKernel2 := hKernel2)
    ∧ quiescent_Kernel2Ideal (hKernel2Ideal := hKernel2Ideal)
    ∧ quiescent_Kernel2Ideal_pre_scores_separate (hKernel2Ideal := hKernel2Ideal) (hPre_scores_separate := hPre_scores_separate)
    ∧ quiescent_Reference2Ideal (hReference2Ideal := hReference2Ideal)
    ∧ quiescent_Reference2Ideal_pre_scores_separate (hReference2Ideal := hReference2Ideal) (hPre_scores_separate := hPre_scores_separate)
    ∧ quiescent_Kernel1 (hKernel1 := hKernel1)
    ∧ quiescent_Kernel1Ideal (hKernel1Ideal := hKernel1Ideal)
    ∧ quiescent_Kernel1Ideal_pre_tokens_in_range (hKernel1Ideal := hKernel1Ideal) (hPre_tokens_in_range := hPre_tokens_in_range)
    ∧ quiescent_Reference1Ideal (hReference1Ideal := hReference1Ideal)
    ∧ quiescent_Reference1Ideal_pre_tokens_in_range (hReference1Ideal := hReference1Ideal) (hPre_tokens_in_range := hPre_tokens_in_range)
    ∧ preserves_Kernel2_Kernel2Ideal
    ∧ algebraic_Kernel2Ideal_Reference2Ideal_pre_scores_separate (hKernel2Ideal := hKernel2Ideal) (hReference2Ideal := hReference2Ideal) (hPre_scores_separate := hPre_scores_separate)
    ∧ preserves_Kernel1_Kernel1Ideal
    ∧ algebraic_Kernel1Ideal_Reference1Ideal_pre_tokens_in_range (hKernel1Ideal := hKernel1Ideal) (hReference1Ideal := hReference1Ideal) (hPre_tokens_in_range := hPre_tokens_in_range)
-- ==== Pre_scores_separate.lean ====
abbrev S2048x64 : Shape := ⟨2, ![2048, 64]⟩
abbrev S1x256 : Shape := ⟨2, ![1, 256]⟩
abbrev S2048x512 : Shape := ⟨2, ![2048, 512]⟩
abbrev S256x512 : Shape := ⟨2, ![256, 512]⟩
abbrev S256x64 : Shape := ⟨2, ![256, 64]⟩
abbrev S64x8 : Shape := ⟨2, ![64, 8]⟩
abbrev S8x64 : Shape := ⟨2, ![8, 64]⟩
abbrev S2048x768 : Shape := ⟨2, ![2048, 768]⟩
abbrev S512x768 : Shape := ⟨2, ![512, 768]⟩
abbrev S1x768 : Shape := ⟨2, ![1, 768]⟩
abbrev S768x3072 : Shape := ⟨2, ![768, 3072]⟩
abbrev S3072x768 : Shape := ⟨2, ![3072, 768]⟩
abbrev S2048x256 : Shape := ⟨2, ![2048, 256]⟩
abbrev S256 : Shape := ⟨1, ![256]⟩
abbrev S2048 : Shape := ⟨1, ![2048]⟩
abbrev S2048x1 : Shape := ⟨2, ![2048, 1]⟩
abbrev S_ : Shape := ⟨0, ![]⟩
abbrev S256x1 : Shape := ⟨2, ![256, 1]⟩
abbrev S256x256 : Shape := ⟨2, ![256, 256]⟩
abbrev S1x256x256 : Shape := ⟨3, ![1, 256, 256]⟩
abbrev S2048x256x1 : Shape := ⟨3, ![2048, 256, 1]⟩
abbrev S2048x256x256 : Shape := ⟨3, ![2048, 256, 256]⟩
abbrev S2048x1x256 : Shape := ⟨3, ![2048, 1, 256]⟩

class Facts : Prop where
  shapeCasts_S1x256_S256 : S1x256.ShapeCasts S256
  bcast_S256_S1x256_1 : S256.BroadcastsInDim S1x256 (![1] : Fin 1 → Fin S1x256.rank)
  bcast_S2048_S2048x1_0 : S2048.BroadcastsInDim S2048x1 (![0] : Fin 1 → Fin S2048x1.rank)
  bcast_S1x256_S2048x256_0_1 : S1x256.BroadcastsInDim S2048x256 (![0, 1] : Fin 2 → Fin S2048x256.rank)
  bcast_S2048x1_S2048x256_0_1 : S2048x1.BroadcastsInDim S2048x256 (![0, 1] : Fin 2 → Fin S2048x256.rank)
  bcast_S_S256 : S_.BroadcastsInDim S256 (![] : Fin 0 → Fin S256.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  bcast_S256x256_S1x256x256_1_2 : S256x256.BroadcastsInDim S1x256x256 (![1, 2] : Fin 2 → Fin S1x256x256.rank)
  bcast_S2048x256_S2048x256x1_0_1 : S2048x256.BroadcastsInDim S2048x256x1 (![0, 1] : Fin 2 → Fin S2048x256x1.rank)
  bcast_S1x256x256_S2048x256x256_0_1_2 : S1x256x256.BroadcastsInDim S2048x256x256 (![0, 1, 2] : Fin 3 → Fin S2048x256x256.rank)
  bcast_S2048x256x1_S2048x256x256_0_1_2 : S2048x256x1.BroadcastsInDim S2048x256x256 (![0, 1, 2] : Fin 3 → Fin S2048x256x256.rank)
  bcast_S2048x256_S2048x1x256_0_2 : S2048x256.BroadcastsInDim S2048x1x256 (![0, 2] : Fin 2 → Fin S2048x1x256.rank)
  bcast_S2048x1x256_S2048x256x256_0_1_2 : S2048x1x256.BroadcastsInDim S2048x256x256 (![0, 1, 2] : Fin 3 → Fin S2048x256x256.rank)
  bcast_S_S2048x256 : S_.BroadcastsInDim S2048x256 (![] : Fin 0 → Fin S2048x256.rank)
  reducesTo_S2048x256x256_S_d0_1_2 : S2048x256x256.ReducesTo [0, 1, 2] S_
  h_S_ : 0 < S_.numel
  reducesTo_S2048x256_S_d0_1 : S2048x256.ReducesTo [0, 1] S_
  bitsLt_bf16_f32 : FTy.bits .bf16 < FTy.bits .f32
  bcast_S_S2048x512 : S_.BroadcastsInDim S2048x512 (![] : Fin 0 → Fin S2048x512.rank)
  reducesTo_S2048x512_S_d0_1 : S2048x512.ReducesTo [0, 1] S_
  bcast_S_S256x512 : S_.BroadcastsInDim S256x512 (![] : Fin 0 → Fin S256x512.rank)
  reducesTo_S256x512_S_d0_1 : S256x512.ReducesTo [0, 1] S_
  bcast_S_S64x8 : S_.BroadcastsInDim S64x8 (![] : Fin 0 → Fin S64x8.rank)
  reducesTo_S64x8_S_d0_1 : S64x8.ReducesTo [0, 1] S_
  dot_S2048x64_S256x64_S2048x256_1_1_0_0_n_n_wf : DotDims.WF S2048x64 S256x64 S2048x256 [1] [1] [0] [0] [] []

variable [Facts]

def dot_S2048x64_S256x64_S2048x256_1_1_0_0_n_n : DotDims S2048x64 S256x64 S2048x256 where
  lhsContracting := [1]
  rhsContracting := [1]
  lhsNonContracting := [0]
  rhsNonContracting := [0]
  lhsBatch := []
  rhsBatch := []
  wf := dot_S2048x64_S256x64_S2048x256_1_1_0_0_n_n_wf
def fn_part3 {F : FTy → Type} [FloatOps F] (main_v60 : IVec S_ 1) (main_v61 : FVec F S64x8 .f32) : IVec S_ 1 :=
  let main_v62 : FVec F S64x8 .f32 := Host.absf main_v61
  let main_cst_8 : FVec F S_ .f32 := constant S_ .f32 0x7F800000#32
  let main_v63 : FVec F S64x8 .f32 := broadcastInDim S64x8 ![] bcast_S_S64x8 main_cst_8
  let main_v64 : IVec S64x8 1 := cmpf .olt main_v62 main_v63
  let main_c_9 : IVec S_ 1 := constantI S_ 1 1#1
  let main_v65 : IVec S_ 1 := (fun x v => Host.reduce IntOp.andi x v reducesTo_S64x8_S_d0_1 h_S_) main_v64 main_c_9
  let main_v66 : IVec S_ 1 := andi main_v60 main_v65
  main_v66

def fn_part2 {F : FTy → Type} [FloatOps F] (main_arg4 : FVec F S2048x512 .bf16) (main_arg6 : FVec F S256x512 .bf16) (main_arg9 : FVec F S64x8 .bf16) (main_v42 : IVec S_ 1) (main_v43 : FVec F S2048x512 .f32) : IVec S_ 1 :=
  let main_v44 : FVec F S2048x512 .f32 := Host.absf main_v43
  let main_cst_2 : FVec F S_ .f32 := constant S_ .f32 0x7F800000#32
  let main_v45 : FVec F S2048x512 .f32 := broadcastInDim S2048x512 ![] bcast_S_S2048x512 main_cst_2
  let main_v46 : IVec S2048x512 1 := cmpf .olt main_v44 main_v45
  let main_c_3 : IVec S_ 1 := constantI S_ 1 1#1
  let main_v47 : IVec S_ 1 := (fun x v => Host.reduce IntOp.andi x v reducesTo_S2048x512_S_d0_1 h_S_) main_v46 main_c_3
  let main_v48 : IVec S_ 1 := andi main_v42 main_v47
  let main_v49 : FVec F S2048x512 .f32 := (extf .f32 · bitsLt_bf16_f32) main_arg4
  let main_v50 : FVec F S2048x512 .f32 := Host.absf main_v49
  let main_cst_4 : FVec F S_ .f32 := constant S_ .f32 0x7F800000#32
  let main_v51 : FVec F S2048x512 .f32 := broadcastInDim S2048x512 ![] bcast_S_S2048x512 main_cst_4
  let main_v52 : IVec S2048x512 1 := cmpf .olt main_v50 main_v51
  let main_c_5 : IVec S_ 1 := constantI S_ 1 1#1
  let main_v53 : IVec S_ 1 := (fun x v => Host.reduce IntOp.andi x v reducesTo_S2048x512_S_d0_1 h_S_) main_v52 main_c_5
  let main_v54 : IVec S_ 1 := andi main_v48 main_v53
  let main_v55 : FVec F S256x512 .f32 := (extf .f32 · bitsLt_bf16_f32) main_arg6
  let main_v56 : FVec F S256x512 .f32 := Host.absf main_v55
  let main_cst_6 : FVec F S_ .f32 := constant S_ .f32 0x7F800000#32
  let main_v57 : FVec F S256x512 .f32 := broadcastInDim S256x512 ![] bcast_S_S256x512 main_cst_6
  let main_v58 : IVec S256x512 1 := cmpf .olt main_v56 main_v57
  let main_c_7 : IVec S_ 1 := constantI S_ 1 1#1
  let main_v59 : IVec S_ 1 := (fun x v => Host.reduce IntOp.andi x v reducesTo_S256x512_S_d0_1 h_S_) main_v58 main_c_7
  let main_v60 : IVec S_ 1 := andi main_v54 main_v59
  let main_v61 : FVec F S64x8 .f32 := (extf .f32 · bitsLt_bf16_f32) main_arg9
  fn_part3 (F := F) main_v60 main_v61

def fn_part1 {F : FTy → Type} [FloatOps F] (main_arg3 : FVec F S2048x512 .bf16) (main_arg4 : FVec F S2048x512 .bf16) (main_arg6 : FVec F S256x512 .bf16) (main_arg9 : FVec F S64x8 .bf16) (main_v0 : FVec F S2048x256 .f32) (main_v13 : IVec S2048x256 1) (main_v21 : IVec S1x256x256 1) (main_v22 : IVec S2048x256x1 1) : IVec S_ 1 :=
  let main_v23 : IVec S2048x256x256 1 := broadcastInDim S2048x256x256 ![0, 1, 2] bcast_S1x256x256_S2048x256x256_0_1_2 main_v21
  let main_v24 : IVec S2048x256x256 1 := broadcastInDim S2048x256x256 ![0, 1, 2] bcast_S2048x256x1_S2048x256x256_0_1_2 main_v22
  let main_v25 : IVec S2048x256x256 1 := andi main_v23 main_v24
  let main_v26 : IVec S2048x1x256 1 := broadcastInDim S2048x1x256 ![0, 2] bcast_S2048x256_S2048x1x256_0_2 main_v13
  let main_v27 : IVec S2048x256x256 1 := broadcastInDim S2048x256x256 ![0, 1, 2] bcast_S2048x1x256_S2048x256x256_0_1_2 main_v26
  let main_v28 : IVec S2048x256x256 1 := andi main_v25 main_v27
  let main_v29 : FVec F S2048x256x1 .f32 := broadcastInDim S2048x256x1 ![0, 1] bcast_S2048x256_S2048x256x1_0_1 main_v0
  let main_v30 : FVec F S2048x1x256 .f32 := broadcastInDim S2048x1x256 ![0, 2] bcast_S2048x256_S2048x1x256_0_2 main_v0
  let main_v31 : FVec F S2048x256x256 .f32 := broadcastInDim S2048x256x256 ![0, 1, 2] bcast_S2048x256x1_S2048x256x256_0_1_2 main_v29
  let main_v32 : FVec F S2048x256x256 .f32 := broadcastInDim S2048x256x256 ![0, 1, 2] bcast_S2048x1x256_S2048x256x256_0_1_2 main_v30
  let main_v33 : IVec S2048x256x256 1 := cmpf .oeq main_v31 main_v32
  let main_v34 : IVec S2048x256x256 1 := andi main_v28 main_v33
  let main_cst : FVec F S_ .f32 := constant S_ .f32 0xFF800000#32
  let main_v35 : FVec F S2048x256 .f32 := broadcastInDim S2048x256 ![] bcast_S_S2048x256 main_cst
  let main_v36 : IVec S2048x256 1 := cmpf .oeq main_v0 main_v35
  let main_v37 : IVec S2048x256 1 := andi main_v13 main_v36
  let main_v38 : IVec S2048x256x256 1 := noti main_v34
  let main_c_0 : IVec S_ 1 := constantI S_ 1 1#1
  let main_v39 : IVec S_ 1 := (fun x v => Host.reduce IntOp.andi x v reducesTo_S2048x256x256_S_d0_1_2 h_S_) main_v38 main_c_0
  let main_v40 : IVec S2048x256 1 := noti main_v37
  let main_c_1 : IVec S_ 1 := constantI S_ 1 1#1
  let main_v41 : IVec S_ 1 := (fun x v => Host.reduce IntOp.andi x v reducesTo_S2048x256_S_d0_1 h_S_) main_v40 main_c_1
  let main_v42 : IVec S_ 1 := andi main_v39 main_v41
  let main_v43 : FVec F S2048x512 .f32 := (extf .f32 · bitsLt_bf16_f32) main_arg3
  fn_part2 (F := F) main_arg4 main_arg6 main_arg9 main_v42 main_v43

def fn {F : FTy → Type} [FloatOps F] (main_arg0 : FVec F S2048x64 .f32) (main_arg1 : IVec S1x256 32) (main_arg2 : IVec S1x256 32) (main_arg3 : FVec F S2048x512 .bf16) (main_arg4 : FVec F S2048x512 .bf16) (main_arg5 : FVec F S2048x512 .bf16) (main_arg6 : FVec F S256x512 .bf16) (main_arg7 : FVec F S256x512 .bf16) (main_arg8 : FVec F S256x64 .f32) (main_arg9 : FVec F S64x8 .bf16) (main_arg10 : FVec F S8x64 .f32) (main_arg11 : FVec F S2048x768 .f32) (main_arg12 : FVec F S512x768 .f32) (main_arg13 : FVec F S1x768 .f32) (main_arg14 : FVec F S768x3072 .f32) (main_arg15 : FVec F S3072x768 .f32) : IVec S_ 1 :=
  let main_v0 : FVec F S2048x256 .f32 := (fun l r => Host.dotGeneral dot_S2048x64_S256x64_S2048x256_1_1_0_0_n_n none l r) main_arg0 main_arg8
  let main_v1 : IVec S256 32 := shapeCast S256 main_arg1 shapeCasts_S1x256_S256
  let main_v2 : IVec S1x256 32 := broadcastInDim S1x256 ![1] bcast_S256_S1x256_1 main_v1
  let main_v3 : IVec S2048 32 := iotaInDim S2048 32 0
  let main_v4 : IVec S2048x1 32 := broadcastInDim S2048x1 ![0] bcast_S2048_S2048x1_0 main_v3
  let main_v5 : IVec S2048x256 32 := broadcastInDim S2048x256 ![0, 1] bcast_S1x256_S2048x256_0_1 main_v2
  let main_v6 : IVec S2048x256 32 := broadcastInDim S2048x256 ![0, 1] bcast_S2048x1_S2048x256_0_1 main_v4
  let main_v7 : IVec S2048x256 1 := cmpi .sle main_v5 main_v6
  let main_v8 : IVec S256 32 := shapeCast S256 main_arg2 shapeCasts_S1x256_S256
  let main_c : IVec S_ 32 := constantI S_ 32 0#32
  let main_v9 : IVec S256 32 := broadcastInDim S256 ![] bcast_S_S256 main_c
  let main_v10 : IVec S256 1 := cmpi .ne main_v8 main_v9
  let main_v11 : IVec S1x256 1 := broadcastInDim S1x256 ![1] bcast_S256_S1x256_1 main_v10
  let main_v12 : IVec S2048x256 1 := broadcastInDim S2048x256 ![0, 1] bcast_S1x256_S2048x256_0_1 main_v11
  let main_v13 : IVec S2048x256 1 := andi main_v7 main_v12
  let main_v14 : IVec S256 32 := iotaInDim S256 32 0
  let main_v15 : IVec S256x1 32 := broadcastInDim S256x1 ![0] bcast_S256_S256x1_0 main_v14
  let main_v16 : IVec S256 32 := iotaInDim S256 32 0
  let main_v17 : IVec S1x256 32 := broadcastInDim S1x256 ![1] bcast_S256_S1x256_1 main_v16
  let main_v18 : IVec S256x256 32 := broadcastInDim S256x256 ![0, 1] bcast_S256x1_S256x256_0_1 main_v15
  let main_v19 : IVec S256x256 32 := broadcastInDim S256x256 ![0, 1] bcast_S1x256_S256x256_0_1 main_v17
  let main_v20 : IVec S256x256 1 := cmpi .ne main_v18 main_v19
  let main_v21 : IVec S1x256x256 1 := broadcastInDim S1x256x256 ![1, 2] bcast_S256x256_S1x256x256_1_2 main_v20
  let main_v22 : IVec S2048x256x1 1 := broadcastInDim S2048x256x1 ![0, 1] bcast_S2048x256_S2048x256x1_0_1 main_v13
  fn_part1 (F := F) main_arg3 main_arg4 main_arg6 main_arg9 main_v0 main_v13 main_v21 main_v22
-- ==== Pre_tokens_in_range.lean ====
abbrev S2048x768 : Shape := ⟨2, ![2048, 768]⟩
abbrev S1x768 : Shape := ⟨2, ![1, 768]⟩
abbrev S768x256 : Shape := ⟨2, ![768, 256]⟩
abbrev S256x512 : Shape := ⟨2, ![256, 512]⟩
abbrev S768x512 : Shape := ⟨2, ![768, 512]⟩
abbrev S768x64 : Shape := ⟨2, ![768, 64]⟩
abbrev S256x16 : Shape := ⟨2, ![256, 16]⟩
abbrev S_ : Shape := ⟨0, ![]⟩

class Facts : Prop where
  bcast_S_S256x16 : S_.BroadcastsInDim S256x16 (![] : Fin 0 → Fin S256x16.rank)
  reducesTo_S256x16_S_d0_1 : S256x16.ReducesTo [0, 1] S_
  h_S_ : 0 < S_.numel

variable [Facts]

def fn {F : FTy → Type} [FloatOps F] (main_arg0 : FVec F S2048x768 .f32) (main_arg1 : FVec F S1x768 .f32) (main_arg2 : FVec F S768x256 .f32) (main_arg3 : FVec F S256x512 .f32) (main_arg4 : FVec F S768x512 .f32) (main_arg5 : FVec F S768x512 .f32) (main_arg6 : FVec F S768x64 .f32) (main_arg7 : IVec S256x16 32) (main_arg8 : FVec F S768x64 .f32) : IVec S_ 1 :=
  let main_c : IVec S_ 32 := constantI S_ 32 0#32
  let main_v0 : IVec S256x16 32 := broadcastInDim S256x16 ![] bcast_S_S256x16 main_c
  let main_v1 : IVec S256x16 1 := cmpi .sge main_arg7 main_v0
  let main_c_0 : IVec S_ 32 := constantI S_ 32 2048#32
  let main_v2 : IVec S256x16 32 := broadcastInDim S256x16 ![] bcast_S_S256x16 main_c_0
  let main_v3 : IVec S256x16 1 := cmpi .slt main_arg7 main_v2
  let main_v4 : IVec S256x16 1 := andi main_v1 main_v3
  let main_c_1 : IVec S_ 1 := constantI S_ 1 1#1
  let main_v5 : IVec S_ 1 := (fun x v => Host.reduce IntOp.andi x v reducesTo_S256x16_S_d0_1 h_S_) main_v4 main_c_1
  main_v5
-- ==== Kernel2.lean ====
abbrev S2048x64 : Shape := ⟨2, ![2048, 64]⟩
abbrev S1x256 : Shape := ⟨2, ![1, 256]⟩
abbrev S2048x512 : Shape := ⟨2, ![2048, 512]⟩
abbrev S256x512 : Shape := ⟨2, ![256, 512]⟩
abbrev S256x64 : Shape := ⟨2, ![256, 64]⟩
abbrev S64x8 : Shape := ⟨2, ![64, 8]⟩
abbrev S8x64 : Shape := ⟨2, ![8, 64]⟩
abbrev S2048x768 : Shape := ⟨2, ![2048, 768]⟩
abbrev S512x768 : Shape := ⟨2, ![512, 768]⟩
abbrev S1x768 : Shape := ⟨2, ![1, 768]⟩
abbrev S768x3072 : Shape := ⟨2, ![768, 3072]⟩
abbrev S3072x768 : Shape := ⟨2, ![3072, 768]⟩
abbrev S256x768 : Shape := ⟨2, ![256, 768]⟩
abbrev S256x256 : Shape := ⟨2, ![256, 256]⟩
abbrev S256 : Shape := ⟨1, ![256]⟩
abbrev S256x1 : Shape := ⟨2, ![256, 1]⟩
abbrev S64x512 : Shape := ⟨2, ![64, 512]⟩
abbrev S128x512 : Shape := ⟨2, ![128, 512]⟩
abbrev S64x128 : Shape := ⟨2, ![64, 128]⟩
abbrev S64x64 : Shape := ⟨2, ![64, 64]⟩
abbrev S128x64 : Shape := ⟨2, ![128, 64]⟩
abbrev S256x128 : Shape := ⟨2, ![256, 128]⟩
abbrev S64x1 : Shape := ⟨2, ![64, 1]⟩
abbrev S1x64 : Shape := ⟨2, ![1, 64]⟩
abbrev S256x3072 : Shape := ⟨2, ![256, 3072]⟩

abbrev nBuf : Space → Nat
  | .hbm => 17
  | .vmem => 30
  | .smem => 0
  | _ => 0

abbrev bufTy : (tb : Table) → Fin (tcTables nBuf tb) → BufTy
  | .hbm, ⟨0, _⟩ => ⟨S2048x64, .f32⟩
  | .hbm, ⟨1, _⟩ => ⟨S1x256, .i32⟩
  | .hbm, ⟨2, _⟩ => ⟨S1x256, .i32⟩
  | .hbm, ⟨3, _⟩ => ⟨S2048x512, .bf16⟩
  | .hbm, ⟨4, _⟩ => ⟨S2048x512, .bf16⟩
  | .hbm, ⟨5, _⟩ => ⟨S2048x512, .bf16⟩
  | .hbm, ⟨6, _⟩ => ⟨S256x512, .bf16⟩
  | .hbm, ⟨7, _⟩ => ⟨S256x512, .bf16⟩
  | .hbm, ⟨8, _⟩ => ⟨S256x64, .f32⟩
  | .hbm, ⟨9, _⟩ => ⟨S64x8, .bf16⟩
  | .hbm, ⟨10, _⟩ => ⟨S8x64, .f32⟩
  | .hbm, ⟨11, _⟩ => ⟨S2048x768, .f32⟩
  | .hbm, ⟨12, _⟩ => ⟨S512x768, .f32⟩
  | .hbm, ⟨13, _⟩ => ⟨S1x768, .f32⟩
  | .hbm, ⟨14, _⟩ => ⟨S768x3072, .f32⟩
  | .hbm, ⟨15, _⟩ => ⟨S3072x768, .f32⟩
  | .hbm, ⟨16, _⟩ => ⟨S2048x768, .f32⟩
  | .local _ .vmem, ⟨0, _⟩ => ⟨S256x64, .f32⟩
  | .local _ .vmem, ⟨1, _⟩ => ⟨S256x64, .f32⟩
  | .local _ .vmem, ⟨2, _⟩ => ⟨S1x256, .i32⟩
  | .local _ .vmem, ⟨3, _⟩ => ⟨S1x256, .i32⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x64, .f32⟩
  | .local _ .vmem, ⟨17, _⟩ => ⟨S64x8, .bf16⟩
  | .local _ .vmem, ⟨18, _⟩ => ⟨S8x64, .f32⟩
  | .local _ .vmem, ⟨19, _⟩ => ⟨S256x768, .f32⟩
  | .local _ .vmem, ⟨20, _⟩ => ⟨S256x768, .f32⟩
  | .local _ .vmem, ⟨21, _⟩ => ⟨S512x768, .f32⟩
  | .local _ .vmem, ⟨22, _⟩ => ⟨S1x768, .f32⟩
  | .local _ .vmem, ⟨23, _⟩ => ⟨S768x3072, .f32⟩
  | .local _ .vmem, ⟨24, _⟩ => ⟨S3072x768, .f32⟩
  | .local _ .vmem, ⟨25, _⟩ => ⟨S256x768, .f32⟩
  | .local _ .vmem, ⟨26, _⟩ => ⟨S256x768, .f32⟩
  | .local _ .vmem, ⟨27, _⟩ => ⟨S512x768, .bf16⟩
  | .local _ .vmem, ⟨28, _⟩ => ⟨S768x3072, .bf16⟩
  | .local _ .vmem, ⟨29, _⟩ => ⟨S3072x768, .bf16⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg18_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem18_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x8 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S512x768 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x768 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S768x3072 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S3072x768 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x768 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Kernel2Ideal.lean ====
variable {F : FTy → Type} [FloatOps F] [Named F]
def κ : String → Option EReal := fun
  | "mask" => some ⊥
  | _ => none
-- ==== Reference2Ideal.lean ====
abbrev S2048x64 : Shape := ⟨2, ![2048, 64]⟩
abbrev S1x256 : Shape := ⟨2, ![1, 256]⟩
abbrev S2048x512 : Shape := ⟨2, ![2048, 512]⟩
abbrev S256x512 : Shape := ⟨2, ![256, 512]⟩
abbrev S256x64 : Shape := ⟨2, ![256, 64]⟩
abbrev S64x8 : Shape := ⟨2, ![64, 8]⟩
abbrev S8x64 : Shape := ⟨2, ![8, 64]⟩
abbrev S2048x768 : Shape := ⟨2, ![2048, 768]⟩
abbrev S512x768 : Shape := ⟨2, ![512, 768]⟩
abbrev S1x768 : Shape := ⟨2, ![1, 768]⟩
abbrev S768x3072 : Shape := ⟨2, ![768, 3072]⟩
abbrev S3072x768 : Shape := ⟨2, ![3072, 768]⟩
abbrev S1x2048x8x64 : Shape := ⟨4, ![1, 2048, 8, 64]⟩
abbrev S1x256x8x64 : Shape := ⟨4, ![1, 256, 8, 64]⟩
abbrev S1x2048x768 : Shape := ⟨3, ![1, 2048, 768]⟩
abbrev S1x2048x2x32 : Shape := ⟨4, ![1, 2048, 2, 32]⟩
abbrev S1x256x2x32 : Shape := ⟨4, ![1, 256, 2, 32]⟩
abbrev S1x2048x256 : Shape := ⟨3, ![1, 2048, 256]⟩
abbrev S2048 : Shape := ⟨1, ![2048]⟩
abbrev S1x1x256 : Shape := ⟨3, ![1, 1, 256]⟩
abbrev S1x2048x1 : Shape := ⟨3, ![1, 2048, 1]⟩
abbrev S_ : Shape := ⟨0, ![]⟩
abbrev S1x2048x8 : Shape := ⟨3, ![1, 2048, 8]⟩
abbrev S1x2048x8x1 : Shape := ⟨4, ![1, 2048, 8, 1]⟩
abbrev S1x2048x8x8x64 : Shape := ⟨5, ![1, 2048, 8, 8, 64]⟩
abbrev S2048x8x1 : Shape := ⟨3, ![2048, 8, 1]⟩
abbrev S1 : Shape := ⟨1, ![1]⟩
abbrev S1x1x1 : Shape := ⟨3, ![1, 1, 1]⟩
abbrev S2048x8 : Shape := ⟨2, ![2048, 8]⟩
abbrev S1x8x2048x8 : Shape := ⟨4, ![1, 8, 2048, 8]⟩
abbrev S1x1x2048x8 : Shape := ⟨4, ![1, 1, 2048, 8]⟩
abbrev S1x8x2048x2048 : Shape := ⟨4, ![1, 8, 2048, 2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S8x1x2048 : Shape := ⟨3, ![8, 1, 2048]⟩
abbrev S1x8x2048 : Shape := ⟨3, ![1, 8, 2048]⟩
abbrev S1x8x2048x1 : Shape := ⟨4, ![1, 8, 2048, 1]⟩
abbrev S1x8x2048x2057 : Shape := ⟨4, ![1, 8, 2048, 2057]⟩
abbrev S1x8x64x2048 : Shape := ⟨4, ![1, 8, 64, 2048]⟩
abbrev S1x1x8x64 : Shape := ⟨4, ![1, 1, 8, 64]⟩
abbrev S1x2048x512 : Shape := ⟨3, ![1, 2048, 512]⟩
abbrev S1x1x768 : Shape := ⟨3, ![1, 1, 768]⟩
abbrev S1x2048x3072 : Shape := ⟨3, ![1, 2048, 3072]⟩

abbrev nBuf : Space → Nat
  | .hbm => 190
  | .vmem => 0
  | .smem => 0
  | _ => 0

abbrev hbmTy0_0 (i : Nat) : BufTy := match i % 128 with
  | 0 => ⟨S2048x64, .f32⟩
  | 1 => ⟨S1x256, .i32⟩
  | 2 => ⟨S1x256, .i32⟩
  | 3 => ⟨S2048x512, .bf16⟩
  | 4 => ⟨S2048x512, .bf16⟩
  | 5 => ⟨S2048x512, .bf16⟩
  | 6 => ⟨S256x512, .bf16⟩
  | 7 => ⟨S256x512, .bf16⟩
  | 8 => ⟨S256x64, .f32⟩
  | 9 => ⟨S64x8, .bf16⟩
  | 10 => ⟨S8x64, .f32⟩
  | 11 => ⟨S2048x768, .f32⟩
  | 12 => ⟨S512x768, .f32⟩
  | 13 => ⟨S1x768, .f32⟩
  | 14 => ⟨S768x3072, .f32⟩
  | 15 => ⟨S3072x768, .f32⟩
  | 16 => ⟨S2048x512, .f32⟩
  | 17 => ⟨S1x2048x8x64, .f32⟩
  | 18 => ⟨S2048x512, .f32⟩
  | 19 => ⟨S1x2048x8x64, .f32⟩
  | 20 => ⟨S2048x512, .f32⟩
  | 21 => ⟨S1x2048x8x64, .f32⟩
  | 22 => ⟨S256x512, .f32⟩
  | 23 => ⟨S1x256x8x64, .f32⟩
  | 24 => ⟨S256x512, .f32⟩
  | 25 => ⟨S1x256x8x64, .f32⟩
  | 26 => ⟨S64x8, .f32⟩
  | 27 => ⟨S8x64, .f32⟩
  | 28 => ⟨S1x2048x768, .f32⟩
  | 29 => ⟨S1x2048x2x32, .f32⟩
  | 30 => ⟨S1x256x2x32, .f32⟩
  | 31 => ⟨S1x2048x256, .f32⟩
  | 32 => ⟨S2048, .i32⟩
  | 33 => ⟨S1x1x256, .i32⟩
  | 34 => ⟨S1x2048x1, .i32⟩
  | 35 => ⟨S1x2048x256, .i32⟩
  | 36 => ⟨S1x2048x256, .i32⟩
  | 37 => ⟨S1x2048x256, .i1⟩
  | 38 => ⟨S_, .i32⟩
  | 39 => ⟨S1x256, .i32⟩
  | 40 => ⟨S1x256, .i1⟩
  | 41 => ⟨S1x1x256, .i1⟩
  | 42 => ⟨S1x2048x256, .i1⟩
  | 43 => ⟨S1x2048x256, .i1⟩
  | 44 => ⟨S_, .f32⟩
  | 45 => ⟨S_, .f32⟩
  | 46 => ⟨S1x2048x256, .f32⟩
  | 47 => ⟨S1x2048x256, .f32⟩
  | 48 => ⟨S1x2048x8, .f32⟩
  | 49 => ⟨S1x2048x8, .i32⟩
  | 50 => ⟨S_, .i32⟩
  | 51 => ⟨S1x2048x8, .i32⟩
  | 52 => ⟨S1x2048x8, .i1⟩
  | 53 => ⟨S_, .i32⟩
  | 54 => ⟨S1x2048x8, .i32⟩
  | 55 => ⟨S1x2048x8, .i32⟩
  | 56 => ⟨S1x2048x8, .i32⟩
  | 57 => ⟨S1x2048x8x1, .i32⟩
  | 58 => ⟨S1x2048x8x8x64, .f32⟩
  | 59 => ⟨S_, .i32⟩
  | 60 => ⟨S1x2048x8, .i32⟩
  | 61 => ⟨S1x2048x8, .i1⟩
  | 62 => ⟨S_, .i32⟩
  | 63 => ⟨S1x2048x8, .i32⟩
  | 64 => ⟨S1x2048x8, .i32⟩
  | 65 => ⟨S1x2048x8, .i32⟩
  | 66 => ⟨S1x2048x8x1, .i32⟩
  | 67 => ⟨S1x2048x8x8x64, .f32⟩
  | 68 => ⟨S_, .i32⟩
  | 69 => ⟨S1x2048x8, .i32⟩
  | 70 => ⟨S1x2048x8, .i1⟩
  | 71 => ⟨S_, .i32⟩
  | 72 => ⟨S1x2048x8, .i32⟩
  | 73 => ⟨S1x2048x8, .i32⟩
  | 74 => ⟨S1x2048x8, .i32⟩
  | 75 => ⟨S2048x8x1, .i32⟩
  | 76 => ⟨S1, .i32⟩
  | 77 => ⟨S_, .i32⟩
  | 78 => ⟨S2048x8x1, .i32⟩
  | 79 => ⟨S2048x8x1, .i1⟩
  | 80 => ⟨S1x1x1, .i32⟩
  | 81 => ⟨S2048x8x1, .i32⟩
  | 82 => ⟨S2048x8x1, .i1⟩
  | 83 => ⟨S2048x8x1, .i1⟩
  | 84 => ⟨S_, .i1⟩
  | 85 => ⟨S2048x8, .i1⟩
  | 86 => ⟨S1x2048x8, .i1⟩
  | 87 => ⟨S1x2048x8, .i1⟩
  | 88 => ⟨S_, .i1⟩
  | 89 => ⟨S1x2048x8, .i1⟩
  | 90 => ⟨S1x2048x8, .i1⟩
  | 91 => ⟨S1x8x2048x8, .f32⟩
  | 92 => ⟨S1x1x2048x8, .i1⟩
  | 93 => ⟨S_, .f32⟩
  | 94 => ⟨S_, .f32⟩
  | 95 => ⟨S1x8x2048x8, .i1⟩
  | 96 => ⟨S1x8x2048x8, .f32⟩
  | 97 => ⟨S1x8x2048x8, .f32⟩
  | 98 => ⟨S1x8x2048x2048, .f32⟩
  | 99 => ⟨S2048x1, .i32⟩
  | 100 => ⟨S1x2048, .i32⟩
  | 101 => ⟨S2048x2048, .i32⟩
  | 102 => ⟨S2048x2048, .i32⟩
  | 103 => ⟨S2048x2048, .i32⟩
  | 104 => ⟨S_, .i32⟩
  | 105 => ⟨S2048x2048, .i32⟩
  | 106 => ⟨S2048x2048, .i1⟩
  | 107 => ⟨S_, .i32⟩
  | 108 => ⟨S2048x2048, .i32⟩
  | 109 => ⟨S2048x2048, .i1⟩
  | 110 => ⟨S2048x2048, .i1⟩
  | 111 => ⟨S1x1x2048x2048, .i1⟩
  | 112 => ⟨S_, .f32⟩
  | 113 => ⟨S_, .f32⟩
  | 114 => ⟨S1x8x2048x2048, .i1⟩
  | 115 => ⟨S1x8x2048x2048, .f32⟩
  | 116 => ⟨S1x8x2048x2048, .f32⟩
  | 117 => ⟨S8x1x2048, .f32⟩
  | 118 => ⟨S1x8x2048, .f32⟩
  | 119 => ⟨S1x8x2048x1, .f32⟩
  | 120 => ⟨S1x8x2048x2057, .f32⟩
  | 121 => ⟨S_, .f32⟩
  | 122 => ⟨S1x8x2048, .f32⟩
  | 123 => ⟨S_, .f32⟩
  | 124 => ⟨S1x8x2048, .f32⟩
  | 125 => ⟨S1x8x2048, .f32⟩
  | 126 => ⟨S1x8x2048x1, .f32⟩
  | 127 => ⟨S1x8x2048x2057, .f32⟩
  | _ => ⟨S2048x64, .f32⟩

abbrev hbmTy0_1 (i : Nat) : BufTy := match i % 128 with
  | 0 => ⟨S1x8x2048x2057, .f32⟩
  | 1 => ⟨S1x8x2048x2057, .f32⟩
  | 2 => ⟨S_, .f32⟩
  | 3 => ⟨S1x8x2048, .f32⟩
  | 4 => ⟨S1x8x2048x1, .f32⟩
  | 5 => ⟨S1x8x2048x2057, .f32⟩
  | 6 => ⟨S1x8x2048x2057, .f32⟩
  | 7 => ⟨S1x8x2048x2048, .f32⟩
  | 8 => ⟨S1x8x2048x8, .f32⟩
  | 9 => ⟨S1x8x2048x1, .f32⟩
  | 10 => ⟨S1x8x2048, .f32⟩
  | 11 => ⟨S1x8x64x2048, .f32⟩
  | 12 => ⟨S1x2048x8x64, .f32⟩
  | 13 => ⟨S1x2048x8x64, .f32⟩
  | 14 => ⟨S1x2048x8x64, .f32⟩
  | 15 => ⟨S1x2048x8, .f32⟩
  | 16 => ⟨S1x2048x8x1, .f32⟩
  | 17 => ⟨S1x1x8x64, .f32⟩
  | 18 => ⟨S1x2048x8x64, .f32⟩
  | 19 => ⟨S1x2048x8x64, .f32⟩
  | 20 => ⟨S1x2048x8x64, .f32⟩
  | 21 => ⟨S1x2048x8x64, .f32⟩
  | 22 => ⟨S1x2048x512, .f32⟩
  | 23 => ⟨S1x2048x768, .f32⟩
  | 24 => ⟨S1x2048x768, .f32⟩
  | 25 => ⟨S1x2048x768, .f32⟩
  | 26 => ⟨S_, .f32⟩
  | 27 => ⟨S1x2048, .f32⟩
  | 28 => ⟨S1x2048x1, .f32⟩
  | 29 => ⟨S_, .f32⟩
  | 30 => ⟨S1x2048x1, .f32⟩
  | 31 => ⟨S1x2048x1, .f32⟩
  | 32 => ⟨S_, .f32⟩
  | 33 => ⟨S1x2048x1, .f32⟩
  | 34 => ⟨S1x2048x1, .f32⟩
  | 35 => ⟨S1x2048x1, .f32⟩
  | 36 => ⟨S1x2048x768, .f32⟩
  | 37 => ⟨S1x2048x768, .f32⟩
  | 38 => ⟨S1x1x768, .f32⟩
  | 39 => ⟨S1x2048x768, .f32⟩
  | 40 => ⟨S1x2048x768, .f32⟩
  | 41 => ⟨S1x2048x3072, .f32⟩
  | 42 => ⟨S1x2048x3072, .f32⟩
  | 43 => ⟨S1x2048x3072, .f32⟩
  | 44 => ⟨S_, .f32⟩
  | 45 => ⟨S1x2048x3072, .f32⟩
  | 46 => ⟨S1x2048x3072, .f32⟩
  | 47 => ⟨S1x2048x3072, .f32⟩
  | 48 => ⟨S_, .f32⟩
  | 49 => ⟨S1x2048x3072, .f32⟩
  | 50 => ⟨S1x2048x3072, .f32⟩
  | 51 => ⟨S1x2048x3072, .f32⟩
  | 52 => ⟨S_, .f32⟩
  | 53 => ⟨S1x2048x3072, .f32⟩
  | 54 => ⟨S1x2048x3072, .f32⟩
  | 55 => ⟨S_, .f32⟩
  | 56 => ⟨S1x2048x3072, .f32⟩
  | 57 => ⟨S1x2048x3072, .f32⟩
  | 58 => ⟨S1x2048x3072, .f32⟩
  | 59 => ⟨S1x2048x768, .f32⟩
  | 60 => ⟨S1x2048x768, .f32⟩
  | 61 => ⟨S2048x768, .f32⟩
  | _ => ⟨S2048x64, .f32⟩

abbrev hbmTy (i : Nat) : BufTy := match i / 128 with
  | 0 => hbmTy0_0 i
  | 1 => hbmTy0_1 i
  | _ => ⟨S2048x64, .f32⟩

abbrev bufTy : (tb : Table) → Fin (tcTables nBuf tb) → BufTy
  | .hbm, ⟨i, _⟩ => hbmTy i
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst : Ref sig .tc := ⟨.hbm, 44, rfl⟩
abbrev main_call0_v0 : Ref sig .tc := ⟨.hbm, 45, rfl⟩
abbrev main_call0_v1 : Ref sig .tc := ⟨.hbm, 46, rfl⟩
abbrev main_v27 : Ref sig .tc := ⟨.hbm, 47, rfl⟩
abbrev main_values : Ref sig .tc := ⟨.hbm, 48, rfl⟩
abbrev main_indices : Ref sig .tc := ⟨.hbm, 49, rfl⟩
abbrev main_c_0 : Ref sig .tc := ⟨.hbm, 50, rfl⟩
abbrev main_v28 : Ref sig .tc := ⟨.hbm, 51, rfl⟩
abbrev main_v29 : Ref sig .tc := ⟨.hbm, 52, rfl⟩
abbrev main_c_1 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_2 : Ref sig .tc := ⟨.hbm, 59, rfl⟩
abbrev main_v35 : Ref sig .tc := ⟨.hbm, 60, rfl⟩
abbrev main_v36 : Ref sig .tc := ⟨.hbm, 61, rfl⟩
abbrev main_c_3 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_call1_c : Ref sig .tc := ⟨.hbm, 68, rfl⟩
abbrev main_call1_v0 : Ref sig .tc := ⟨.hbm, 69, rfl⟩
abbrev main_call1_v1 : Ref sig .tc := ⟨.hbm, 70, rfl⟩
abbrev main_call1_c_0 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_c_1 : Ref sig .tc := ⟨.hbm, 76, rfl⟩
abbrev main_call1_c_2 : Ref sig .tc := ⟨.hbm, 77, rfl⟩
abbrev main_call1_v6 : Ref sig .tc := ⟨.hbm, 78, rfl⟩
abbrev main_call1_v7 : Ref sig .tc := ⟨.hbm, 79, rfl⟩
abbrev main_call1_v8 : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_c_3 : Ref sig .tc := ⟨.hbm, 84, rfl⟩
abbrev main_call1_v12 : Ref sig .tc := ⟨.hbm, 85, rfl⟩
abbrev main_call1_v13 : Ref sig .tc := ⟨.hbm, 86, rfl⟩
abbrev main_call1_v14 : Ref sig .tc := ⟨.hbm, 87, rfl⟩
abbrev main_call1_c_4 : Ref sig .tc := ⟨.hbm, 88, rfl⟩
abbrev main_call1_v15 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_cst_4 : Ref sig .tc := ⟨.hbm, 93, rfl⟩
abbrev main_call2_v0 : Ref sig .tc := ⟨.hbm, 94, rfl⟩
abbrev main_call2_v1 : Ref sig .tc := ⟨.hbm, 95, rfl⟩
abbrev main_call2_v2 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_c_5 : Ref sig .tc := ⟨.hbm, 104, rfl⟩
abbrev main_v52 : Ref sig .tc := ⟨.hbm, 105, rfl⟩
abbrev main_v53 : Ref sig .tc := ⟨.hbm, 106, rfl⟩
abbrev main_c_6 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_cst_7 : Ref sig .tc := ⟨.hbm, 112, rfl⟩
abbrev main_call3_v0 : Ref sig .tc := ⟨.hbm, 113, rfl⟩
abbrev main_call3_v1 : Ref sig .tc := ⟨.hbm, 114, rfl⟩
abbrev main_call3_v2 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_cst_8 : Ref sig .tc := ⟨.hbm, 121, rfl⟩
abbrev main_v63 : Ref sig .tc := ⟨.hbm, 122, rfl⟩
abbrev main_cst_9 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_cst_10 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_cst_11 : Ref sig .tc := ⟨.hbm, 154, rfl⟩
abbrev main_v93 : Ref sig .tc := ⟨.hbm, 155, rfl⟩
abbrev main_v94 : Ref sig .tc := ⟨.hbm, 156, rfl⟩
abbrev main_cst_12 : Ref sig .tc := ⟨.hbm, 157, rfl⟩
abbrev main_v95 : Ref sig .tc := ⟨.hbm, 158, rfl⟩
abbrev main_v96 : Ref sig .tc := ⟨.hbm, 159, rfl⟩
abbrev main_cst_13 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_cst_14 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_cst_15 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_cst_16 : Ref sig .tc := ⟨.hbm, 180, rfl⟩
abbrev main_v114 : Ref sig .tc := ⟨.hbm, 181, rfl⟩
abbrev main_v115 : Ref sig .tc := ⟨.hbm, 182, rfl⟩
abbrev main_cst_17 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩

abbrev nD : Nat := 1
abbrev τ : Topo := Topo.v7x

variable {F : FTy → Type} [FloatOps F]
-- ==== Kernel1.lean ====
abbrev S2048x768 : Shape := ⟨2, ![2048, 768]⟩
abbrev S1x768 : Shape := ⟨2, ![1, 768]⟩
abbrev S768x256 : Shape := ⟨2, ![768, 256]⟩
abbrev S256x512 : Shape := ⟨2, ![256, 512]⟩
abbrev S768x512 : Shape := ⟨2, ![768, 512]⟩
abbrev S768x64 : Shape := ⟨2, ![768, 64]⟩
abbrev S256x16 : Shape := ⟨2, ![256, 16]⟩
abbrev S2048x512 : Shape := ⟨2, ![2048, 512]⟩
abbrev S2048x64 : Shape := ⟨2, ![2048, 64]⟩
abbrev S256x64 : Shape := ⟨2, ![256, 64]⟩
abbrev S256x768 : Shape := ⟨2, ![256, 768]⟩
abbrev S256 : Shape := ⟨1, ![256]⟩
abbrev S256x1 : Shape := ⟨2, ![256, 1]⟩
abbrev S256x256 : Shape := ⟨2, ![256, 256]⟩

abbrev nBuf : Space → Nat
  | .hbm => 16
  | .vmem => 26
  | .smem => 0
  | _ => 0

abbrev bufTy : (tb : Table) → Fin (tcTables nBuf tb) → BufTy
  | .hbm, ⟨0, _⟩ => ⟨S2048x768, .f32⟩
  | .hbm, ⟨1, _⟩ => ⟨S1x768, .f32⟩
  | .hbm, ⟨2, _⟩ => ⟨S768x256, .f32⟩
  | .hbm, ⟨3, _⟩ => ⟨S256x512, .f32⟩
  | .hbm, ⟨4, _⟩ => ⟨S768x512, .f32⟩
  | .hbm, ⟨5, _⟩ => ⟨S768x512, .f32⟩
  | .hbm, ⟨6, _⟩ => ⟨S768x64, .f32⟩
  | .hbm, ⟨7, _⟩ => ⟨S256x16, .i32⟩
  | .hbm, ⟨8, _⟩ => ⟨S768x64, .f32⟩
  | .hbm, ⟨9, _⟩ => ⟨S2048x512, .bf16⟩
  | .hbm, ⟨10, _⟩ => ⟨S2048x512, .bf16⟩
  | .hbm, ⟨11, _⟩ => ⟨S2048x512, .bf16⟩
  | .hbm, ⟨12, _⟩ => ⟨S2048x64, .f32⟩
  | .hbm, ⟨13, _⟩ => ⟨S256x512, .bf16⟩
  | .hbm, ⟨14, _⟩ => ⟨S256x512, .bf16⟩
  | .hbm, ⟨15, _⟩ => ⟨S256x64, .f32⟩
  | .local _ .vmem, ⟨0, _⟩ => ⟨S256x768, .f32⟩
  | .local _ .vmem, ⟨1, _⟩ => ⟨S256x768, .f32⟩
  | .local _ .vmem, ⟨2, _⟩ => ⟨S1x768, .f32⟩
  | .local _ .vmem, ⟨3, _⟩ => ⟨S768x256, .f32⟩
  | .local _ .vmem, ⟨4, _⟩ => ⟨S256x512, .f32⟩
  | .local _ .vmem, ⟨5, _⟩ => ⟨S768x512, .f32⟩
  | .local _ .vmem, ⟨6, _⟩ => ⟨S768x512, .f32⟩
  | .local _ .vmem, ⟨7, _⟩ => ⟨S768x64, .f32⟩
  | .local _ .vmem, ⟨8, _⟩ => ⟨S256x16, .i32⟩
  | .local _ .vmem, ⟨9, _⟩ => ⟨S768x64, .f32⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x64, .f32⟩
  | .local _ .vmem, ⟨17, _⟩ => ⟨S256x64, .f32⟩
  | .local _ .vmem, ⟨18, _⟩ => ⟨S256x512, .bf16⟩
  | .local _ .vmem, ⟨19, _⟩ => ⟨S256x512, .bf16⟩
  | .local _ .vmem, ⟨20, _⟩ => ⟨S256x64, .f32⟩
  | .local _ .vmem, ⟨21, _⟩ => ⟨S768x256, .bf16⟩
  | .local _ .vmem, ⟨22, _⟩ => ⟨S256x512, .bf16⟩
  | .local _ .vmem, ⟨23, _⟩ => ⟨S768x512, .bf16⟩
  | .local _ .vmem, ⟨24, _⟩ => ⟨S768x512, .bf16⟩
  | .local _ .vmem, ⟨25, _⟩ => ⟨S256x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem14_0 : DmaSem sig := 19
abbrev cc0_sem15_0 : DmaSem sig := 20

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v147 : BitVec 1 := Scalar.cmpi .eq arg0 c7_i32
  let v148 : BitVec 32 := Scalar.extui v147
  let c0_i32_38 : BitVec 32 := 0#32
  let v149 : BitVec 1 := Scalar.cmpi .ne v148 c0_i32_38
  v149

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x16 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S768x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S256x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference1Ideal.lean ====
abbrev S2048x768 : Shape := ⟨2, ![2048, 768]⟩
abbrev S1x768 : Shape := ⟨2, ![1, 768]⟩
abbrev S768x256 : Shape := ⟨2, ![768, 256]⟩
abbrev S256x512 : Shape := ⟨2, ![256, 512]⟩
abbrev S768x512 : Shape := ⟨2, ![768, 512]⟩
abbrev S768x64 : Shape := ⟨2, ![768, 64]⟩
abbrev S256x16 : Shape := ⟨2, ![256, 16]⟩
abbrev S_ : Shape := ⟨0, ![]⟩
abbrev S2048 : Shape := ⟨1, ![2048]⟩
abbrev S2048x1 : Shape := ⟨2, ![2048, 1]⟩
abbrev S2048x256 : Shape := ⟨2, ![2048, 256]⟩
abbrev S2048x512 : Shape := ⟨2, ![2048, 512]⟩
abbrev S2048x64 : Shape := ⟨2, ![2048, 64]⟩
abbrev S256x16x1 : Shape := ⟨3, ![256, 16, 1]⟩
abbrev S256x16x768 : Shape := ⟨3, ![256, 16, 768]⟩
abbrev S256x768 : Shape := ⟨2, ![256, 768]⟩
abbrev S256x64 : Shape := ⟨2, ![256, 64]⟩

abbrev nBuf : Space → Nat
  | .hbm => 54
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S1x768, .f32⟩
  | .hbm, ⟨2, _⟩ => ⟨S768x256, .f32⟩
  | .hbm, ⟨3, _⟩ => ⟨S256x512, .f32⟩
  | .hbm, ⟨4, _⟩ => ⟨S768x512, .f32⟩
  | .hbm, ⟨5, _⟩ => ⟨S768x512, .f32⟩
  | .hbm, ⟨6, _⟩ => ⟨S768x64, .f32⟩
  | .hbm, ⟨7, _⟩ => ⟨S256x16, .i32⟩
  | .hbm, ⟨8, _⟩ => ⟨S768x64, .f32⟩
  | .hbm, ⟨9, _⟩ => ⟨S2048x768, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x768, .f32⟩
  | .hbm, ⟨21, _⟩ => ⟨S2048x768, .f32⟩
  | .hbm, ⟨22, _⟩ => ⟨S2048x768, .f32⟩
  | .hbm, ⟨23, _⟩ => ⟨S2048x768, .f32⟩
  | .hbm, ⟨24, _⟩ => ⟨S2048x256, .f32⟩
  | .hbm, ⟨25, _⟩ => ⟨S2048x512, .f32⟩
  | .hbm, ⟨26, _⟩ => ⟨S_, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S2048x512, .f32⟩
  | .hbm, ⟨31, _⟩ => ⟨S2048x64, .f32⟩
  | .hbm, ⟨32, _⟩ => ⟨S_, .i32⟩
  | .hbm, ⟨33, _⟩ => ⟨S256x16, .i32⟩
  | .hbm, ⟨34, _⟩ => ⟨S256x16, .i1⟩
  | .hbm, ⟨35, _⟩ => ⟨S_, .i32⟩
  | .hbm, ⟨36, _⟩ => ⟨S256x16, .i32⟩
  | .hbm, ⟨37, _⟩ => ⟨S256x16, .i32⟩
  | .hbm, ⟨38, _⟩ => ⟨S256x16, .i32⟩
  | .hbm, ⟨39, _⟩ => ⟨S256x16x1, .i32⟩
  | .hbm, ⟨40, _⟩ => ⟨S256x16x768, .f32⟩
  | .hbm, ⟨41, _⟩ => ⟨S_, .f32⟩
  | .hbm, ⟨42, _⟩ => ⟨S256x768, .f32⟩
  | .hbm, ⟨43, _⟩ => ⟨S_, .f32⟩
  | .hbm, ⟨44, _⟩ => ⟨S256x768, .f32⟩
  | .hbm, ⟨45, _⟩ => ⟨S256x768, .f32⟩
  | .hbm, ⟨46, _⟩ => ⟨S256x512, .f32⟩
  | .hbm, ⟨47, _⟩ => ⟨S256x512, .f32⟩
  | .hbm, ⟨48, _⟩ => ⟨S256x64, .f32⟩
  | .hbm, ⟨49, _⟩ => ⟨S2048x512, .bf16⟩
  | .hbm, ⟨50, _⟩ => ⟨S2048x512, .bf16⟩
  | .hbm, ⟨51, _⟩ => ⟨S2048x512, .bf16⟩
  | .hbm, ⟨52, _⟩ => ⟨S256x512, .bf16⟩
  | .hbm, ⟨53, _⟩ => ⟨S256x512, .bf16⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]
-- ==== Proof.Select.lean ====
module

public import Mathlib.Data.EReal.Operations
public import Mathlib.Data.Fintype.BigOperators
public import Mathlib.Algebra.BigOperators.Fin

/-! Choosing the eight largest of the allowed scores: by removing the largest value again and again, or by
    sorting. Both choose the same positions when the allowed scores differ from each other. -/

@[expose] public section

noncomputable section

namespace Cert.Select

variable {n : ℕ}

/-- The largest entry. -/
def top (x : Fin n → EReal) : EReal := Finset.univ.fold max ⊥ x

theorem le_top (x : Fin n → EReal) (p : Fin n) : x p ≤ top x := by
  unfold top
  rw [Finset.le_fold_max]
  exact Or.inr ⟨p, Finset.mem_univ _, le_rfl⟩

theorem top_le (x : Fin n → EReal) (b : EReal) (h : ∀ p, x p ≤ b) : top x ≤ b := by
  unfold top
  rw [Finset.fold_max_le]
  exact ⟨bot_le, fun p _ => h p⟩

/-- One round: the entries that reach the largest one are removed. -/
def drop (x : Fin n → EReal) : Fin n → EReal := fun p => if top x ≤ x p then ⊥ else x p

/-- How many entries are larger than that at `p`. -/
def rank (x : Fin n → EReal) (p : Fin n) : ℕ := (Finset.univ.filter fun p' => x p < x p').card

/-- Scores of which the allowed ones differ from each other and from the bottom, and the others are the bottom. -/
structure Separate (a : Fin n → Prop) (x : Fin n → EReal) : Prop where
  off : ∀ p, ¬ a p → x p = ⊥
  on : ∀ p, a p → ⊥ < x p
  inj : ∀ p p', a p → a p' → x p = x p' → p = p'

theorem rank_lt {x : Fin n → EReal} {p p' : Fin n} (h : x p < x p') : rank x p' < rank x p := by
  unfold rank
  apply Finset.card_lt_card
  rw [Finset.ssubset_iff_of_subset]
  · exact ⟨p', by simp [h], by simp⟩
  · intro q; simp only [Finset.mem_filter, Finset.mem_univ, true_and]
    exact fun hq => h.trans hq

/-- What is left after `j` rounds. -/
theorem iter_drop {a : Fin n → Prop} {x : Fin n → EReal} (hs : Separate a x) (j : ℕ) (p : Fin n) :
    (drop^[j] x) p = if rank x p < j then ⊥ else x p := by
  induction j generalizing p with
  | zero => simp
  | succ j ih =>
    rw [Function.iterate_succ', Function.comp_apply]
    by_cases hp : a p
    swap
    · have hb : x p = ⊥ := hs.off p hp
      have : (drop^[j] x) p = ⊥ := by rw [ih, hb]; simp
      simp [drop, this, hb]
    by_cases hr : rank x p < j
    · have : (drop^[j] x) p = ⊥ := by rw [ih, if_pos hr]
      rw [if_pos (by omega)]; simp [drop, this]
    have hx : (drop^[j] x) p = x p := by rw [ih, if_neg hr]
    by_cases he : rank x p = j
    · have : top (drop^[j] x) ≤ x p := by
        apply top_le
        intro q
        rw [ih]
        split_ifs with hq
        · exact bot_le
        · by_contra hlt
          rw [not_le] at hlt
          have := rank_lt hlt
          omega
      rw [if_pos (by omega)]
      simp only [drop, hx, if_pos this]
    · have hgt : j < rank x p := by omega
      rw [if_neg (by omega)]
      have hne : (Finset.univ.filter fun p' => x p < x p').Nonempty := by
        rw [← Finset.card_pos]; unfold rank at hgt; omega
      obtain ⟨q, hq, hmin⟩ := Finset.exists_min_image _ x hne
      simp only [Finset.mem_filter, Finset.mem_univ, true_and] at hq hmin
      have hqa : a q := by
        by_contra h
        rw [hs.off q h] at hq
        exact absurd hq not_lt_bot
      have hcard : rank x p = rank x q + 1 := by
        unfold rank
        rw [← Finset.card_erase_add_one (s := Finset.univ.filter fun p' => x p < x p') (a := q) (by simp [hq])]
        congr 2
        ext r
        simp only [Finset.mem_erase, Finset.mem_filter, Finset.mem_univ, true_and]
        constructor
        · rintro ⟨h1, h2⟩
          refine lt_of_le_of_ne (hmin r h2) fun h => h1 ?_
          refine hs.inj r q ?_ hqa h.symm
          by_contra hr'
          rw [hs.off r hr'] at h2
          exact absurd h2 not_lt_bot
        · intro h
          exact ⟨fun e => by rw [e] at h; exact lt_irrefl _ h, hq.trans h⟩
      have : ¬ top (drop^[j] x) ≤ x p := by
        rw [not_le]
        refine lt_of_lt_of_le hq ?_
        have := le_top (drop^[j] x) q
        rwa [ih q, if_neg (by omega)] at this
      simp only [drop, hx, if_neg this]

/-- The score that `j + 1` rounds of removal stop at separates the `j + 1` best. -/
theorem thr_iff {a : Fin n → Prop} {x : Fin n → EReal} (hs : Separate a x) (j : ℕ) (p : Fin n) (hp : a p) :
    top (drop^[j] x) ≤ x p ↔ rank x p < j + 1 := by
  have h1 := iter_drop hs (j + 1) p
  rw [Function.iterate_succ', Function.comp_apply] at h1
  have h0 := iter_drop hs j p
  have hb := hs.on p hp
  constructor
  · intro h
    by_contra hr
    rw [if_neg hr] at h1
    rw [if_neg (by omega)] at h0
    simp only [drop, h0, if_pos h] at h1
    rw [← h1] at hb
    exact lt_irrefl _ hb
  · intro hr
    by_cases hj : rank x p < j
    · refine le_trans (top_le _ (x p) fun q => ?_) le_rfl
      rw [iter_drop hs j q]
      split_ifs with hq
      · exact bot_le
      · by_contra hlt
        rw [not_le] at hlt
        have := rank_lt hlt
        omega
    · rw [if_neg hj] at h0
      rw [if_pos hr] at h1
      simp only [drop, h0] at h1
      by_contra hn
      rw [if_neg hn] at h1
      rw [h1] at hb
      exact lt_irrefl _ hb

/-- In a sorted order an allowed position stands where its rank says. -/
theorem rank_sorted {a : Fin n → Prop} {x : Fin n → EReal} (hs : Separate a x) (σ : Fin n ≃ Fin n)
    (hσ : ∀ i j, i ≤ j → x (σ j) ≤ x (σ i)) (i : Fin n) (hi : a (σ i)) : rank x (σ i) = i.val := by
  unfold rank
  rw [← Finset.card_map σ.symm.toEmbedding]
  have : (Finset.univ.filter fun p' => x (σ i) < x p').map σ.symm.toEmbedding = Finset.Iio i := by
    ext k
    simp only [Finset.mem_map_equiv, Equiv.symm_symm, Finset.mem_filter, Finset.mem_univ, true_and, Finset.mem_Iio]
    constructor
    · intro h
      by_contra hk
      exact absurd h (not_lt.mpr (hσ i k (not_lt.mp hk)))
    · intro h
      refine lt_of_le_of_ne (hσ k i h.le) fun e => ?_
      have hk : a (σ k) := by
        by_contra hk
        have := hs.on _ hi
        rw [e, hs.off _ hk] at this
        exact lt_irrefl _ this
      have := hs.inj _ _ hi hk e
      exact absurd (σ.injective this) (ne_of_gt h)
  rw [this, Fin.card_Iio]

/-- A sum over the selected positions is the sum over the first `k` of the sorted order. -/
theorem sum_select {a : Fin n → Prop} [DecidablePred a] {x : Fin n → EReal} (hs : Separate a x) (σ : Fin n ≃ Fin n)
    (hσ : ∀ i j, i ≤ j → x (σ j) ≤ x (σ i)) (k : ℕ) (hk : k + 1 ≤ n) (F : Fin n → EReal)
    [DecidablePred fun p => a p ∧ top (drop^[k] x) ≤ x p] :
    (∑ p, if a p ∧ top (drop^[k] x) ≤ x p then F p else 0)
      = ∑ i : Fin (k + 1), if a (σ (Fin.castLE hk i)) then F (σ (Fin.castLE hk i)) else 0 := by
  rw [← Equiv.sum_comp σ]
  have h1 : ∀ i : Fin n, (if a (σ i) ∧ top (drop^[k] x) ≤ x (σ i) then F (σ i) else 0)
      = if i.val < k + 1 then (if a (σ i) then F (σ i) else 0) else 0 := by
    intro i
    by_cases hi : a (σ i)
    · have := thr_iff hs k (σ i) hi
      rw [rank_sorted hs σ hσ i hi] at this
      simp only [hi, true_and, this, if_true]
    · simp [hi]
  rw [Finset.sum_congr rfl fun i _ => h1 i]
  rw [← Finset.sum_filter]
  refine (Finset.sum_bij (fun (i : Fin (k + 1)) _ => Fin.castLE hk i) ?_ ?_ ?_ ?_).symm
  · intro i _; simp
  · intro i _ j _ h; exact Fin.castLE_injective hk h
  · intro b hb
    simp only [Finset.mem_filter, Finset.mem_univ, true_and] at hb
    exact ⟨⟨b.val, hb⟩, Finset.mem_univ _, Fin.ext rfl⟩
  · intro i _; rfl

/-- The same for the largest value. -/
theorem top_select {a : Fin n → Prop} [DecidablePred a] {x : Fin n → EReal} (hs : Separate a x) (σ : Fin n ≃ Fin n)
    (hσ : ∀ i j, i ≤ j → x (σ j) ≤ x (σ i)) (k : ℕ) (hk : k + 1 ≤ n) (F : Fin n → EReal)
    [DecidablePred fun p => a p ∧ top (drop^[k] x) ≤ x p] :
    top (fun p => if a p ∧ top (drop^[k] x) ≤ x p then F p else ⊥)
      = top (fun i : Fin (k + 1) => if a (σ (Fin.castLE hk i)) then F (σ (Fin.castLE hk i)) else ⊥) := by
  apply le_antisymm
  · apply top_le
    intro p
    split_ifs with h
    · obtain ⟨i, rfl⟩ := σ.surjective p
      have := (thr_iff hs k (σ i) h.1).mp h.2
      rw [rank_sorted hs σ hσ i h.1] at this
      have h2 := le_top (fun i : Fin (k + 1) => if a (σ (Fin.castLE hk i)) then F (σ (Fin.castLE hk i)) else ⊥) ⟨i.val, this⟩
      have e : Fin.castLE hk ⟨i.val, this⟩ = i := Fin.ext rfl
      simp only [e, h.1, if_true] at h2
      exact h2
    · exact bot_le
  · apply top_le
    intro i
    split_ifs with h
    · have h1 : top (drop^[k] x) ≤ x (σ (Fin.castLE hk i)) := by
        rw [thr_iff hs k _ h, rank_sorted hs σ hσ _ h]
        exact i.isLt
      have h2 := le_top (fun p => if a p ∧ top (drop^[k] x) ≤ x p then F p else ⊥) (σ (Fin.castLE hk i))
      simp only [h, h1, and_self, if_true] at h2
      exact h2
    · exact bot_le

end Cert.Select

end
-- ==== Proof.Attend.lean ====
module

public import proofs.«01_k».proof.Proof.Select
public import Idealize.ShloMosaic.PureOps.Ideal

/-! One softmax over three groups of logits (a window of tokens, a set of phrases, a sink), and its weighted sum. -/

@[expose] public section

noncomputable section

namespace Cert.Attend

open Cert.Select Idealize.ShloMosaic

theorem sub_exp_bot (M : EReal) : Ideal.exp (⊥ - M) = 0 := by
  have : (⊥ : EReal) - M = ⊥ := by rw [sub_eq_add_neg, EReal.bot_add]
  rw [this]; rfl

theorem exp_nonneg (x : EReal) : 0 ≤ Ideal.exp x := by
  induction x with
  | bot => exact le_rfl
  | top => exact le_top
  | coe r => exact EReal.coe_nonneg.mpr (Real.exp_pos r).le

theorem exp_self {M : EReal} (h1 : M ≠ ⊥) (h2 : M ≠ ⊤) : Ideal.exp (M - M) = 1 := by
  rw [EReal.sub_self h2 h1]
  show ((Real.exp 0 : ℝ) : EReal) = 1
  rw [Real.exp_zero]; rfl

theorem sum_mul_of_nonneg {ι : Type} (s : Finset ι) (f : ι → EReal) {c : EReal} (h0 : 0 ≤ c) (h1 : c ≠ ⊤) :
    (∑ i ∈ s, f i) * c = ∑ i ∈ s, f i * c := by
  classical
  induction s using Finset.induction_on with
  | empty => simp
  | insert i s hi ih =>
    rw [Finset.sum_insert hi, Finset.sum_insert hi, ← ih]
    exact EReal.right_distrib_of_nonneg_of_ne_top h0 h1 _ _

theorem top_attained {n : ℕ} (x : Fin n → EReal) : top x = ⊥ ∨ ∃ p, x p = top x := by
  have h : top x ≤ Finset.univ.fold max ⊥ x := le_rfl
  rw [Finset.le_fold_max] at h
  rcases h with h | ⟨p, _, h⟩
  · exact Or.inl (le_bot_iff.mp h)
  · exact Or.inr ⟨p, le_antisymm (le_top x p) h⟩

theorem top_ne_top {n : ℕ} {x : Fin n → EReal} (h : ∀ p, x p ≠ ⊤) : top x ≠ ⊤ := by
  rcases top_attained x with e | ⟨p, e⟩
  · rw [e]; exact bot_ne_top
  · rw [← e]; exact h p

variable {a b : ℕ}

/-- The largest logit of the three groups. -/
def peak (lw : Fin a → EReal) (lp : Fin b → EReal) (ls : EReal) : EReal := max (top lw) (max (top lp) ls)

/-- The sum of the exponentials. -/
def mass (lw : Fin a → EReal) (lp : Fin b → EReal) (ls : EReal) : EReal :=
  (∑ t, Ideal.exp (lw t - peak lw lp ls)) + (∑ p, Ideal.exp (lp p - peak lw lp ls)) + Ideal.exp (ls - peak lw lp ls)

/-- The weighted sum, divided at the end. -/
def att (lw : Fin a → EReal) (lp : Fin b → EReal) (ls : EReal) (vw : Fin a → EReal) (vp : Fin b → EReal)
    (vs : EReal) : EReal :=
  ((∑ t, Ideal.exp (lw t - peak lw lp ls) * vw t) + (∑ p, Ideal.exp (lp p - peak lw lp ls) * vp p)
    + Ideal.exp (ls - peak lw lp ls) * vs) * Ideal.div 1 (mass lw lp ls)

theorem mass_pos (lw : Fin a → EReal) (lp : Fin b → EReal) (ls : EReal) (hw : ∀ t, lw t ≠ ⊤) (hp : ∀ p, lp p ≠ ⊤)
    (hs : ls ≠ ⊤) (hs' : ls ≠ ⊥) : 0 < mass lw lp ls := by
  have n1 : 0 ≤ ∑ t, Ideal.exp (lw t - peak lw lp ls) := Finset.sum_nonneg fun _ _ => exp_nonneg _
  have n2 : 0 ≤ ∑ p, Ideal.exp (lp p - peak lw lp ls) := Finset.sum_nonneg fun _ _ => exp_nonneg _
  have n3 : 0 ≤ Ideal.exp (ls - peak lw lp ls) := exp_nonneg _
  have hlb : peak lw lp ls ≠ ⊥ := by
    intro h
    have : ls ≤ peak lw lp ls := le_max_of_le_right (le_max_right _ _)
    rw [h, le_bot_iff] at this
    exact hs' this
  have hlt : peak lw lp ls ≠ ⊤ := by
    unfold peak
    rcases max_choice (top lw) (max (top lp) ls) with e | e <;> rw [e]
    · exact top_ne_top hw
    · rcases max_choice (top lp) ls with e | e <;> rw [e]
      · exact top_ne_top hp
      · exact hs
  have one := exp_self hlb hlt
  have hor : 1 ≤ ∑ t, Ideal.exp (lw t - peak lw lp ls) ∨ 1 ≤ ∑ p, Ideal.exp (lp p - peak lw lp ls)
      ∨ 1 ≤ Ideal.exp (ls - peak lw lp ls) := by
    rcases max_choice (top lw) (max (top lp) ls) with e | e
    · rcases top_attained lw with h | ⟨t, h⟩
      · exact absurd (show peak lw lp ls = ⊥ by unfold peak; rw [e, h]) hlb
      · left
        have hpk : lw t = peak lw lp ls := by unfold peak; rw [e, h]
        refine le_trans (le_of_eq ?_)
          (Finset.single_le_sum (f := fun t => Ideal.exp (lw t - peak lw lp ls)) (fun i _ => exp_nonneg _) (Finset.mem_univ t))
        simp only [hpk, one]
    · rcases max_choice (top lp) ls with e' | e'
      · rcases top_attained lp with h | ⟨t, h⟩
        · exact absurd (show peak lw lp ls = ⊥ by unfold peak; rw [e, e', h]) hlb
        · right; left
          have hpk : lp t = peak lw lp ls := by unfold peak; rw [e, e', h]
          refine le_trans (le_of_eq ?_)
            (Finset.single_le_sum (f := fun t => Ideal.exp (lp t - peak lw lp ls)) (fun i _ => exp_nonneg _) (Finset.mem_univ t))
          simp only [hpk, one]
      · right; right
        have hpk : ls = peak lw lp ls := by unfold peak; rw [e, e']
        rw [← hpk] at one ⊢
        exact one.ge
  have h01 : (0 : EReal) < 1 := zero_lt_one
  unfold mass
  refine lt_of_lt_of_le h01 ?_
  rcases hor with h | h | h
  · exact h.trans (le_add_of_le_of_nonneg (le_add_of_nonneg_right n2) n3)
  · exact h.trans (le_add_of_le_of_nonneg (le_add_of_nonneg_left n1) n3)
  · exact h.trans (le_add_of_nonneg_left (add_nonneg n1 n2))

/-- Dividing at the end or each weight by itself is the same. -/
theorem att_eq (lw : Fin a → EReal) (lp : Fin b → EReal) (ls : EReal) (vw : Fin a → EReal) (vp : Fin b → EReal)
    (vs : EReal) (hw : ∀ t, lw t ≠ ⊤) (hp : ∀ p, lp p ≠ ⊤) (hs : ls ≠ ⊤) (hs' : ls ≠ ⊥) :
    att lw lp ls vw vp vs
      = (∑ t, Ideal.div (Ideal.exp (lw t - peak lw lp ls)) (mass lw lp ls) * vw t)
        + (∑ p, Ideal.div (Ideal.exp (lp p - peak lw lp ls)) (mass lw lp ls) * vp p)
        + Ideal.div (Ideal.exp (ls - peak lw lp ls)) (mass lw lp ls) * vs := by
  have hZ := mass_pos lw lp ls hw hp hs hs'
  unfold att
  generalize mass lw lp ls = Z at hZ
  generalize peak lw lp ls = M
  have hne : Z ≠ 0 := ne_of_gt hZ
  have hdiv : ∀ x, Ideal.div x Z = x * Z⁻¹ := fun x => by unfold Ideal.div; rw [if_neg hne]
  have h0 : 0 ≤ Z⁻¹ := EReal.inv_nonneg_of_nonneg hZ.le
  have h1 : Z⁻¹ ≠ ⊤ := by
    induction Z with
    | bot => simp
    | top => simp
    | coe r => rw [← EReal.coe_inv]; exact EReal.coe_ne_top _
  simp only [hdiv, one_mul]
  rw [EReal.right_distrib_of_nonneg_of_ne_top h0 h1, EReal.right_distrib_of_nonneg_of_ne_top h0 h1,
    sum_mul_of_nonneg _ _ h0 h1, sum_mul_of_nonneg _ _ h0 h1]
  refine congrArg₂ _ (congrArg₂ _ (Finset.sum_congr rfl fun _ _ => ?_) (Finset.sum_congr rfl fun _ _ => ?_)) ?_ <;>
    exact mul_right_comm _ _ _

/-- The phrases selected by their scores, or by their places in the sorted order. -/
theorem att_select {n : ℕ} {al : Fin n → Prop} [DecidablePred al] {x : Fin n → EReal} (hs : Separate al x)
    (σ : Fin n ≃ Fin n) (hσ : ∀ i j, i ≤ j → x (σ j) ≤ x (σ i)) (k : ℕ) (hk : k + 1 ≤ n) (F : Fin n → EReal)
    [DecidablePred fun p => al p ∧ top (drop^[k] x) ≤ x p]
    (lw : Fin a → EReal) (ls : EReal) (vw : Fin a → EReal) (vp : Fin n → EReal) (vs : EReal) :
    att lw (fun p => if al p ∧ top (drop^[k] x) ≤ x p then F p else ⊥) ls vw vp vs
      = att lw (fun i : Fin (k + 1) => if al (σ (Fin.castLE hk i)) then F (σ (Fin.castLE hk i)) else ⊥) ls vw
          (fun i => vp (σ (Fin.castLE hk i))) vs := by
  have hpk : peak lw (fun p => if al p ∧ top (drop^[k] x) ≤ x p then F p else ⊥) ls
      = peak lw (fun i : Fin (k + 1) => if al (σ (Fin.castLE hk i)) then F (σ (Fin.castLE hk i)) else ⊥) ls := by
    unfold peak
    rw [top_select hs σ hσ k hk F]
  unfold att mass
  rw [hpk]
  generalize peak lw (fun i : Fin (k + 1) => if al (σ (Fin.castLE hk i)) then F (σ (Fin.castLE hk i)) else ⊥) ls = M
  have e1 := sum_select hs σ hσ k hk (fun p => Ideal.exp (F p - M))
  have e2 := sum_select hs σ hσ k hk (fun p => Ideal.exp (F p - M) * vp p)
  have f1 : ∀ (P : Prop) [Decidable P] (y : EReal), Ideal.exp ((if P then y else ⊥) - M) = if P then Ideal.exp (y - M) else 0 := by
    intro P _ y
    split_ifs
    · rfl
    · exact sub_exp_bot M
  have f2 : ∀ (P : Prop) [Decidable P] (y v : EReal), (if P then y else 0) * v = if P then y * v else 0 := by
    intro P _ y v
    split_ifs
    · rfl
    · exact zero_mul v
  simp only [f1, f2]
  rw [e1, e2]

/-- Logits that are the bottom may be left out, and the others renumbered. -/
theorem att_reindex {c : ℕ} (e : Fin c → Fin a) (B : Fin c → Prop) (lw' : Fin c → EReal) (vw' : Fin c → EReal)
    (lw : Fin a → EReal) (vw : Fin a → EReal) (lp : Fin b → EReal) (ls : EReal) (vp : Fin b → EReal) (vs : EReal)
    (hinj : ∀ i j, B i → B j → e i = e j → i = j) (hin : ∀ i, B i → lw' i = lw (e i))
    (hv : ∀ i, B i → vw' i = vw (e i)) (hoff : ∀ i, ¬ B i → lw' i = ⊥)
    (hout : ∀ t, (∀ i, B i → e i ≠ t) → lw t = ⊥) :
    att lw' lp ls vw' vp vs = att lw lp ls vw vp vs := by
  have hpk : peak lw' lp ls = peak lw lp ls := by
    unfold peak
    congr 1
    apply le_antisymm
    · apply top_le
      intro i
      by_cases hi : B i
      · rw [hin i hi]; exact le_top lw _
      · rw [hoff i hi]; exact bot_le
    · apply top_le
      intro t
      by_cases ht : ∃ i, B i ∧ e i = t
      · obtain ⟨i, hi, rfl⟩ := ht
        rw [← hin i hi]; exact le_top lw' _
      · rw [hout t fun i hi h => ht ⟨i, hi, h⟩]; exact bot_le
  have key : ∀ (f : EReal → EReal → EReal), (∀ v, f ⊥ v = 0) → ∑ i, f (lw' i) (vw' i) = ∑ t, f (lw t) (vw t) := by
    intro f hf
    refine Finset.sum_bij_ne_zero (fun i _ _ => e i) (fun _ _ _ => Finset.mem_univ _) ?_ ?_ ?_
    · intro i _ hi j _ hj h
      refine hinj i j ?_ ?_ h
      · by_contra hB; exact hi (by rw [hoff i hB, hf])
      · by_contra hB; exact hj (by rw [hoff j hB, hf])
    · intro t _ ht
      by_cases hex : ∃ i, B i ∧ e i = t
      · obtain ⟨i, hi, rfl⟩ := hex
        exact ⟨i, Finset.mem_univ _, by rw [hin i hi, hv i hi]; exact ht, rfl⟩
      · exact absurd (by rw [hout t fun i hi h => hex ⟨i, hi, h⟩, hf]) ht
    · intro i _ hi
      have hB : B i := by by_contra hB; exact hi (by rw [hoff i hB, hf])
      rw [hin i hB, hv i hB]
  unfold att mass
  rw [hpk]
  rw [key (fun l v => Ideal.exp (l - peak lw lp ls) * v) (fun v => by rw [sub_exp_bot, zero_mul]),
    key (fun l _ => Ideal.exp (l - peak lw lp ls)) (fun v => by rw [sub_exp_bot])]

end Cert.Attend

end
-- ==== Proof.Spec.lean ====
module

public import proofs.«01_k».proof.Proof.Attend

/-! What both programs compute, over plain functions of the indices: one row at a time. -/

@[expose] public section

noncomputable section

open Idealize.ShloMosaic

namespace Cert.Spec

open Cert.Select Cert.Attend

/-- Lane `d` of head `h` in a row of 512 lanes. -/
def lane (h : Fin 8) (d : Fin 64) : Fin 512 := ⟨64 * h.val + d.val, by omega⟩

theorem lane_surj (j : Fin 512) : ∃ h d, j = lane h d :=
  ⟨⟨j.val / 64, by omega⟩, ⟨j.val % 64, Nat.mod_lt _ (by decide)⟩, Fin.ext (by simp only [lane]; omega)⟩

/-- A sum over the 512 lanes, head by head. -/
theorem sum_lane (f : Fin 512 → EReal) : ∑ j, f j = ∑ h : Fin 8, ∑ d : Fin 64, f (lane h d) := by
  rw [← Fintype.sum_prod_type' (f := fun h d => f (lane h d))]
  symm
  refine Finset.sum_bij (fun p _ => lane p.1 p.2) (fun _ _ => Finset.mem_univ _) ?_ ?_ fun _ _ => rfl
  · rintro ⟨h, d⟩ - ⟨h', d'⟩ - e
    have e := congrArg Fin.val e
    simp only [lane] at e
    exact Prod.ext (Fin.ext (by simp only; omega)) (Fin.ext (by simp only; omega))
  · intro j _
    obtain ⟨h, d, rfl⟩ := lane_surj j
    exact ⟨(h, d), by simp, rfl⟩

/-- The row after attention. -/
def yrow (ctx : Fin 8 → Fin 64 → EReal) (x : Fin 768 → EReal) (wo : Fin 512 → Fin 768 → EReal) (c : Fin 768) : EReal :=
  x c + ∑ h : Fin 8, ∑ d : Fin 64, ctx h d * wo (lane h d) c

/-- The normalised row. -/
def nrow (y : Fin 768 → EReal) (nw : Fin 768 → EReal) (c : Fin 768) : EReal :=
  y c * Ideal.rsqrt (Ideal.div (∑ c', y c' * y c') (Ideal.ofBits .f32 0x44400000#32) + Ideal.ofBits .f32 0x358637BD#32) * nw c

/-- The activation. -/
def act (u : EReal) : EReal :=
  u * (Ideal.ofBits .f32 0x3F000000#32
    * (1 + Ideal.tanh (Ideal.ofBits .f32 0x3F4C422A#32 * (u + Ideal.ofBits .f32 0x3D372713#32 * (u * (u * u))))))

/-- The row's result. -/
def mlp (y : Fin 768 → EReal) (nw : Fin 768 → EReal) (w1 : Fin 768 → Fin 3072 → EReal) (w2 : Fin 3072 → Fin 768 → EReal)
    (c : Fin 768) : EReal :=
  y c + ∑ f, act (∑ c', nrow y nw c' * w1 c' f) * w2 f c

/-- The scores of the phrases, the bottom where a phrase is not allowed. -/
def masked (al : Fin 256 → Prop) [DecidablePred al] (qi : Fin 64 → EReal) (ki : Fin 256 → Fin 64 → EReal) (p : Fin 256) : EReal :=
  if al p then ∑ l, qi l * ki p l else ⊥

/-- The logit of key row `k` in head `h`. -/
def logit (q : Fin 512 → EReal) (k : Fin 512 → EReal) (h : Fin 8) : EReal := ∑ l : Fin 64, q (lane h l) * k (lane h l)

/-- The window's logits at row `s`. -/
def lw (s : Fin 2048) (q : Fin 512 → EReal) (k : Fin 2048 → Fin 512 → EReal) (h : Fin 8) (t : Fin 2048) : EReal :=
  if t.val ≤ s.val ∧ s.val < t.val + 64 then logit q (k t) h else ⊥

/-- The phrases' logits: those allowed phrases whose score reaches the eighth largest. -/
def lp (al : Fin 256 → Prop) [DecidablePred al] (m : Fin 256 → EReal) (q : Fin 512 → EReal) (pk : Fin 256 → Fin 512 → EReal)
    (h : Fin 8) (p : Fin 256) : EReal :=
  haveI := Classical.dec
  if al p ∧ top (drop^[7] m) ≤ m p then logit q (pk p) h else ⊥

/-- The sink's logit. -/
def ls (q : Fin 512 → EReal) (sk : Fin 64 → Fin 8 → EReal) (h : Fin 8) : EReal := ∑ l : Fin 64, q (lane h l) * sk l h

/-- One lane of one head's context at row `s`. -/
def ctx (s : Fin 2048) (al : Fin 256 → Prop) [DecidablePred al] (qi : Fin 64 → EReal) (ki : Fin 256 → Fin 64 → EReal)
    (q : Fin 512 → EReal) (k v : Fin 2048 → Fin 512 → EReal) (pk pv : Fin 256 → Fin 512 → EReal)
    (sk : Fin 64 → Fin 8 → EReal) (sv : Fin 8 → Fin 64 → EReal) (h : Fin 8) (d : Fin 64) : EReal :=
  att (lw s q k h) (lp al (masked al qi ki) q pk h) (ls q sk h) (fun t => v t (lane h d)) (fun p => pv p (lane h d)) (sv h d)

end Cert.Spec

end
-- ==== Proof.Gathered.lean ====
module

public import proofs.«01_k».proof.Proof.Spec
public import proofs.«01_k».proof.Proof.Gen.Reference2Ideal.Read
public import Idealize.ShloMosaic.Lib.Pipeline.ValueKit
public import Idealize.ShloMosaic.Lib.SortFacts

/-! The phrases in the order of their scores, and the rows gathered at them. -/

@[expose] public section

set_option maxRecDepth 16384

noncomputable section

open Idealize.ShloMosaic Idealize.ShloMosaic.TcCoe Idealize.SL.Sem

namespace Cert.Reference2Ideal.Rows

open Cert.Reference2Ideal Cert.Reference2Ideal.Gen Cert.Reference2Ideal.Read Cert.Select Cert.Attend

theorem gt_iff (a b : Ideal .f32) : FloatOps.cmpfTotal (F := Ideal) .gt a b = 1#1 ↔ b < a := by
  show Ideal.cmp .ogt a b = 1#1 ↔ b < a
  unfold Ideal.cmp
  cases h : decide (b < a) <;> simp_all

/-- The positions in the order of falling scores. -/
def order {n : ℕ} (x : Fin n → Ideal .f32) : Fin n ≃ Fin n :=
  Equiv.ofBijective (sortedFrom fun k k' => FloatOps.cmpfTotal (F := Ideal) .gt (x k) (x k') == 1#1)
    ⟨sortedFrom_injective _, sortedFrom_surjective _⟩

theorem order_anti {n : ℕ} (x : Fin n → Ideal .f32) (i j : Fin n) (h : i ≤ j) : x (order x j) ≤ x (order x i) := by
  rcases h.lt_or_eq with h | rfl
  · have := sortedFrom_noInversion (fun k k' => FloatOps.cmpfTotal (F := Ideal) .gt (x k) (x k') == 1#1)
      (fun k k' => FloatOps.cmpfTotal (F := Ideal) .gt (x k) (x k') == 1#1) (fun a b hab => by
        rw [beq_iff_eq, gt_iff] at hab
        rw [beq_eq_false_iff_ne, ne_eq, gt_iff]
        exact not_lt.2 hab.le) (fun a b hab => hab) (fun a b c hab hbc => by
        rw [beq_eq_false_iff_ne, ne_eq, gt_iff, not_lt] at hab hbc ⊢
        exact hab.trans hbc) i j h
    rw [beq_eq_false_iff_ne, ne_eq, gt_iff, not_lt] at this
    exact this
  · exact le_rfl

theorem along_eq (s : Fin 2048) (k p : Fin 256) : (ix3 (0 : Fin 1) s k : S1x2048x256.Idx).along (2 : Fin 3) p = ix3 0 s p := by
  funext a
  fin_cases a <;> rfl

theorem first8 (t : IVec S1x2048x256 32) (s : Fin 2048) (k : Fin 8) :
    extractStridedSlice S1x2048x8 (fun _ => 0) t sliceFits_S1x2048x256_S1x2048x8 (ix3 0 s k) = t (ix3 0 s (Fin.castLE (by decide) k)) :=
  extractStridedSlice_apply _ t _ _ _ (by
    intro a; fin_cases a
    · show 0 = 0 + 0; rfl
    · show s.val = 0 + s.val; omega
    · show k.val = 0 + k.val; omega)

theorem sort_apply (cmp : Ideal .f32 × BitVec 32 → Ideal .f32 × BitVec 32 → BitVec 1) (x : FVec Ideal S1x2048x256 .f32) (y : IVec S1x2048x256 32) (s : Fin 2048) (k : Fin 256) :
    (Host.sort2 S1x2048x256 2 cmp x y).2 (ix3 0 s k)
      = y (ix3 0 s (sortedFrom (fun p p' => cmp (x (ix3 0 s p), y (ix3 0 s p)) (x (ix3 0 s p'), y (ix3 0 s p')) == 1#1) k)) := by
  have e : ∀ p : Fin 256, (ix3 (0 : Fin 1) s k : S1x2048x256.Idx).along (2 : Fin 3) p = ix3 0 s p := along_eq s k
  unfold Host.sort2
  rw [dif_pos (show 2 < S1x2048x256.rank by decide)]
  show y ((ix3 (0 : Fin 1) s k : S1x2048x256.Idx).along (2 : Fin 3) (sortedFrom (n := 256) (fun p p' =>
    cmp (x ((ix3 (0 : Fin 1) s k : S1x2048x256.Idx).along (2 : Fin 3) p), y ((ix3 (0 : Fin 1) s k : S1x2048x256.Idx).along (2 : Fin 3) p))
      (x ((ix3 (0 : Fin 1) s k : S1x2048x256.Idx).along (2 : Fin 3) p'), y ((ix3 (0 : Fin 1) s k : S1x2048x256.Idx).along (2 : Fin 3) p')) == 1#1) k)) = _
  generalize hf : (fun p : Fin 256 => (ix3 (0 : Fin 1) s k : S1x2048x256.Idx).along (2 : Fin 3) p) = f
  have hf' : f = fun p => ix3 0 s p := by rw [← hf]; funext p; exact e p
  have g : ∀ p : Fin 256, (ix3 (0 : Fin 1) s k : S1x2048x256.Idx).along (2 : Fin 3) p = f p := fun p => by rw [← hf]
  subst hf'
  exact (congrArg y (g _)).trans (congrArg (fun F : Fin 256 → Fin 256 → Bool => y (ix3 0 s (sortedFrom F k)))
    (funext fun p => funext fun p' => by
      exact congrArg₂ (fun a b => cmp (x a, y a) (x b, y b) == 1#1) (g p) (g p')))

theorem topK_apply (x : FVec Ideal S1x2048x256 .f32) (s : Fin 2048) (k : Fin 8) :
    (Host.topK S1x2048x8 2 (FloatOps.cmpfTotal (F := Ideal) .gt) x sliceFits_S1x2048x256_S1x2048x8).2 (ix3 0 s k)
      = BitVec.ofNat 32 (order (fun p => x (ix3 0 s p)) (Fin.castLE (by decide) k)).val := by
  unfold Host.topK
  dsimp only
  refine (first8 _ s k).trans ?_
  refine (sort_apply _ _ _ s _).trans ?_
  rfl

/-- The row's scores. -/
def sc (x0 : FVec Ideal S2048x64 .f32) (x1 x2 : IVec S1x256 32) (x8 : FVec Ideal S256x64 .f32) (s : Fin 2048) (p : Fin 256) : EReal :=
  val_main_v27 (F := Ideal) x0 x1 x2 x8 (ix3 0 s p)

/-- The phrase at place `k` of the row. -/
def sel (x0 : FVec Ideal S2048x64 .f32) (x1 x2 : IVec S1x256 32) (x8 : FVec Ideal S256x64 .f32) (s : Fin 2048) (k : Fin 8) : Fin 256 :=
  order (sc x0 x1 x2 x8 s) (Fin.castLE (by decide) k)

theorem indices_apply (x0 : FVec Ideal S2048x64 .f32) (x1 x2 : IVec S1x256 32) (x8 : FVec Ideal S256x64 .f32) (s : Fin 2048) (k : Fin 8) :
    val_main_indices (F := Ideal) x0 x1 x2 x8 (ix3 0 s k) = BitVec.ofNat 32 (sel x0 x1 x2 x8 s k).val := by
  unfold val_main_indices
  exact topK_apply _ s k

theorem toInt_small (n : ℕ) (h : n < 2 ^ 31) : (BitVec.ofNat 32 n).toInt = (n : ℤ) := by
  rw [BitVec.toInt_eq_toNat_of_lt (by rw [BitVec.toNat_ofNat]; omega), BitVec.toNat_ofNat]; omega

theorem wrap_id (n : ℕ) (h : n < 256) : Scalar.select (IntOp.cmpi .slt (BitVec.ofNat 32 n) 0#32) (IntOp.addi (BitVec.ofNat 32 n) 256#32) (BitVec.ofNat 32 n)
    = BitVec.ofNat 32 n := by
  unfold Scalar.select
  rw [if_neg]
  show ¬ (_ = 1#1)
  rw [IntOp.cmpi_slt, toInt_small _ (by omega), toInt_small _ (by omega)]
  omega

theorem start_apply (x0 : FVec Ideal S2048x64 .f32) (x1 x2 : IVec S1x256 32) (x8 : FVec Ideal S256x64 .f32) (s : Fin 2048) (k : Fin 8) :
    val_main_v33 (F := Ideal) x0 x1 x2 x8 (ix4 0 s k 0) = BitVec.ofNat 32 (sel x0 x1 x2 x8 s k).val := by
  unfold val_main_v33 val_main_v32 val_main_v31 val_main_v29
  have e := indices_apply x0 x1 x2 x8 s k
  revert e
  generalize val_main_indices (F := Ideal) x0 x1 x2 x8 = y
  intro e
  pointwise [val_main_v30, val_main_v28, val_main_c_0, val_main_c_1]
  rw [e]
  exact wrap_id _ (sel x0 x1 x2 x8 s k).isLt

theorem start_apply' (x0 : FVec Ideal S2048x64 .f32) (x1 x2 : IVec S1x256 32) (x8 : FVec Ideal S256x64 .f32) (s : Fin 2048) (k : Fin 8) :
    val_main_v40 (F := Ideal) x0 x1 x2 x8 (ix4 0 s k 0) = BitVec.ofNat 32 (sel x0 x1 x2 x8 s k).val :=
  start_apply x0 x1 x2 x8 s k

theorem start_apply'' (x0 : FVec Ideal S2048x64 .f32) (x1 x2 : IVec S1x256 32) (x8 : FVec Ideal S256x64 .f32) (s : Fin 2048) (k : Fin 8) :
    val_main_call1_v5 (F := Ideal) x0 x1 x2 x8 (ix3 s k 0) = BitVec.ofNat 32 (sel x0 x1 x2 x8 s k).val := by
  unfold val_main_call1_v5 val_main_call1_v4 val_main_call1_v1 val_main_call1_v3
  have e := indices_apply x0 x1 x2 x8 s k
  revert e
  generalize val_main_indices (F := Ideal) x0 x1 x2 x8 = y
  intro e
  pointwise [val_main_call1_v0, val_main_call1_v2, val_main_call1_c, val_main_call1_c_0]
  rw [e]
  exact wrap_id _ (sel x0 x1 x2 x8 s k).isLt

theorem gather_rows (x : FVec Ideal S1x256x8x64 .f32) (idx : IVec S1x2048x8x1 32) (s : Fin 2048) (k h : Fin 8) (d : Fin 64) (p : Fin 256)
    (e : idx (ix4 0 s k 0) = BitVec.ofNat 32 p.val) :
    Host.gather gather_S1x256x8x64_S1x2048x8x1_S1x2048x8x8x64_34_1_0_0_1_3_11864 x idx (ix5 0 s k h d) = x (ix4 0 p h d) := by
  unfold Host.gather
  refine congrArg x (funext fun a => Fin.ext ?_)
  have hsi : (gather_S1x256x8x64_S1x2048x8x1_S1x2048x8x8x64_34_1_0_0_1_3_11864).siIdx (ix5 0 s k h d) ⟨0, by decide⟩ = ix4 0 s k 0 := by
    funext b; refine Fin.ext ?_
    fin_cases b <;> rfl
  fin_cases a
  · rfl
  · show min (idx ((gather_S1x256x8x64_S1x2048x8x1_S1x2048x8x8x64_34_1_0_0_1_3_11864).siIdx (ix5 0 s k h d) ⟨0, by decide⟩)).toInt.toNat (256 - 1) = p.val
    rw [hsi, e, toInt_small _ (by omega)]
    omega
  · show 0 + 0 + h.val = h.val
    omega
  · show 0 + 0 + d.val = d.val
    omega

theorem gather_bits (x : IVec S1x2048x256 1) (idx : IVec S2048x8x1 32) (s : Fin 2048) (k : Fin 8) (p : Fin 256)
    (e : idx (ix3 s k 0) = BitVec.ofNat 32 p.val) :
    Host.gather gather_S1x2048x256_S2048x8x1_S1x2048x8_0_2_1_0_2_2_111 x idx (ix3 0 s k) = x (ix3 0 s p) := by
  unfold Host.gather
  refine congrArg x (funext fun a => Fin.ext ?_)
  have hsi : (gather_S1x2048x256_S2048x8x1_S1x2048x8_0_2_1_0_2_2_111).siIdx (ix3 0 s k) ⟨0, by decide⟩ = ix3 s k 0 := by
    funext b; refine Fin.ext ?_
    fin_cases b <;> rfl
  fin_cases a
  · rfl
  · show 0 + s.val + 0 = s.val
    omega
  · show min (idx ((gather_S1x2048x256_S2048x8x1_S1x2048x8_0_2_1_0_2_2_111).siIdx (ix3 0 s k) ⟨0, by decide⟩)).toInt.toNat (256 - 1) = p.val
    rw [hsi, e, toInt_small _ (by omega)]
    omega

end Cert.Reference2Ideal.Rows
end
-- ==== Proof.Rows.lean ====
module

public import proofs.«01_k».proof.Proof.Spec
public import proofs.«01_k».proof.Proof.Gathered
public import proofs.«01_k».proof.Proof.Gen.Reference2Ideal.Read
public import Idealize.ShloMosaic.Lib.Pipeline.ValueKit

@[expose] public section

set_option maxRecDepth 16384

noncomputable section

open Idealize.ShloMosaic Idealize.ShloMosaic.TcCoe Idealize.SL.Sem

namespace Cert.Reference2Ideal.Rows

open Cert.Reference2Ideal Cert.Reference2Ideal.Gen Cert.Reference2Ideal.Read Cert.Select Cert.Attend

theorem negInf : constant (F := Ideal) S_ .f32 4286578688#32 ix0 = ⊥ := by
  show Ideal.ofBits .f32 4286578688#32 = ⊥
  simp [Ideal.ofBits, Ideal.ieee]

theorem place_apply (s : Fin 2048) : val_main_v16 (F := Ideal) (ix1 s) = BitVec.ofNat 32 s.val := by
  pointwise [val_main_v16]

theorem sub_toInt (s t : Fin 2048) : (IntOp.subi (BitVec.ofNat 32 s.val) (BitVec.ofNat 32 t.val)).toInt = (s.val : ℤ) - t.val := by
  show (BitVec.ofNat 32 s.val - BitVec.ofNat 32 t.val).toInt = _
  rw [BitVec.toInt_sub, toInt_small _ (by omega), toInt_small _ (by omega), Int.bmod_eq_of_le (by omega) (by omega)]

theorem score_apply (x0 : FVec Ideal S2048x64 .f32) (x8 : FVec Ideal S256x64 .f32) (s : Fin 2048) (p : Fin 256) :
    val_main_v15 (F := Ideal) x0 x8 (ix3 0 s p) = ∑ l : Fin 64, x0 (ix2 s l) * x8 (ix2 p l) := by
  pointwise [val_main_v15, val_main_v13, val_main_v14]
  rw [Finset.sum_comm]
  rw [← Fintype.sum_prod_type' (f := fun (y : Fin 2) (z : Fin 32) => x0 (ix2 s ⟨y.val * 32 + z.val, by omega⟩) * x8 (ix2 p ⟨y.val * 32 + z.val, by omega⟩))]
  refine Finset.sum_bij (fun y _ => (⟨y.1.val * 32 + y.2.val, by omega⟩ : Fin 64)) (fun _ _ => Finset.mem_univ _) ?_ ?_ fun _ _ => rfl
  · rintro ⟨h, d⟩ - ⟨h', d'⟩ - e
    have e := congrArg Fin.val e
    simp only at e
    exact Prod.ext (Fin.ext (by simp only; omega)) (Fin.ext (by simp only; omega))
  · intro j _
    exact ⟨(⟨j.val / 32, by omega⟩, ⟨j.val % 32, by omega⟩), Finset.mem_univ _, Fin.ext (by simp only; omega)⟩

theorem alw_apply (x1 x2 : IVec S1x256 32) (s : Fin 2048) (p : Fin 256) :
    val_main_v26 (F := Ideal) x1 x2 (ix3 0 s p) = 1#1 ↔ (x1 (ix2 0 p)).toInt ≤ (s.val : ℤ) ∧ x2 (ix2 0 p) ≠ 0#32 := by
  pointwise [val_main_v26, val_main_v25, val_main_v24, val_main_v23, val_main_v22, val_main_v21, val_main_v20, val_main_v19, val_main_v18, val_main_v17, val_main_v16, val_main_c]
  rw [IntOp.andi_eq_one, IntOp.cmpi_sle, IntOp.cmpi_ne, toInt_small _ (by omega)]

theorem win_apply (x3 x4 : FVec Ideal S2048x512 .bf16) (s t : Fin 2048) (h : Fin 8) :
    val_main_v46 (F := Ideal) x3 x4 (ix4 0 h s t) = Spec.logit (fun j => x3 (ix2 s j)) (fun j => x4 (ix2 t j)) h := by
  pointwise [val_main_v46, val_main_v1, val_main_v0, val_main_v2, val_main_v3]
  unfold Spec.logit Spec.lane
  refine Finset.sum_congr rfl fun x _ => ?_
  congr 3 <;> exact Fin.ext (by simp only; omega)

theorem winm_apply (x3 x4 : FVec Ideal S2048x512 .bf16) (s t : Fin 2048) (h : Fin 8) :
    val_main_v58 (F := Ideal) x3 x4 (ix4 0 h s t) = Spec.lw s (fun j => x3 (ix2 s j)) (fun t j => x4 (ix2 t j)) h t := by
  pointwise [val_main_v58, val_main_call3_v0, val_main_call3_v1, val_main_call3_v2, val_main_cst_7, val_main_v57, val_main_v56, val_main_v55, val_main_v54, val_main_c_6, val_main_v53, val_main_v52, val_main_c_5, val_main_v51, val_main_v50, val_main_v49, val_main_v48, val_main_v47]
  rw [win_apply]
  unfold Spec.lw Scalar.select
  refine if_congr ?_ rfl negInf
  show _ = 1#1 ↔ _
  rw [IntOp.andi_eq_one, IntOp.cmpi_sge, IntOp.cmpi_slt, place_apply, place_apply, sub_toInt s t, toInt_small 0 (by omega), toInt_small 64 (by omega)]
  omega

theorem sink_apply (x3 : FVec Ideal S2048x512 .bf16) (x9 : FVec Ideal S64x8 .bf16) (s : Fin 2048) (h : Fin 8) :
    val_main_v61 (F := Ideal) x3 x9 (ix4 0 h s 0) = Spec.ls (fun j => x3 (ix2 s j)) (fun l h => x9 (ix2 l h)) h := by
  pointwise [val_main_v61, val_main_v60, val_main_v59, val_main_v1, val_main_v0, val_main_v10, val_main_v11]
  unfold Spec.ls Spec.lane
  refine Finset.sum_congr rfl fun x _ => ?_
  rw [mul_comm]
  congr 3 <;> exact Fin.ext (by simp only; omega)

/-- Which phrases a row may look at. -/
def alw (s : ℕ) (en pm : IVec S1x256 32) (p : Fin 256) : Prop := (en (ix2 0 p)).toInt ≤ s ∧ pm (ix2 0 p) ≠ 0#32

instance alwDec (s : ℕ) (en pm : IVec S1x256 32) : DecidablePred (alw s en pm) := fun p => by unfold alw; infer_instance

theorem sc_eq (x0 : FVec Ideal S2048x64 .f32) (x1 x2 : IVec S1x256 32) (x8 : FVec Ideal S256x64 .f32) (s : Fin 2048) :
    sc x0 x1 x2 x8 s = Spec.masked (alw s.val x1 x2) (fun l => x0 (ix2 s l)) (fun p l => x8 (ix2 p l)) := by
  funext p
  unfold sc Spec.masked
  pointwise [val_main_v27, val_main_call0_v1, val_main_call0_v0, val_main_cst]
  rw [score_apply]
  unfold Scalar.select
  refine if_congr ?_ rfl negInf
  exact alw_apply x1 x2 s p

theorem selk_apply (x0 : FVec Ideal S2048x64 .f32) (x1 x2 : IVec S1x256 32) (x6 : FVec Ideal S256x512 .bf16) (x8 : FVec Ideal S256x64 .f32)
   (s : Fin 2048) (k : Fin 8) (h : Fin 8) (d : Fin 64) :
    val_main_v34 (F := Ideal) x0 x1 x2 x6 x8 (ix5 0 s k h d) = x6 (ix2 (sel x0 x1 x2 x8 s k) (Spec.lane h d)) := by
  unfold val_main_v34
  rw [gather_rows _ _ s k h d _ (start_apply x0 x1 x2 x8 s k)]
  generalize sel x0 x1 x2 x8 s k = p
  pointwise [val_main_v7, val_main_v6]
  unfold Spec.lane
  congr 2
  exact Fin.ext (by simp only; omega)

theorem selv_apply (x0 : FVec Ideal S2048x64 .f32) (x1 x2 : IVec S1x256 32) (x7 : FVec Ideal S256x512 .bf16) (x8 : FVec Ideal S256x64 .f32)
   (s : Fin 2048) (k : Fin 8) (h : Fin 8) (d : Fin 64) :
    val_main_v41 (F := Ideal) x0 x1 x2 x7 x8 (ix5 0 s k h d) = x7 (ix2 (sel x0 x1 x2 x8 s k) (Spec.lane h d)) := by
  unfold val_main_v41
  rw [gather_rows _ _ s k h d _ (start_apply' x0 x1 x2 x8 s k)]
  generalize sel x0 x1 x2 x8 s k = p
  pointwise [val_main_v9, val_main_v8]
  unfold Spec.lane
  congr 2
  exact Fin.ext (by simp only; omega)

theorem valid_apply (x0 : FVec Ideal S2048x64 .f32) (x1 x2 : IVec S1x256 32) (x8 : FVec Ideal S256x64 .f32)
   (s : Fin 2048) (k : Fin 8) :
    val_main_v42 (F := Ideal) x0 x1 x2 x8 (ix3 0 s k) = 1#1 ↔ alw s.val x1 x2 (sel x0 x1 x2 x8 s k) := by
  rw [show alw s.val x1 x2 (sel x0 x1 x2 x8 s k) ↔ val_main_v26 (F := Ideal) x1 x2 (ix3 0 s (sel x0 x1 x2 x8 s k)) = 1#1 from (alw_apply x1 x2 s _).symm]
  pointwise [val_main_v42, val_main_call1_v15, val_main_call1_c_4, val_main_call1_v14, val_main_call1_v13, val_main_call1_v12]
  rw [gather_bits _ _ s k _ (start_apply'' x0 x1 x2 x8 s k)]
  have e : ∀ x : Fin 1, val_main_call1_v11 (F := Ideal) x0 x1 x2 x8 (ix3 s k x) = 1#1 := by
    intro x
    obtain rfl : x = 0 := Subsingleton.elim _ _
    have e := start_apply'' x0 x1 x2 x8 s k
    unfold val_main_call1_v11 val_main_call1_v10 val_main_call1_v7
    revert e
    generalize val_main_call1_v5 (F := Ideal) x0 x1 x2 x8 = y
    intro e
    pointwise [val_main_call1_v6, val_main_call1_v8, val_main_call1_v9, val_main_call1_c_1, val_main_call1_c_2]
    rw [e, IntOp.andi_eq_one, IntOp.cmpi_sge, IntOp.cmpi_sle, toInt_small 0 (by omega), toInt_small 255 (by omega), toInt_small (sel x0 x1 x2 x8 s k).val (by omega)]
    omega
  rw [show (fun x : Fin 1 => val_main_call1_v11 (F := Ideal) x0 x1 x2 x8 (ix3 s k x)) = fun _ => 1#1 from funext e]
  rw [Finset.univ_unique, Finset.fold_singleton]
  unfold Scalar.select
  rw [if_pos (by rfl)]

theorem ph_apply (x0 : FVec Ideal S2048x64 .f32) (x1 x2 : IVec S1x256 32) (x3 : FVec Ideal S2048x512 .bf16) (x6 : FVec Ideal S256x512 .bf16) (x8 : FVec Ideal S256x64 .f32)
   (s : Fin 2048) (k : Fin 8) (h : Fin 8) :
    val_main_v45 (F := Ideal) x0 x1 x2 x3 x6 x8 (ix4 0 h s k) = if alw s.val x1 x2 (sel x0 x1 x2 x8 s k) then
      Spec.logit (fun j => x3 (ix2 s j)) (fun j => x6 (ix2 (sel x0 x1 x2 x8 s k) j)) h else ⊥ := by
  pointwise [val_main_v45, val_main_v44, val_main_v43, val_main_call2_v2, val_main_call2_v1, val_main_call2_v0, val_main_cst_4, val_main_v1, val_main_v0]
  unfold Scalar.select
  refine if_congr (valid_apply x0 x1 x2 x8 s k) ?_ negInf
  unfold Spec.logit
  refine Finset.sum_congr rfl fun x _ => ?_
  rw [selk_apply]
  unfold Spec.lane
  congr 3
  exact Fin.ext (by simp only; omega)

end Cert.Reference2Ideal.Rows
end
-- ==== Proof.Soft.lean ====
module

public import proofs.«01_k».proof.Proof.Spec
public import proofs.«01_k».proof.Proof.Gen.Reference2Ideal.Read
public import Idealize.ShloMosaic.Lib.Pipeline.ValueKit

@[expose] public section

set_option maxRecDepth 16384

noncomputable section

open Idealize.ShloMosaic Idealize.ShloMosaic.TcCoe Idealize.SL.Sem

namespace Cert.Reference2Ideal.Rows

open Cert.Reference2Ideal Cert.Reference2Ideal.Gen Cert.Reference2Ideal.Read Cert.Select Cert.Attend

/-- The softmax of a row of logits. -/
def soft {n : ℕ} (l : Fin n → EReal) (k : Fin n) : EReal :=
  Ideal.div (Ideal.exp (l k - top l)) (∑ j, Ideal.exp (l j - top l))

theorem bot_bits : Ideal.ofBits .f32 4286578688#32 = ⊥ := by simp [Ideal.ofBits, Ideal.ieee]

theorem zero_bits : Ideal.ofBits .f32 0#32 = 0 := by simp [Ideal.ofBits, Ideal.ieee]

theorem row_lift (h' : S1x8x2048x2057.Reduces [3] S1x8x2048) (h : Fin 8) (s : Fin 2048) (k : Fin 2057) :
    h'.lift (ix3 0 h s) k = ix4 0 h s k := by
  funext b
  refine Fin.ext ?_
  refine (h'.lift_val _ _ _).trans ?_
  fin_cases b <;> rfl

theorem row_max (y : FVec Ideal S1x8x2048x2057 .f32) (h : Fin 8) (s : Fin 2048) :
    Host.reduce FloatOps.maximumf y (val_main_cst_8 (F := Ideal)) reducesTo_S1x8x2048x2057_S1x8x2048_d3 h_S_ (ix3 0 h s) = top (fun k : Fin 2057 => y (ix4 0 h s k)) := by
  have h' : S1x8x2048x2057.Reduces [3] S1x8x2048 := by decide
  rw [Host.reduce_eq_fold_single (FloatOps.maximumf (F := Ideal) (φ := .f32)) y _ reducesTo_S1x8x2048x2057_S1x8x2048_d3 h']
  rw [show val_main_cst_8 (F := Ideal) (Shape.Idx.first h_S_) = ⊥ from bot_bits]
  unfold top
  have e : (y ∘ h'.lift (ix3 0 h s)) = fun k : Fin 2057 => y (ix4 0 h s k) := by
    funext k
    exact congrArg y (row_lift h' h s k)
  exact congrArg (fun f : Fin 2057 → EReal => Finset.fold max ⊥ f Finset.univ) e

theorem low_apply (h : Fin 8) (s : Fin 2048) : val_main_v64 (F := Ideal) (ix3 0 h s) = ⊥ := by
  pointwise [val_main_v64, val_main_cst_9]
  exact bot_bits

theorem max_low (z : FVec Ideal S1x8x2048 .f32) (i : S1x8x2048.Idx) (hz : val_main_v64 (F := Ideal) i = ⊥) :
    maximumf (val_main_v64 (F := Ideal)) z i = z i := by
  rw [maximumf_apply, Ideal.maximumf_eq_max, hz]
  exact max_eq_right bot_le

theorem max_apply (x0 : FVec Ideal S2048x64 .f32) (x1 x2 : IVec S1x256 32) (x3 x4 : FVec Ideal S2048x512 .bf16) (x6 : FVec Ideal S256x512 .bf16) (x8 : FVec Ideal S256x64 .f32) (x9 : FVec Ideal S64x8 .bf16)
   (s : Fin 2048) (h : Fin 8) :
    val_main_v65 (F := Ideal) x0 x1 x2 x3 x4 x6 x8 x9 (ix3 0 h s) = top (fun k => val_main_v62 (F := Ideal) x0 x1 x2 x3 x4 x6 x8 x9 (ix4 0 h s k)) := by
  unfold val_main_v65
  rw [max_low _ _ (low_apply h s)]
  unfold val_main_v63
  exact row_max _ h s

theorem exp_apply (x0 : FVec Ideal S2048x64 .f32) (x1 x2 : IVec S1x256 32) (x3 x4 : FVec Ideal S2048x512 .bf16) (x6 : FVec Ideal S256x512 .bf16) (x8 : FVec Ideal S256x64 .f32) (x9 : FVec Ideal S64x8 .bf16)
   (s : Fin 2048) (h : Fin 8) (k : Fin 2057) :
    val_main_v69 (F := Ideal) x0 x1 x2 x3 x4 x6 x8 x9 (ix4 0 h s k) = Ideal.exp (val_main_v62 (F := Ideal) x0 x1 x2 x3 x4 x6 x8 x9 (ix4 0 h s k) - top (fun k => val_main_v62 (F := Ideal) x0 x1 x2 x3 x4 x6 x8 x9 (ix4 0 h s k))) := by
  rw [← max_apply]
  unfold val_main_v69 val_main_v68 val_main_v67 val_main_v66
  generalize val_main_v65 (F := Ideal) x0 x1 x2 x3 x4 x6 x8 x9 = z
  generalize val_main_v62 (F := Ideal) x0 x1 x2 x3 x4 x6 x8 x9 = y
  pointwise []

theorem soft_apply (x0 : FVec Ideal S2048x64 .f32) (x1 x2 : IVec S1x256 32) (x3 x4 : FVec Ideal S2048x512 .bf16) (x6 : FVec Ideal S256x512 .bf16) (x8 : FVec Ideal S256x64 .f32) (x9 : FVec Ideal S64x8 .bf16)
   (s : Fin 2048) (h : Fin 8) (k : Fin 2057) :
    val_main_v73 (F := Ideal) x0 x1 x2 x3 x4 x6 x8 x9 (ix4 0 h s k) = soft (fun k => val_main_v62 (F := Ideal) x0 x1 x2 x3 x4 x6 x8 x9 (ix4 0 h s k)) k := by
  have e : soft (fun k => val_main_v62 (F := Ideal) x0 x1 x2 x3 x4 x6 x8 x9 (ix4 0 h s k)) k
      = Ideal.div (val_main_v69 (F := Ideal) x0 x1 x2 x3 x4 x6 x8 x9 (ix4 0 h s k)) (∑ j, val_main_v69 (F := Ideal) x0 x1 x2 x3 x4 x6 x8 x9 (ix4 0 h s j)) := by
    unfold soft
    rw [exp_apply, Finset.sum_congr rfl fun j _ => exp_apply x0 x1 x2 x3 x4 x6 x8 x9 s h j]
  rw [e]
  unfold val_main_v73 val_main_v72 val_main_v71 val_main_v70
  generalize val_main_v69 (F := Ideal) x0 x1 x2 x3 x4 x6 x8 x9 = z
  pointwise [val_main_cst_10]

end Cert.Reference2Ideal.Rows
end
-- ==== Proof.Context.lean ====
module

public import proofs.«01_k».proof.Proof.Rows
public import proofs.«01_k».proof.Proof.Soft

@[expose] public section

set_option maxRecDepth 16384

noncomputable section

open Idealize.ShloMosaic Idealize.ShloMosaic.TcCoe Idealize.SL.Sem

namespace Cert.Reference2Ideal.Rows

open Cert.Reference2Ideal Cert.Reference2Ideal.Gen Cert.Reference2Ideal.Read Cert.Select Cert.Attend

theorem cat_w (x0 : FVec Ideal S2048x64 .f32) (x1 x2 : IVec S1x256 32) (x3 x4 : FVec Ideal S2048x512 .bf16) (x6 : FVec Ideal S256x512 .bf16) (x8 : FVec Ideal S256x64 .f32) (x9 : FVec Ideal S64x8 .bf16)
   (s : Fin 2048) (k : Fin 2048) (h : Fin 8) :
    val_main_v62 (F := Ideal) x0 x1 x2 x3 x4 x6 x8 x9 (ix4 0 h s (⟨k.val, by omega⟩ : Fin 2057)) = Spec.lw s (fun j => x3 (ix2 s j)) (fun t j => x4 (ix2 t j)) h k := by
  rw [← winm_apply]
  unfold val_main_v62
  generalize val_main_v58 (F := Ideal) x3 x4 = a
  generalize val_main_v45 (F := Ideal) x0 x1 x2 x3 x6 x8 = b
  generalize val_main_v61 (F := Ideal) x3 x9 = c
  pointwise []

theorem cat_p (x0 : FVec Ideal S2048x64 .f32) (x1 x2 : IVec S1x256 32) (x3 x4 : FVec Ideal S2048x512 .bf16) (x6 : FVec Ideal S256x512 .bf16) (x8 : FVec Ideal S256x64 .f32) (x9 : FVec Ideal S64x8 .bf16)
   (s : Fin 2048) (k : Fin 8) (h : Fin 8) :
    val_main_v62 (F := Ideal) x0 x1 x2 x3 x4 x6 x8 x9 (ix4 0 h s (⟨2048 + k.val, by omega⟩ : Fin 2057)) = val_main_v45 (F := Ideal) x0 x1 x2 x3 x6 x8 (ix4 0 h s k) := by
  unfold val_main_v62
  generalize val_main_v58 (F := Ideal) x3 x4 = a
  generalize val_main_v45 (F := Ideal) x0 x1 x2 x3 x6 x8 = b
  generalize val_main_v61 (F := Ideal) x3 x9 = c
  pointwise []

theorem cat_s (x0 : FVec Ideal S2048x64 .f32) (x1 x2 : IVec S1x256 32) (x3 x4 : FVec Ideal S2048x512 .bf16) (x6 : FVec Ideal S256x512 .bf16) (x8 : FVec Ideal S256x64 .f32) (x9 : FVec Ideal S64x8 .bf16)
   (s : Fin 2048) (h : Fin 8) :
    val_main_v62 (F := Ideal) x0 x1 x2 x3 x4 x6 x8 x9 (ix4 0 h s (⟨2056, by omega⟩ : Fin 2057)) = Spec.ls (fun j => x3 (ix2 s j)) (fun l h => x9 (ix2 l h)) h := by
  rw [← sink_apply]
  unfold val_main_v62
  generalize val_main_v58 (F := Ideal) x3 x4 = a
  generalize val_main_v45 (F := Ideal) x0 x1 x2 x3 x6 x8 = b
  generalize val_main_v61 (F := Ideal) x3 x9 = c
  pointwise []

theorem parts_apply (x0 : FVec Ideal S2048x64 .f32) (x1 x2 : IVec S1x256 32) (x3 x4 x5 : FVec Ideal S2048x512 .bf16) (x6 x7 : FVec Ideal S256x512 .bf16) (x8 : FVec Ideal S256x64 .f32) (x9 : FVec Ideal S64x8 .bf16) (x10 : FVec Ideal S8x64 .f32)
   (s : Fin 2048) (h : Fin 8) (d : Fin 64) :
    val_main_v88 (F := Ideal) x0 x1 x2 x3 x4 x5 x6 x7 x8 x9 x10 (ix4 0 s h d)
      = (∑ t : Fin 2048, val_main_v73 (F := Ideal) x0 x1 x2 x3 x4 x6 x8 x9 (ix4 0 h s (⟨t.val, by omega⟩ : Fin 2057)) * x5 (ix2 t (Spec.lane h d)))
        + (∑ k : Fin 8, val_main_v73 (F := Ideal) x0 x1 x2 x3 x4 x6 x8 x9 (ix4 0 h s (⟨2048 + k.val, by omega⟩ : Fin 2057)) * val_main_v41 (F := Ideal) x0 x1 x2 x7 x8 (ix5 0 s k h d))
        + val_main_v73 (F := Ideal) x0 x1 x2 x3 x4 x6 x8 x9 (ix4 0 h s (⟨2056, by omega⟩ : Fin 2057)) * x10 (ix2 h d) := by
  unfold val_main_v88 val_main_v87 val_main_v85 val_main_v83 val_main_v82 val_main_v77 val_main_v76 val_main_v81 val_main_v80 val_main_v79 val_main_v78 val_main_v75 val_main_v74
  generalize val_main_v73 (F := Ideal) x0 x1 x2 x3 x4 x6 x8 x9 = z
  generalize val_main_v41 (F := Ideal) x0 x1 x2 x7 x8 = w
  pointwise [val_main_v86, val_main_v84, val_main_v5, val_main_v4]
  have e : (⟨h.val * 64 + d.val, by omega⟩ : Fin 512) = Spec.lane h d := Fin.ext (by unfold Spec.lane; simp only; omega)
  have e1 : ∀ t : Fin 2048, x5 (ix2 t (⟨h.val * 64 + d.val, by omega⟩ : Fin 512)) * z (ix4 0 h s (⟨t.val, by omega⟩ : Fin 2057))
      = z (ix4 0 h s (⟨t.val, by omega⟩ : Fin 2057)) * x5 (ix2 t (Spec.lane h d)) := fun t => by rw [e, mul_comm]
  rw [Finset.sum_congr rfl fun t _ => e1 t]

/-- The columns of the softmax, part by part. -/
theorem sum_parts (f : Fin 2057 → EReal) :
    ∑ j, f j = (∑ t : Fin 2048, f ⟨t.val, by omega⟩) + (∑ k : Fin 8, f ⟨2048 + k.val, by omega⟩) + f ⟨2056, by omega⟩ := by
  rw [Fin.sum_univ_castSucc (n := 2056), Fin.sum_univ_add (a := 2048) (b := 8)]
  rfl

theorem top_parts (f : Fin 2057 → EReal) :
    top f = peak (fun t : Fin 2048 => f ⟨t.val, by omega⟩) (fun k : Fin 8 => f ⟨2048 + k.val, by omega⟩) (f ⟨2056, by omega⟩) := by
  unfold peak
  refine le_antisymm (top_le _ _ fun p => ?_) (max_le (top_le _ _ fun t => le_top f _) (max_le (top_le _ _ fun k => le_top f _) (le_top f _)))
  by_cases h1 : p.val < 2048
  · exact le_max_of_le_left (le_top (fun t : Fin 2048 => f ⟨t.val, by omega⟩) ⟨p.val, h1⟩)
  · by_cases h2 : p.val < 2056
    · refine le_max_of_le_right (le_max_of_le_left ?_)
      have := le_top (fun k : Fin 8 => f ⟨2048 + k.val, by omega⟩) ⟨p.val - 2048, by omega⟩
      have e : (⟨2048 + (p.val - 2048), by omega⟩ : Fin 2057) = p := Fin.ext (by simp only; omega)
      simp only [e] at this
      exact this
    · refine le_max_of_le_right (le_max_of_le_right ?_)
      have e : p = ⟨2056, by omega⟩ := Fin.ext (by simp only; omega)
      rw [e]

theorem soft_parts (f : Fin 2057 → EReal) (lw : Fin 2048 → EReal) (lp : Fin 8 → EReal) (ls : EReal) (hw : ∀ t : Fin 2048, f ⟨t.val, by omega⟩ = lw t)
    (hp : ∀ k : Fin 8, f ⟨2048 + k.val, by omega⟩ = lp k) (hs : f ⟨2056, by omega⟩ = ls) (j : Fin 2057) :
    soft f j = Ideal.div (Ideal.exp (f j - peak lw lp ls)) (mass lw lp ls) := by
  obtain rfl : (fun t : Fin 2048 => f ⟨t.val, by omega⟩) = lw := funext hw
  obtain rfl : (fun k : Fin 8 => f ⟨2048 + k.val, by omega⟩) = lp := funext hp
  subst hs
  unfold soft mass
  rw [sum_parts, top_parts]

/-- Neither infinity. -/
def Fine (x : EReal) : Prop := x ≠ ⊤ ∧ x ≠ ⊥

theorem fine_sum {n : ℕ} (f g : Fin n → EReal) (hf : ∀ i, Fine (f i)) (hg : ∀ i, Fine (g i)) : Fine (∑ i, f i * g i) := by
  have e : ∀ i, f i * g i = (((f i).toReal * (g i).toReal : ℝ) : EReal) := fun i => by
    rw [EReal.coe_mul, EReal.coe_toReal (hf i).1 (hf i).2, EReal.coe_toReal (hg i).1 (hg i).2]
  rw [Finset.sum_congr rfl fun i _ => e i]
  have c : ∀ u : Finset (Fin n), ∃ r : ℝ, (∑ i ∈ u, (((f i).toReal * (g i).toReal : ℝ) : EReal)) = (r : EReal) := fun u => by
    induction u using Finset.induction_on with
    | empty => exact ⟨0, by simp⟩
    | insert a u ha ih =>
      obtain ⟨r, hr⟩ := ih
      exact ⟨(f a).toReal * (g a).toReal + r, by rw [Finset.sum_insert ha, hr, EReal.coe_add]⟩
  obtain ⟨r, hr⟩ := c Finset.univ
  rw [hr]
  exact ⟨EReal.coe_ne_top r, EReal.coe_ne_bot r⟩

/-- The phrases in the order of falling scores, for the logits the threshold leaves. -/
theorem lp_select {n : ℕ} (al : Fin 256 → Prop) [DecidablePred al] (m : Fin 256 → EReal) (q : Fin 512 → EReal) (pk : Fin 256 → Fin 512 → EReal) (h : Fin 8)
    (hs : Separate al m) (σ : Fin 256 ≃ Fin 256) (hσ : ∀ i j, i ≤ j → m (σ j) ≤ m (σ i)) (lw : Fin n → EReal) (ls : EReal) (vw : Fin n → EReal)
    (vp : Fin 256 → EReal) (vs : EReal) :
    att lw (Spec.lp al m q pk h) ls vw vp vs
      = att lw (fun i : Fin 8 => if al (σ (Fin.castLE (by omega) i)) then Spec.logit q (pk (σ (Fin.castLE (by omega) i))) h else ⊥) ls vw
          (fun i => vp (σ (Fin.castLE (by omega) i))) vs := by
  haveI : DecidablePred fun p => al p ∧ top (drop^[7] m) ≤ m p := fun p => Classical.dec _
  have e : Spec.lp al m q pk h = fun p => if al p ∧ top (drop^[7] m) ≤ m p then Spec.logit q (pk p) h else ⊥ := by
    funext p
    unfold Spec.lp
    by_cases hc : al p ∧ top (drop^[7] m) ≤ m p
    · rw [if_pos hc, if_pos hc]
    · rw [if_neg hc, if_neg hc]
  rw [e]
  exact att_select hs σ hσ 7 (by omega) (fun p => Spec.logit q (pk p) h) lw ls vw vp vs

theorem ctx_apply (x0 : FVec Ideal S2048x64 .f32) (x1 x2 : IVec S1x256 32) (x3 x4 x5 : FVec Ideal S2048x512 .bf16) (x6 x7 : FVec Ideal S256x512 .bf16) (x8 : FVec Ideal S256x64 .f32) (x9 : FVec Ideal S64x8 .bf16) (x10 : FVec Ideal S8x64 .f32)
   (s : Fin 2048) (h3 : ∀ i, Fine (x3 i)) (h4 : ∀ i, Fine (x4 i)) (h6 : ∀ i, Fine (x6 i)) (h9 : ∀ i, Fine (x9 i))
   (hs : Separate (alw s.val x1 x2) (Spec.masked (alw s.val x1 x2) (fun l => x0 (ix2 s l)) (fun p l => x8 (ix2 p l)))) (h : Fin 8) (d : Fin 64) :
    val_main_v88 (F := Ideal) x0 x1 x2 x3 x4 x5 x6 x7 x8 x9 x10 (ix4 0 s h d)
      = Spec.ctx s (alw s.val x1 x2) (fun l => x0 (ix2 s l)) (fun p l => x8 (ix2 p l)) (fun j => x3 (ix2 s j)) (fun t j => x4 (ix2 t j))
          (fun t j => x5 (ix2 t j)) (fun p j => x6 (ix2 p j)) (fun p j => x7 (ix2 p j)) (fun l h => x9 (ix2 l h)) (fun h d => x10 (ix2 h d)) h d := by
  have hq : ∀ l, Fine (x3 (ix2 s (Spec.lane h l))) := fun l => h3 _
  unfold Spec.ctx
  rw [lp_select _ _ _ _ _ hs (order (sc x0 x1 x2 x8 s)) (by
    intro i j hij
    rw [← sc_eq]
    exact order_anti _ i j hij)]
  rw [att_eq]
  · rw [parts_apply]
    have ew := cat_w x0 x1 x2 x3 x4 x6 x8 x9 s
    have ep := fun k => (cat_p x0 x1 x2 x3 x4 x6 x8 x9 s k h).trans (ph_apply x0 x1 x2 x3 x6 x8 s k h)
    have es := cat_s x0 x1 x2 x3 x4 x6 x8 x9 s h
    simp only [soft_apply, selv_apply]
    have e := soft_parts (fun k => val_main_v62 (F := Ideal) x0 x1 x2 x3 x4 x6 x8 x9 (ix4 0 h s k)) _ _ _ (fun t => ew t h) ep es
    refine congrArg₂ (· + ·) (congrArg₂ (· + ·) (Finset.sum_congr rfl fun t _ => ?_) (Finset.sum_congr rfl fun k _ => ?_)) ?_
    · rw [e, ew]; rfl
    · rw [e, ep]; rfl
    · rw [e, es]; rfl
  · intro t
    unfold Spec.lw
    split
    · exact (fine_sum _ _ hq fun l => h4 _).1
    · exact bot_ne_top
  · intro p
    split
    · exact (fine_sum _ _ hq fun l => h6 _).1
    · exact bot_ne_top
  · exact (fine_sum _ _ hq fun l => h9 _).1
  · exact (fine_sum _ _ hq fun l => h9 _).2

end Cert.Reference2Ideal.Rows
end
-- ==== Proof.Head.lean ====
module

public import proofs.«01_k».proof.Proof.Gen.Kernel2Ideal.Skeleton
public import proofs.«01_k».proof.Proof.Attend
public import Idealize.ShloMosaic.Lib.Pointwise

/-! One attention head over a block of 256 rows, as one function of the head's slices. -/

@[expose] public section

set_option maxRecDepth 16384

noncomputable section

open Idealize.ShloMosaic Idealize.ShloMosaic.TcCoe Idealize.SL.Sem

namespace Cert.Kernel2Ideal.Head

open Cert.Kernel2Ideal Cert.Kernel2Ideal.Gen

/-- The value that stands for the bottom. -/
abbrev neg : Ideal .f32 := Named.named κ "mask" 0xCE6E6B28#32

theorem neg_eq : neg = (⊥ : EReal) := by

  show (κ "mask").getD _ = _
  rfl

theorem negInf : Ideal.ofBits FTy.f32 0xFF800000#32 = (⊥ : EReal) := by
  simp [Ideal.ofBits, Ideal.ieee]

/-- The logits of one group of 64 rows over its 128 columns. -/
def grp (mk : IVec S64x128 1) (q : FVec Ideal S64x64 .bf16) (k : FVec Ideal S128x64 .bf16) : FVec Ideal S64x128 .f32 :=
  select mk (matmul dot_S64x64_S128x64_S64x128_1_1_0_0_n_n none q k (constant S64x128 .f32 0x00000000#32))
    (broadcast S64x128 neg)

/-- The window's logits, the four groups on top of each other. -/
def lw (mk mk0 : IVec S64x128 1) (q : FVec Ideal S256x64 .bf16) (k0 k1 k2 k3 : FVec Ideal S128x64 .bf16) :
    FVec Ideal S256x128 .f32 :=
  concatenate S256x128 0
    [⟨S64x128, grp mk0 (extractStridedSlice S64x64 ![0, 0] q slices_S256x64_o0_0_S64x64) k0⟩,
     ⟨S64x128, grp mk (extractStridedSlice S64x64 ![64, 0] q slices_S256x64_o64_0_S64x64) k1⟩,
     ⟨S64x128, grp mk (extractStridedSlice S64x64 ![128, 0] q slices_S256x64_o128_0_S64x64) k2⟩,
     ⟨S64x128, grp mk (extractStridedSlice S64x64 ![192, 0] q slices_S256x64_o192_0_S64x64) k3⟩]
    concatenates_S64x128_S64x128_S64x128_S64x128_S256x128_d0

/-- The phrases' logits. -/
def lp (bias : FVec Ideal S256x256 .f32) (q pk : FVec Ideal S256x64 .bf16) : FVec Ideal S256x256 .f32 :=
  addf (matmul dot_S256x64_S256x64_S256x256_1_1_0_0_n_n none q pk (constant S256x256 .f32 0x00000000#32)) bias

/-- The sink's logit. -/
def ls (q : FVec Ideal S256x64 .bf16) (sk : FVec Ideal S64x1 .bf16) : FVec Ideal S256x1 .f32 :=
  matmul dot_S256x64_S64x1_S256x1_1_0_0_1_n_n none q sk (constant S256x1 .f32 0x00000000#32)

/-- The largest logit of each row. -/
def mx (a : FVec Ideal S256x128 .f32) (b : FVec Ideal S256x256 .f32) (s : FVec Ideal S256x1 .f32) : FVec Ideal S256x1 .f32 :=
  maximumf (shapeCast S256x1 (multiReduction .maximumf [1] S256 a 0xFF800000#32 reduces_S256x128_S256 (.inl rfl) rfl) shapeCasts_S256_S256x1)
    (maximumf (shapeCast S256x1 (multiReduction .maximumf [1] S256 b 0xFF800000#32 reduces_S256x256_S256 (.inl rfl) rfl) shapeCasts_S256_S256x1) s)

def ew (a : FVec Ideal S256x128 .f32) (m : FVec Ideal S256x1 .f32) : FVec Ideal S256x128 .f32 :=
  exp (subf a (broadcastTo S256x128 m broadcasts_S256x1_S256x128))

def ep (b : FVec Ideal S256x256 .f32) (m : FVec Ideal S256x1 .f32) : FVec Ideal S256x256 .f32 :=
  exp (subf b (broadcastTo S256x256 m broadcasts_S256x1_S256x256))

def es (s m : FVec Ideal S256x1 .f32) : FVec Ideal S256x1 .f32 := exp (subf s m)

def inv (a : FVec Ideal S256x128 .f32) (b : FVec Ideal S256x256 .f32) (s : FVec Ideal S256x1 .f32) : FVec Ideal S256x1 .f32 :=
  divf (broadcast S256x1 (Scalar.ofBits .f32 0x3F800000#32))
    (addf (addf (shapeCast S256x1 (multiReduction .add [1] S256 a 0x00000000#32 reduces_S256x128_S256 (.inl rfl) rfl) shapeCasts_S256_S256x1)
      (shapeCast S256x1 (multiReduction .add [1] S256 b 0x00000000#32 reduces_S256x256_S256 (.inl rfl) rfl) shapeCasts_S256_S256x1)) s)

/-- The window's weighted sum. -/
def cw (a : FVec Ideal S256x128 .f32) (v0 v1 v2 v3 : FVec Ideal S128x64 .bf16) : FVec Ideal S256x64 .f32 :=
  concatenate S256x64 0
    [⟨S64x64, matmul dot_S64x128_S128x64_S64x64_1_0_0_1_n_n none (extractStridedSlice S64x128 ![0, 0] (truncf .bf16 a bitsLt_bf16_f32) slices_S256x128_o0_0_S64x128) v0 (constant S64x64 .f32 0x00000000#32)⟩,
     ⟨S64x64, matmul dot_S64x128_S128x64_S64x64_1_0_0_1_n_n none (extractStridedSlice S64x128 ![64, 0] (truncf .bf16 a bitsLt_bf16_f32) slices_S256x128_o64_0_S64x128) v1 (constant S64x64 .f32 0x00000000#32)⟩,
     ⟨S64x64, matmul dot_S64x128_S128x64_S64x64_1_0_0_1_n_n none (extractStridedSlice S64x128 ![128, 0] (truncf .bf16 a bitsLt_bf16_f32) slices_S256x128_o128_0_S64x128) v2 (constant S64x64 .f32 0x00000000#32)⟩,
     ⟨S64x64, matmul dot_S64x128_S128x64_S64x64_1_0_0_1_n_n none (extractStridedSlice S64x128 ![192, 0] (truncf .bf16 a bitsLt_bf16_f32) slices_S256x128_o192_0_S64x128) v3 (constant S64x64 .f32 0x00000000#32)⟩]
    concatenates_S64x64_S64x64_S64x64_S64x64_S256x64_d0

/-- The phrases' weighted sum. -/
def cp (b : FVec Ideal S256x256 .f32) (pv : FVec Ideal S256x64 .bf16) : FVec Ideal S256x64 .f32 :=
  matmul dot_S256x256_S256x64_S256x64_1_0_0_1_n_n none (truncf .bf16 b bitsLt_bf16_f32) pv (constant S256x64 .f32 0x00000000#32)

/-- The head's result from its logits. -/
def out (a : FVec Ideal S256x128 .f32) (b : FVec Ideal S256x256 .f32) (s : FVec Ideal S256x1 .f32)
    (v0 v1 v2 v3 : FVec Ideal S128x64 .bf16) (pv : FVec Ideal S256x64 .bf16) (sv : FVec Ideal S1x64 .f32) :
    FVec Ideal S256x64 .f32 :=
  mulf (addf (addf (cw (ew a (mx a b s)) v0 v1 v2 v3) (cp (ep b (mx a b s)) pv))
      (mulf (broadcastTo S256x64 (es s (mx a b s)) broadcasts_S256x1_S256x64) (broadcastTo S256x64 sv broadcasts_S1x64_S256x64)))
    (broadcastTo S256x64 (inv (ew a (mx a b s)) (ep b (mx a b s)) (es s (mx a b s))) broadcasts_S256x1_S256x64)

/-- Row `r`, lane `d` of a head's result is the softmax's weighted sum over the row's logits. -/
theorem out_apply (a : FVec Ideal S256x128 .f32) (b : FVec Ideal S256x256 .f32) (s : FVec Ideal S256x1 .f32)
    (v0 v1 v2 v3 : FVec Ideal S128x64 .bf16) (pv : FVec Ideal S256x64 .bf16) (sv : FVec Ideal S1x64 .f32)
    (r : Fin 256) (d : Fin 64) :
    out a b s v0 v1 v2 v3 pv sv (ix2 r d)
      = Attend.att (fun c : Fin 128 => a (ix2 r c)) (fun p : Fin 256 => b (ix2 r p)) (s (ix2 r 0))
          (fun c => if r.val < 64 then v0 (ix2 c d) else if r.val < 128 then v1 (ix2 c d)
            else if r.val < 192 then v2 (ix2 c d) else v3 (ix2 c d)) (fun p => pv (ix2 p d)) (sv (ix2 0 d)) := by
  have e0 : Ideal.ofBits FTy.f32 4286578688#32 = ⊥ := negInf
  pointwise [out, cw, cp, ew, ep, es, inv, mx]
  rw [e0]
  have hr : r.val < 256 := r.isLt
  unfold Attend.att Attend.mass Attend.peak Select.top
  by_cases h0 : r.val < 64
  · simp only [h0, if_true, dite_true]
  by_cases h1 : r.val < 128
  · have hx : r.val - 64 < 64 := by omega
    have e : (⟨64 + (r.val - 64), by omega⟩ : Fin 256) = r := Fin.ext (by simp only; omega)
    simp only [h0, h1, hx, e, if_true, if_false, dite_true, dite_false]
  by_cases h2 : r.val < 192
  · have hx : ¬ r.val - 64 < 64 := by omega
    have hy : r.val - 64 - 64 < 64 := by omega
    have e : (⟨128 + (r.val - 64 - 64), by omega⟩ : Fin 256) = r := Fin.ext (by simp only; omega)
    simp only [h0, h1, h2, hx, hy, e, if_true, if_false, dite_true, dite_false]
  · have hx : ¬ r.val - 64 < 64 := by omega
    have hy : ¬ r.val - 64 - 64 < 64 := by omega
    have e : (⟨192 + (r.val - 64 - 64 - 64), by omega⟩ : Fin 256) = r := Fin.ext (by simp only; omega)
    simp only [h0, h1, h2, hx, hy, e, if_true, if_false, dite_true, dite_false]

theorem grp_apply (mk : IVec S64x128 1) (q : FVec Ideal S64x64 .bf16) (k : FVec Ideal S128x64 .bf16) (r : Fin 64) (c : Fin 128) :
    grp mk q k (ix2 r c) = if mk (ix2 r c) = 1#1 then ∑ l : Fin 64, q (ix2 r l) * k (ix2 c l) else ⊥ := by
  pointwise [grp]
  rw [neg_eq]; rfl

/-- A window logit: the row's group picks the keys. -/
theorem lw_apply (mk mk0 : IVec S64x128 1) (q : FVec Ideal S256x64 .bf16) (k0 k1 k2 k3 : FVec Ideal S128x64 .bf16)
    (r : Fin 256) (c : Fin 128) :
    lw mk mk0 q k0 k1 k2 k3 (ix2 r c)
      = if (if r.val < 64 then mk0 else mk) (ix2 (⟨r.val % 64, Nat.mod_lt _ (by decide)⟩ : Fin 64) c) = 1#1 then
          ∑ l : Fin 64, q (ix2 r l) * (if r.val < 64 then k0 (ix2 c l) else if r.val < 128 then k1 (ix2 c l)
            else if r.val < 192 then k2 (ix2 c l) else k3 (ix2 c l))
        else ⊥ := by
  pointwise [lw, grp_apply]
  have hr : r.val < 256 := r.isLt
  by_cases h0 : r.val < 64
  · have e : (⟨r.val % 64, Nat.mod_lt _ (by decide)⟩ : Fin 64) = ⟨r.val, h0⟩ := Fin.ext (by simp only; omega)
    simp only [h0, e, if_true, dite_true]
  by_cases h1 : r.val < 128
  · have hx : r.val - 64 < 64 := by omega
    have e : (⟨64 + (r.val - 64), by omega⟩ : Fin 256) = r := Fin.ext (by simp only; omega)
    have e' : (⟨r.val % 64, Nat.mod_lt _ (by decide)⟩ : Fin 64) = ⟨r.val - 64, hx⟩ := Fin.ext (by simp only; omega)
    simp only [h0, h1, hx, e, e', if_true, if_false, dite_true, dite_false]
  by_cases h2 : r.val < 192
  · have hx : ¬ r.val - 64 < 64 := by omega
    have hy : r.val - 64 - 64 < 64 := by omega
    have e : (⟨128 + (r.val - 64 - 64), by omega⟩ : Fin 256) = r := Fin.ext (by simp only; omega)
    have e' : (⟨r.val % 64, Nat.mod_lt _ (by decide)⟩ : Fin 64) = ⟨r.val - 64 - 64, hy⟩ := Fin.ext (by simp only; omega)
    simp only [h0, h1, h2, hx, hy, e, e', if_true, if_false, dite_true, dite_false]
  · have hx : ¬ r.val - 64 < 64 := by omega
    have hy : ¬ r.val - 64 - 64 < 64 := by omega
    have e : (⟨192 + (r.val - 64 - 64 - 64), by omega⟩ : Fin 256) = r := Fin.ext (by simp only; omega)
    have e' : (⟨r.val % 64, Nat.mod_lt _ (by decide)⟩ : Fin 64) = ⟨r.val - 64 - 64 - 64, by omega⟩ := Fin.ext (by simp only; omega)
    simp only [h0, h1, h2, hx, hy, e, e', if_true, if_false, dite_true, dite_false]

theorem lp_apply (bias : FVec Ideal S256x256 .f32) (q pk : FVec Ideal S256x64 .bf16) (r p : Fin 256) :
    lp bias q pk (ix2 r p) = (∑ l : Fin 64, q (ix2 r l) * pk (ix2 p l)) + bias (ix2 r p) := by
  pointwise! [lp]

theorem ls_apply (q : FVec Ideal S256x64 .bf16) (sk : FVec Ideal S64x1 .bf16) (r : Fin 256) :
    ls q sk (ix2 r 0) = ∑ l : Fin 64, q (ix2 r l) * sk (ix2 l 0) := by
  pointwise! [ls]

end Cert.Kernel2Ideal.Head

end
-- ==== Proof.Point.lean ====
module

public import proofs.«01_k».proof.Proof.Gen.Kernel2Ideal.Value
public import proofs.«01_k».proof.Proof.Head
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Head

open Cert.Kernel2Ideal Cert.Kernel2Ideal.Gen

/-- One head from the slices of its arguments. -/
def hd (b : FVec Ideal S256x256 .f32) (mk mk0 : IVec S64x128 1) (q : FVec Ideal S256x64 .bf16)
    (k0 k1 k2 k3 v0 v1 v2 v3 : FVec Ideal S128x64 .bf16) (pk pv : FVec Ideal S256x64 .bf16) (sk : FVec Ideal S64x1 .bf16)
    (sv : FVec Ideal S1x64 .f32) : FVec Ideal S256x64 .f32 :=
  out (lw mk mk0 q k0 k1 k2 k3) (lp b q pk) (ls q sk) v0 v1 v2 v3 pv sv

/-- Head number `o / 64`, cut out of the whole rows at lane `o`. -/
def head (o : ℕ) (hq : S256x512.Slices ![0, o] S256x64) (hk : S128x512.Slices ![0, o] S128x64)
    (b : FVec Ideal S256x256 .f32) (mk mk0 : IVec S64x128 1) (q : FVec Ideal S256x512 .bf16)
    (k0 k1 k2 k3 v0 v1 v2 v3 : FVec Ideal S128x512 .bf16) (pk pv : FVec Ideal S256x512 .bf16) (sk : FVec Ideal S64x1 .bf16)
    (sv : FVec Ideal S1x64 .f32) : FVec Ideal S256x64 .f32 :=
  hd b mk mk0 (extractStridedSlice S256x64 ![0, o] q hq)
    (extractStridedSlice S128x64 ![0, o] k0 hk) (extractStridedSlice S128x64 ![0, o] k1 hk)
    (extractStridedSlice S128x64 ![0, o] k2 hk) (extractStridedSlice S128x64 ![0, o] k3 hk)
    (extractStridedSlice S128x64 ![0, o] v0 hk) (extractStridedSlice S128x64 ![0, o] v1 hk)
    (extractStridedSlice S128x64 ![0, o] v2 hk) (extractStridedSlice S128x64 ![0, o] v3 hk)
    (extractStridedSlice S256x64 ![0, o] pk hq) (extractStridedSlice S256x64 ![0, o] pv hq) sk sv

/-- The block after attention: the heads side by side through the output matrix, added to the block. -/
def mid (c0 c1 c2 c3 c4 c5 c6 c7 : FVec Ideal S256x64 .f32) (x : FVec Ideal S256x768 .f32) (wo : FVec Ideal S512x768 .bf16) :
    FVec Ideal S256x768 .f32 :=
  addf x (matmul dot_S256x512_S512x768_S256x768_1_0_0_1_n_n none
    (truncf .bf16 (concatenate S256x512 1 [⟨S256x64, c0⟩, ⟨S256x64, c1⟩, ⟨S256x64, c2⟩, ⟨S256x64, c3⟩, ⟨S256x64, c4⟩,
      ⟨S256x64, c5⟩, ⟨S256x64, c6⟩, ⟨S256x64, c7⟩]
      concatenates_S256x64_S256x64_S256x64_S256x64_S256x64_S256x64_S256x64_S256x64_S256x512_d1) bitsLt_bf16_f32) wo
    (constant S256x768 .f32 0x00000000#32))

/-- The mean square of each row, and the small constant. -/
def msq (y : FVec Ideal S256x768 .f32) : FVec Ideal S256x1 .f32 :=
  addf (divf (shapeCast S256x1 (multiReduction .add [1] S256 (mulf y y) 0x00000000#32 reduces_S256x768_S256 (.inl rfl) rfl)
    shapeCasts_S256_S256x1) (broadcast S256x1 (Scalar.ofBits .f32 0x44400000#32))) (broadcast S256x1 (Scalar.ofBits .f32 0x358637BD#32))

/-- The phrases' bias. -/
def bias (i : grid0.Coords) (qi ki : Vec Ideal S256x64 .f32) (en pm : Vec Ideal S1x256 .i32) : FVec Ideal S256x256 .f32 :=
  k0_pay8 (k0_pay5 (F := Ideal) i en pm) (k0_pay6 (F := Ideal) i qi ki en pm) (k0_pay7 (F := Ideal) i qi ki en pm)

/-- The block of the result at one grid point. -/
def point (i : grid0.Coords) (x0 : Vec Ideal S256x64 .f32) (x1 x2 : Vec Ideal S1x256 .i32)
    (x3 x4 x5 x6 x7 x8 x9 : Vec Ideal S256x512 .bf16) (x10 : Vec Ideal S256x64 .f32) (x11 : Vec Ideal S64x8 .bf16)
    (x12 : Vec Ideal S8x64 .f32) (x13 : Vec Ideal S256x768 .f32) (x15 : Vec Ideal S1x768 .f32)
    (wo : Vec Ideal S512x768 .bf16) (w1 : Vec Ideal S768x3072 .bf16) (w2 : Vec Ideal S3072x768 .bf16) : FVec Ideal S256x768 .f32 :=
  let c (o : ℕ) (hq : S256x512.Slices ![0, o] S256x64) (hk : S128x512.Slices ![0, o] S128x64) (sk : Vec Ideal S64x1 .bf16) (sv : Vec Ideal S1x64 .f32) :=
    head o hq hk (bias i x0 x10 x1 x2) k0_pay17 (k0_pay18 (BitVec.ofNat 32 (i 0).val)) x3
      (k0_pay9 (F := Ideal) x4 x5) (k0_pay11 (F := Ideal) x5) (k0_pay13 (F := Ideal) x5) (k0_pay15 (F := Ideal) x5)
      (k0_pay10 (F := Ideal) x6 x7) (k0_pay12 (F := Ideal) x7) (k0_pay14 (F := Ideal) x7) (k0_pay16 (F := Ideal) x7) x8 x9 sk sv
  let y := mid
    (c 0 slices_S256x512_o0_0_S256x64 slices_S128x512_o0_0_S128x64 (View.ld x11 (Rect.unit ![0, 0] ![64, 1] inb_S64x8_S64x1_0_0)) (View.ld x12 (Rect.unit ![0, 0] ![1, 64] inb_S8x64_S1x64_0_0)))
    (c 64 slices_S256x512_o0_64_S256x64 slices_S128x512_o0_64_S128x64 (View.ld x11 (Rect.unit ![0, 1] ![64, 1] inb_S64x8_S64x1_0_1)) (View.ld x12 (Rect.unit ![1, 0] ![1, 64] inb_S8x64_S1x64_1_0)))
    (c 128 slices_S256x512_o0_128_S256x64 slices_S128x512_o0_128_S128x64 (View.ld x11 (Rect.unit ![0, 2] ![64, 1] inb_S64x8_S64x1_0_2)) (View.ld x12 (Rect.unit ![2, 0] ![1, 64] inb_S8x64_S1x64_2_0)))
    (c 192 slices_S256x512_o0_192_S256x64 slices_S128x512_o0_192_S128x64 (View.ld x11 (Rect.unit ![0, 3] ![64, 1] inb_S64x8_S64x1_0_3)) (View.ld x12 (Rect.unit ![3, 0] ![1, 64] inb_S8x64_S1x64_3_0)))
    (c 256 slices_S256x512_o0_256_S256x64 slices_S128x512_o0_256_S128x64 (View.ld x11 (Rect.unit ![0, 4] ![64, 1] inb_S64x8_S64x1_0_4)) (View.ld x12 (Rect.unit ![4, 0] ![1, 64] inb_S8x64_S1x64_4_0)))
    (c 320 slices_S256x512_o0_320_S256x64 slices_S128x512_o0_320_S128x64 (View.ld x11 (Rect.unit ![0, 5] ![64, 1] inb_S64x8_S64x1_0_5)) (View.ld x12 (Rect.unit ![5, 0] ![1, 64] inb_S8x64_S1x64_5_0)))
    (c 384 slices_S256x512_o0_384_S256x64 slices_S128x512_o0_384_S128x64 (View.ld x11 (Rect.unit ![0, 6] ![64, 1] inb_S64x8_S64x1_0_6)) (View.ld x12 (Rect.unit ![6, 0] ![1, 64] inb_S8x64_S1x64_6_0)))
    (c 448 slices_S256x512_o0_448_S256x64 slices_S128x512_o0_448_S128x64 (View.ld x11 (Rect.unit ![0, 7] ![64, 1] inb_S64x8_S64x1_0_7)) (View.ld x12 (Rect.unit ![7, 0] ![1, 64] inb_S8x64_S1x64_7_0)))
    x13 wo
  k0_pay1 y x15 (msq y) w1 w2

set_option maxHeartbeats 8000000 in
theorem out_B (c : Dev nD) (i : grid0.Coords) (arg1 : Memref sig .tc .vmem S256x64 .f32) (harg1 : arg1.IsWhole) (arg2 : Memref sig .tc .vmem S1x256 .i32) (harg2 : arg2.IsWhole) (arg3 : Memref sig .tc .vmem S1x256 .i32) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S256x64 .f32) (harg11 : arg11.IsWhole) (arg12 : Memref sig .tc .vmem S64x8 .bf16) (harg12 : arg12.IsWhole) (arg13 : Memref sig .tc .vmem S8x64 .f32) (harg13 : arg13.IsWhole) (arg14 : Memref sig .tc .vmem S256x768 .f32) (harg14 : arg14.IsWhole) (arg15 : Memref sig .tc .vmem S512x768 .f32) (harg15 : arg15.IsWhole) (arg16 : Memref sig .tc .vmem S1x768 .f32) (harg16 : arg16.IsWhole) (arg17 : Memref sig .tc .vmem S768x3072 .f32) (harg17 : arg17.IsWhole) (arg18 : Memref sig .tc .vmem S3072x768 .f32) (harg18 : arg18.IsWhole) (arg19 : Memref sig .tc .vmem S256x768 .f32) (harg19 : arg19.IsWhole) (arg20 : Memref sig .tc .vmem S512x768 .bf16) (harg20 : arg20.IsWhole) (arg21 : Memref sig .tc .vmem S768x3072 .bf16) (harg21 : arg21.IsWhole) (arg22 : Memref sig .tc .vmem S3072x768 .bf16) (harg22 : arg22.IsWhole) (hc0 : ¬cond0_0 i)
    (x0 : Vec Ideal S256x64 .f32) (x1 : Vec Ideal S1x256 .i32) (x2 : Vec Ideal S1x256 .i32) (x3 : Vec Ideal S256x512 .bf16) (x4 : Vec Ideal S256x512 .bf16) (x5 : Vec Ideal S256x512 .bf16) (x6 : Vec Ideal S256x512 .bf16) (x7 : Vec Ideal S256x512 .bf16) (x8 : Vec Ideal S256x512 .bf16) (x9 : Vec Ideal S256x512 .bf16) (x10 : Vec Ideal S256x64 .f32) (x11 : Vec Ideal S64x8 .bf16) (x12 : Vec Ideal S8x64 .f32) (x13 : Vec Ideal S256x768 .f32) (x14 : Vec Ideal S512x768 .f32) (x15 : Vec Ideal S1x768 .f32) (x16 : Vec Ideal S768x3072 .f32) (x17 : Vec Ideal S3072x768 .f32) (xs0 : Vec Ideal S512x768 .bf16) (xs1 : Vec Ideal S768x3072 .bf16) (xs2 : Vec Ideal S3072x768 .bf16) :
    out0_B_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 xs0 xs1 xs2 = point i x0 x1 x2 x3 x4 x5 x6 x7 x8 x9 x10 x11 x12 x13 x15 xs0 xs1 xs2 := by
  frame_out
  rfl

set_option maxHeartbeats 8000000 in
theorem out_A (c : Dev nD) (i : grid0.Coords) (arg1 : Memref sig .tc .vmem S256x64 .f32) (harg1 : arg1.IsWhole) (arg2 : Memref sig .tc .vmem S1x256 .i32) (harg2 : arg2.IsWhole) (arg3 : Memref sig .tc .vmem S1x256 .i32) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S256x64 .f32) (harg11 : arg11.IsWhole) (arg12 : Memref sig .tc .vmem S64x8 .bf16) (harg12 : arg12.IsWhole) (arg13 : Memref sig .tc .vmem S8x64 .f32) (harg13 : arg13.IsWhole) (arg14 : Memref sig .tc .vmem S256x768 .f32) (harg14 : arg14.IsWhole) (arg15 : Memref sig .tc .vmem S512x768 .f32) (harg15 : arg15.IsWhole) (arg16 : Memref sig .tc .vmem S1x768 .f32) (harg16 : arg16.IsWhole) (arg17 : Memref sig .tc .vmem S768x3072 .f32) (harg17 : arg17.IsWhole) (arg18 : Memref sig .tc .vmem S3072x768 .f32) (harg18 : arg18.IsWhole) (arg19 : Memref sig .tc .vmem S256x768 .f32) (harg19 : arg19.IsWhole) (arg20 : Memref sig .tc .vmem S512x768 .bf16) (harg20 : arg20.IsWhole) (arg21 : Memref sig .tc .vmem S768x3072 .bf16) (harg21 : arg21.IsWhole) (arg22 : Memref sig .tc .vmem S3072x768 .bf16) (harg22 : arg22.IsWhole) (hc0 : cond0_0 i)
    (x0 : Vec Ideal S256x64 .f32) (x1 : Vec Ideal S1x256 .i32) (x2 : Vec Ideal S1x256 .i32) (x3 : Vec Ideal S256x512 .bf16) (x4 : Vec Ideal S256x512 .bf16) (x5 : Vec Ideal S256x512 .bf16) (x6 : Vec Ideal S256x512 .bf16) (x7 : Vec Ideal S256x512 .bf16) (x8 : Vec Ideal S256x512 .bf16) (x9 : Vec Ideal S256x512 .bf16) (x10 : Vec Ideal S256x64 .f32) (x11 : Vec Ideal S64x8 .bf16) (x12 : Vec Ideal S8x64 .f32) (x13 : Vec Ideal S256x768 .f32) (x14 : Vec Ideal S512x768 .f32) (x15 : Vec Ideal S1x768 .f32) (x16 : Vec Ideal S768x3072 .f32) (x17 : Vec Ideal S3072x768 .f32) :
    out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 = point i x0 x1 x2 x3 x4 x5 x6 x7 x8 x9 x10 x11 x12 x13 x15 (k0_pay2 (F := Ideal) x14) (k0_pay3 (F := Ideal) x16) (k0_pay4 (F := Ideal) x17) := by
  frame_out
  rfl

set_option maxHeartbeats 8000000 in
theorem sout_A_0 (c : Dev nD) (i : grid0.Coords) (arg1 : Memref sig .tc .vmem S256x64 .f32) (harg1 : arg1.IsWhole) (arg2 : Memref sig .tc .vmem S1x256 .i32) (harg2 : arg2.IsWhole) (arg3 : Memref sig .tc .vmem S1x256 .i32) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S256x64 .f32) (harg11 : arg11.IsWhole) (arg12 : Memref sig .tc .vmem S64x8 .bf16) (harg12 : arg12.IsWhole) (arg13 : Memref sig .tc .vmem S8x64 .f32) (harg13 : arg13.IsWhole) (arg14 : Memref sig .tc .vmem S256x768 .f32) (harg14 : arg14.IsWhole) (arg15 : Memref sig .tc .vmem S512x768 .f32) (harg15 : arg15.IsWhole) (arg16 : Memref sig .tc .vmem S1x768 .f32) (harg16 : arg16.IsWhole) (arg17 : Memref sig .tc .vmem S768x3072 .f32) (harg17 : arg17.IsWhole) (arg18 : Memref sig .tc .vmem S3072x768 .f32) (harg18 : arg18.IsWhole) (arg19 : Memref sig .tc .vmem S256x768 .f32) (harg19 : arg19.IsWhole) (arg20 : Memref sig .tc .vmem S512x768 .bf16) (harg20 : arg20.IsWhole) (arg21 : Memref sig .tc .vmem S768x3072 .bf16) (harg21 : arg21.IsWhole) (arg22 : Memref sig .tc .vmem S3072x768 .bf16) (harg22 : arg22.IsWhole) (hc0 : cond0_0 i)
    (x0 : Vec Ideal S256x64 .f32) (x1 : Vec Ideal S1x256 .i32) (x2 : Vec Ideal S1x256 .i32) (x3 : Vec Ideal S256x512 .bf16) (x4 : Vec Ideal S256x512 .bf16) (x5 : Vec Ideal S256x512 .bf16) (x6 : Vec Ideal S256x512 .bf16) (x7 : Vec Ideal S256x512 .bf16) (x8 : Vec Ideal S256x512 .bf16) (x9 : Vec Ideal S256x512 .bf16) (x10 : Vec Ideal S256x64 .f32) (x11 : Vec Ideal S64x8 .bf16) (x12 : Vec Ideal S8x64 .f32) (x13 : Vec Ideal S256x768 .f32) (x14 : Vec Ideal S512x768 .f32) (x15 : Vec Ideal S1x768 .f32) (x16 : Vec Ideal S768x3072 .f32) (x17 : Vec Ideal S3072x768 .f32) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 = k0_pay2 (F := Ideal) x14 := by
  frame_out

set_option maxHeartbeats 8000000 in
theorem sout_A_1 (c : Dev nD) (i : grid0.Coords) (arg1 : Memref sig .tc .vmem S256x64 .f32) (harg1 : arg1.IsWhole) (arg2 : Memref sig .tc .vmem S1x256 .i32) (harg2 : arg2.IsWhole) (arg3 : Memref sig .tc .vmem S1x256 .i32) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S256x64 .f32) (harg11 : arg11.IsWhole) (arg12 : Memref sig .tc .vmem S64x8 .bf16) (harg12 : arg12.IsWhole) (arg13 : Memref sig .tc .vmem S8x64 .f32) (harg13 : arg13.IsWhole) (arg14 : Memref sig .tc .vmem S256x768 .f32) (harg14 : arg14.IsWhole) (arg15 : Memref sig .tc .vmem S512x768 .f32) (harg15 : arg15.IsWhole) (arg16 : Memref sig .tc .vmem S1x768 .f32) (harg16 : arg16.IsWhole) (arg17 : Memref sig .tc .vmem S768x3072 .f32) (harg17 : arg17.IsWhole) (arg18 : Memref sig .tc .vmem S3072x768 .f32) (harg18 : arg18.IsWhole) (arg19 : Memref sig .tc .vmem S256x768 .f32) (harg19 : arg19.IsWhole) (arg20 : Memref sig .tc .vmem S512x768 .bf16) (harg20 : arg20.IsWhole) (arg21 : Memref sig .tc .vmem S768x3072 .bf16) (harg21 : arg21.IsWhole) (arg22 : Memref sig .tc .vmem S3072x768 .bf16) (harg22 : arg22.IsWhole) (hc0 : cond0_0 i)
    (x0 : Vec Ideal S256x64 .f32) (x1 : Vec Ideal S1x256 .i32) (x2 : Vec Ideal S1x256 .i32) (x3 : Vec Ideal S256x512 .bf16) (x4 : Vec Ideal S256x512 .bf16) (x5 : Vec Ideal S256x512 .bf16) (x6 : Vec Ideal S256x512 .bf16) (x7 : Vec Ideal S256x512 .bf16) (x8 : Vec Ideal S256x512 .bf16) (x9 : Vec Ideal S256x512 .bf16) (x10 : Vec Ideal S256x64 .f32) (x11 : Vec Ideal S64x8 .bf16) (x12 : Vec Ideal S8x64 .f32) (x13 : Vec Ideal S256x768 .f32) (x14 : Vec Ideal S512x768 .f32) (x15 : Vec Ideal S1x768 .f32) (x16 : Vec Ideal S768x3072 .f32) (x17 : Vec Ideal S3072x768 .f32) :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 = k0_pay3 (F := Ideal) x16 := by
  frame_out

set_option maxHeartbeats 8000000 in
theorem sout_A_2 (c : Dev nD) (i : grid0.Coords) (arg1 : Memref sig .tc .vmem S256x64 .f32) (harg1 : arg1.IsWhole) (arg2 : Memref sig .tc .vmem S1x256 .i32) (harg2 : arg2.IsWhole) (arg3 : Memref sig .tc .vmem S1x256 .i32) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S256x64 .f32) (harg11 : arg11.IsWhole) (arg12 : Memref sig .tc .vmem S64x8 .bf16) (harg12 : arg12.IsWhole) (arg13 : Memref sig .tc .vmem S8x64 .f32) (harg13 : arg13.IsWhole) (arg14 : Memref sig .tc .vmem S256x768 .f32) (harg14 : arg14.IsWhole) (arg15 : Memref sig .tc .vmem S512x768 .f32) (harg15 : arg15.IsWhole) (arg16 : Memref sig .tc .vmem S1x768 .f32) (harg16 : arg16.IsWhole) (arg17 : Memref sig .tc .vmem S768x3072 .f32) (harg17 : arg17.IsWhole) (arg18 : Memref sig .tc .vmem S3072x768 .f32) (harg18 : arg18.IsWhole) (arg19 : Memref sig .tc .vmem S256x768 .f32) (harg19 : arg19.IsWhole) (arg20 : Memref sig .tc .vmem S512x768 .bf16) (harg20 : arg20.IsWhole) (arg21 : Memref sig .tc .vmem S768x3072 .bf16) (harg21 : arg21.IsWhole) (arg22 : Memref sig .tc .vmem S3072x768 .bf16) (harg22 : arg22.IsWhole) (hc0 : cond0_0 i)
    (x0 : Vec Ideal S256x64 .f32) (x1 : Vec Ideal S1x256 .i32) (x2 : Vec Ideal S1x256 .i32) (x3 : Vec Ideal S256x512 .bf16) (x4 : Vec Ideal S256x512 .bf16) (x5 : Vec Ideal S256x512 .bf16) (x6 : Vec Ideal S256x512 .bf16) (x7 : Vec Ideal S256x512 .bf16) (x8 : Vec Ideal S256x512 .bf16) (x9 : Vec Ideal S256x512 .bf16) (x10 : Vec Ideal S256x64 .f32) (x11 : Vec Ideal S64x8 .bf16) (x12 : Vec Ideal S8x64 .f32) (x13 : Vec Ideal S256x768 .f32) (x14 : Vec Ideal S512x768 .f32) (x15 : Vec Ideal S1x768 .f32) (x16 : Vec Ideal S768x3072 .f32) (x17 : Vec Ideal S3072x768 .f32) :
    sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 = k0_pay4 (F := Ideal) x17 := by
  frame_out

theorem pay2_eq (x : Vec Ideal S512x768 .f32) : k0_pay2 (F := Ideal) x = x := by
  funext j; pointwise! [k0_pay2]

theorem pay3_eq (x : Vec Ideal S768x3072 .f32) : k0_pay3 (F := Ideal) x = x := by
  funext j; pointwise! [k0_pay3]

theorem pay4_eq (x : Vec Ideal S3072x768 .f32) : k0_pay4 (F := Ideal) x = x := by
  funext j; pointwise! [k0_pay4]

end Cert.Kernel2Ideal.Head

end
-- ==== Proof.Tail.lean ====
module

public import proofs.«01_k».proof.Proof.Point
public import proofs.«01_k».proof.Proof.Spec

/-! The block of the result read at a row and a lane. -/

@[expose] public section

set_option maxRecDepth 16384

noncomputable section

open Idealize.ShloMosaic Idealize.ShloMosaic.TcCoe Idealize.SL.Sem

namespace Cert.Kernel2Ideal.Head

open Cert.Kernel2Ideal Cert.Kernel2Ideal.Gen Cert.Select Cert.Attend

/-- Eight heads side by side. -/
def side (g : Fin 8 → Fin 64 → EReal) (j : Fin 512) : EReal :=
  if h : j.val < 64 then g 0 ⟨j.val, h⟩
  else if h : j.val - 64 < 64 then g 1 ⟨j.val - 64, h⟩
  else if h : j.val - 64 - 64 < 64 then g 2 ⟨j.val - 64 - 64, h⟩
  else if h : j.val - 64 - 64 - 64 < 64 then g 3 ⟨j.val - 64 - 64 - 64, h⟩
  else if h : j.val - 64 - 64 - 64 - 64 < 64 then g 4 ⟨j.val - 64 - 64 - 64 - 64, h⟩
  else if h : j.val - 64 - 64 - 64 - 64 - 64 < 64 then g 5 ⟨j.val - 64 - 64 - 64 - 64 - 64, h⟩
  else if h : j.val - 64 - 64 - 64 - 64 - 64 - 64 < 64 then g 6 ⟨j.val - 64 - 64 - 64 - 64 - 64 - 64, h⟩
  else g 7 ⟨j.val - 64 - 64 - 64 - 64 - 64 - 64 - 64, by omega⟩

theorem side_eq (g : Fin 8 → Fin 64 → EReal) (j : Fin 512) :
    side g j = g ⟨j.val / 64, by omega⟩ ⟨j.val % 64, Nat.mod_lt _ (by decide)⟩ := by
  have hj : j.val < 512 := j.isLt
  unfold side
  by_cases h0 : j.val < 64
  · rw [dif_pos h0]; exact congrArg₂ g (Fin.ext (show 0 = j.val / 64 by omega)) (Fin.ext (show j.val = j.val % 64 by omega))
  rw [dif_neg h0]
  by_cases h1 : j.val - 64 < 64
  · rw [dif_pos h1]; exact congrArg₂ g (Fin.ext (show 1 = j.val / 64 by omega)) (Fin.ext (show j.val - 64 = j.val % 64 by omega))
  rw [dif_neg h1]
  by_cases h2 : j.val - 64 - 64 < 64
  · rw [dif_pos h2]; exact congrArg₂ g (Fin.ext (show 2 = j.val / 64 by omega)) (Fin.ext (show j.val - 64 - 64 = j.val % 64 by omega))
  rw [dif_neg h2]
  by_cases h3 : j.val - 64 - 64 - 64 < 64
  · rw [dif_pos h3]; exact congrArg₂ g (Fin.ext (show 3 = j.val / 64 by omega)) (Fin.ext (show j.val - 64 - 64 - 64 = j.val % 64 by omega))
  rw [dif_neg h3]
  by_cases h4 : j.val - 64 - 64 - 64 - 64 < 64
  · rw [dif_pos h4]; exact congrArg₂ g (Fin.ext (show 4 = j.val / 64 by omega)) (Fin.ext (show j.val - 64 - 64 - 64 - 64 = j.val % 64 by omega))
  rw [dif_neg h4]
  by_cases h5 : j.val - 64 - 64 - 64 - 64 - 64 < 64
  · rw [dif_pos h5]; exact congrArg₂ g (Fin.ext (show 5 = j.val / 64 by omega)) (Fin.ext (show j.val - 64 - 64 - 64 - 64 - 64 = j.val % 64 by omega))
  rw [dif_neg h5]
  by_cases h6 : j.val - 64 - 64 - 64 - 64 - 64 - 64 < 64
  · rw [dif_pos h6]; exact congrArg₂ g (Fin.ext (show 6 = j.val / 64 by omega)) (Fin.ext (show j.val - 64 - 64 - 64 - 64 - 64 - 64 = j.val % 64 by omega))
  rw [dif_neg h6]
  exact congrArg₂ g (Fin.ext (show 7 = j.val / 64 by omega)) (Fin.ext (show j.val - 64 - 64 - 64 - 64 - 64 - 64 - 64 = j.val % 64 by omega))

theorem side_lane (g : Fin 8 → Fin 64 → EReal) (h : Fin 8) (d : Fin 64) : side g (Spec.lane h d) = g h d := by
  have hd : d.val < 64 := d.isLt
  rw [side_eq]
  exact congrArg₂ g (Fin.ext (show (64 * h.val + d.val) / 64 = h.val by omega)) (Fin.ext (show (64 * h.val + d.val) % 64 = d.val by omega))

theorem mid_apply (c0 c1 c2 c3 c4 c5 c6 c7 : FVec Ideal S256x64 .f32) (x : FVec Ideal S256x768 .f32) (wo : FVec Ideal S512x768 .bf16)
    (r : Fin 256) (c : Fin 768) :
    mid c0 c1 c2 c3 c4 c5 c6 c7 x wo (ix2 r c)
      = Spec.yrow (fun h d => (![c0, c1, c2, c3, c4, c5, c6, c7] h) (ix2 r d)) (fun c => x (ix2 r c)) (fun j c => wo (ix2 j c)) c := by
  pointwise [mid]
  show x (ix2 r c) + ∑ j, side (fun h d => (![c0, c1, c2, c3, c4, c5, c6, c7] h) (ix2 r d)) j * wo (ix2 j c) = _
  unfold Spec.yrow
  rw [Spec.sum_lane]
  simp only [side_lane]

theorem msq_apply (y : FVec Ideal S256x768 .f32) (r : Fin 256) :
    msq y (ix2 r 0) = Ideal.div (∑ c, y (ix2 r c) * y (ix2 r c)) (Ideal.ofBits .f32 0x44400000#32) + Ideal.ofBits .f32 0x358637BD#32 := by
  pointwise! [msq]

theorem pay1_apply (y : FVec Ideal S256x768 .f32) (nw : Vec Ideal S1x768 .f32) (w1 : Vec Ideal S768x3072 .bf16)
    (w2 : Vec Ideal S3072x768 .bf16) (r : Fin 256) (c : Fin 768) :
    k0_pay1 (F := Ideal) y nw (msq y) w1 w2 (ix2 r c)
      = Spec.mlp (fun c => y (ix2 r c)) (fun c => nw (ix2 0 c)) (fun c f => w1 (ix2 c f)) (fun f c => w2 (ix2 f c)) c := by
  pointwise [k0_pay1]
  unfold Spec.mlp Spec.act Spec.nrow
  simp only [msq_apply]

end Cert.Kernel2Ideal.Head

end
-- ==== Proof.HeadAt.lean ====
module

public import proofs.«01_k».proof.Proof.Tail

/-! One head and the phrases' bias, read at a row. -/

@[expose] public section

set_option maxRecDepth 16384

noncomputable section

open Idealize.ShloMosaic Idealize.ShloMosaic.TcCoe Idealize.SL.Sem

namespace Cert.Kernel2Ideal.Head

open Cert.Kernel2Ideal Cert.Kernel2Ideal.Gen Cert.Select Cert.Attend

theorem slice256 (o : ℕ) (h : Fin 8) (ho : o = 64 * h.val) (hq : S256x512.Slices ![0, o] S256x64) (x : FVec Ideal S256x512 .bf16)
    (r : Fin 256) (l : Fin 64) : extractStridedSlice S256x64 ![0, o] x hq (ix2 r l) = x (ix2 r (Spec.lane h l)) := by
  subst ho
  exact extractStridedSlice_apply _ _ hq (ix2 r l) (ix2 r (Spec.lane h l)) (by
    intro a; fin_cases a <;> simp [Spec.lane])

theorem slice128 (o : ℕ) (h : Fin 8) (ho : o = 64 * h.val) (hq : S128x512.Slices ![0, o] S128x64) (x : FVec Ideal S128x512 .bf16)
    (r : Fin 128) (l : Fin 64) : extractStridedSlice S128x64 ![0, o] x hq (ix2 r l) = x (ix2 r (Spec.lane h l)) := by
  subst ho
  exact extractStridedSlice_apply _ _ hq (ix2 r l) (ix2 r (Spec.lane h l)) (by
    intro a; fin_cases a <;> simp [Spec.lane])

/-- The four groups' rows, chosen by the row. -/
def four {α : Type} (r : Fin 256) (a b c d : α) : α :=
  if r.val < 64 then a else if r.val < 128 then b else if r.val < 192 then c else d

theorem head_apply (o : ℕ) (h : Fin 8) (ho : o = 64 * h.val) (hq : S256x512.Slices ![0, o] S256x64) (hk : S128x512.Slices ![0, o] S128x64)
    (b : FVec Ideal S256x256 .f32) (mk mk0 : IVec S64x128 1) (q : FVec Ideal S256x512 .bf16)
    (k0 k1 k2 k3 v0 v1 v2 v3 : FVec Ideal S128x512 .bf16) (pk pv : FVec Ideal S256x512 .bf16) (sk : FVec Ideal S64x1 .bf16)
    (sv : FVec Ideal S1x64 .f32) (r : Fin 256) (d : Fin 64) :
    head o hq hk b mk mk0 q k0 k1 k2 k3 v0 v1 v2 v3 pk pv sk sv (ix2 r d)
      = att (fun c : Fin 128 => if (if r.val < 64 then mk0 else mk) (ix2 (⟨r.val % 64, Nat.mod_lt _ (by decide)⟩ : Fin 64) c) = 1#1 then
            Spec.logit (fun j => q (ix2 r j)) (fun j => four r k0 k1 k2 k3 (ix2 c j)) h else ⊥)
          (fun p : Fin 256 => Spec.logit (fun j => q (ix2 r j)) (fun j => pk (ix2 p j)) h + b (ix2 r p))
          (∑ l : Fin 64, q (ix2 r (Spec.lane h l)) * sk (ix2 l 0))
          (fun c : Fin 128 => four r v0 v1 v2 v3 (ix2 c (Spec.lane h d)))
          (fun p => pv (ix2 p (Spec.lane h d))) (sv (ix2 0 d)) := by
  unfold head hd
  rw [out_apply]
  simp only [lw_apply, lp_apply, ls_apply, slice256 o h ho, slice128 o h ho]
  unfold Spec.logit four
  by_cases h0 : r.val < 64
  · simp only [h0, if_true]
  by_cases h1 : r.val < 128
  · simp only [h0, h1, if_true, if_false]
  by_cases h2 : r.val < 192
  · simp only [h0, h1, h2, if_true, if_false]
  · simp only [h0, h1, h2, if_false]

theorem toInt_small (n : ℕ) (h : n < 2 ^ 31) : (BitVec.ofNat 32 n).toInt = (n : ℤ) := by
  rw [BitVec.toInt_eq_toNat_of_lt (by rw [BitVec.toNat_ofNat]; omega), BitVec.toNat_ofNat]; omega

theorem ofBool_one (b : Bool) : BitVec.ofBool b = 1#1 ↔ b = true := by cases b <;> decide

/-- One removal round of the kernel. -/
def round (x : FVec Ideal S256x256 .f32) : FVec Ideal S256x256 .f32 :=
  select (cmpf .oge x (broadcastTo S256x256 (shapeCast S256x1 (multiReduction .maximumf [1] S256 x 0xFF800000#32 reduces_S256x256_S256 (.inl rfl) rfl)
    shapeCasts_S256_S256x1) broadcasts_S256x1_S256x256)) (broadcast S256x256 neg) x

theorem round_apply (x : FVec Ideal S256x256 .f32) (r : Fin 256) :
    (fun p => round x (ix2 r p)) = drop (fun p => x (ix2 r p)) := by
  funext p
  pointwise [round]
  rw [neg_eq, negInf]
  rfl

/-- The largest of a row, spread over the row. -/
def thr (x : FVec Ideal S256x256 .f32) : FVec Ideal S256x256 .f32 :=
  broadcastTo S256x256 (shapeCast S256x1 (multiReduction .maximumf [1] S256 x 0xFF800000#32 reduces_S256x256_S256 (.inl rfl) rfl)
    shapeCasts_S256_S256x1) broadcasts_S256x1_S256x256

theorem thr_apply (x : FVec Ideal S256x256 .f32) (r p : Fin 256) : thr x (ix2 r p) = top (fun p => x (ix2 r p)) := by
  pointwise [thr]
  rw [negInf]
  rfl

theorem pay7_eq (i : grid0.Coords) (qi ki : Vec Ideal S256x64 .f32) (en pm : Vec Ideal S1x256 .i32) :
    k0_pay7 (F := Ideal) i qi ki en pm = round (round (round (k0_pay6 (F := Ideal) i qi ki en pm))) := rfl

theorem pay8_eq (a : IVec S256x256 1) (b c : FVec Ideal S256x256 .f32) :
    k0_pay8 (F := Ideal) a b c = select (andi a (cmpf .oge b (thr (round (round (round (round c)))))))
      (broadcast S256x256 (Scalar.ofBits .f32 0x00000000#32)) (broadcast S256x256 neg) := rfl

theorem rounds (x : FVec Ideal S256x256 .f32) (r : Fin 256) :
    (fun p => round (round (round (round (round (round (round x)))))) (ix2 r p)) = drop^[7] (fun p => x (ix2 r p)) := by
  rw [round_apply, round_apply, round_apply, round_apply, round_apply, round_apply, round_apply]
  rfl

theorem pay8_apply (a : IVec S256x256 1) (b c : FVec Ideal S256x256 .f32) (r p : Fin 256) :
    k0_pay8 (F := Ideal) a b c (ix2 r p)
      = if a (ix2 r p) = 1#1 ∧ thr (round (round (round (round c)))) (ix2 r p) ≤ b (ix2 r p) then 0 else ⊥ := by
  rw [pay8_eq]
  generalize thr (round (round (round (round c)))) = y
  pointwise
  rw [neg_eq]
  refine if_congr ?_ rfl rfl
  show _ = 1#1 ↔ _
  rw [IntOp.andi_eq_one, ofBool_one, decide_eq_true_eq]

/-- A phrase that a row may use. -/
def al (t : ℕ) (en pm : Vec Ideal S1x256 .i32) (r p : Fin 256) : Prop :=
  (en (ix2 0 p)).toInt ≤ (256 * t + r.val : ℕ) ∧ pm (ix2 0 p) ≠ 0#32

theorem pay5_apply (i : grid0.Coords) (en pm : Vec Ideal S1x256 .i32) (r p : Fin 256) :
    (k0_pay5 (F := Ideal) i en pm) (ix2 r p) = 1#1 ↔ al (i 0).val en pm r p := by
  pointwise [k0_pay5]
  rw [IntOp.andi_eq_one, IntOp.cmpi_sle, IntOp.cmpi_ne]
  have hi : (i 0).val < 8 := (i 0).isLt
  have e : (IntOp.addi (Scalar.muli (BitVec.ofNat 32 (i 0).val) 256#32) (BitVec.ofNat 32 r.val)).toInt = ((256 * (i 0).val + r.val : ℕ) : ℤ) := by
    have e1 : IntOp.addi (Scalar.muli (BitVec.ofNat 32 (i 0).val) 256#32) (BitVec.ofNat 32 r.val) = BitVec.ofNat 32 (256 * (i 0).val + r.val) := by
      apply BitVec.eq_of_toNat_eq
      simp only [IntOp.addi, Scalar.muli, IntOp.muli, BitVec.toNat_add, BitVec.toNat_mul, BitVec.toNat_ofNat]
      omega
    rw [e1, toInt_small _ (by omega)]
  rw [e]
  rfl

theorem pay6_apply (i : grid0.Coords) (qi ki : Vec Ideal S256x64 .f32) (en pm : Vec Ideal S1x256 .i32) (r p : Fin 256) :
    k0_pay6 (F := Ideal) i qi ki en pm (ix2 r p)
      = if (k0_pay5 (F := Ideal) i en pm) (ix2 r p) = 1#1 then ∑ l : Fin 64, qi (ix2 r l) * ki (ix2 p l) else ⊥ := by
  rw [← neg_eq]
  unfold k0_pay6
  generalize (k0_pay5 (F := Ideal) i en pm) = a
  pointwise [neg]
  rfl

theorem bias_apply (i : grid0.Coords) (qi ki : Vec Ideal S256x64 .f32) (en pm : Vec Ideal S1x256 .i32) (r p : Fin 256) :
    bias i qi ki en pm (ix2 r p)
      = if (k0_pay5 (F := Ideal) i en pm) (ix2 r p) = 1#1 ∧ top (drop^[7] fun p => k0_pay6 (F := Ideal) i qi ki en pm (ix2 r p))
            ≤ k0_pay6 (F := Ideal) i qi ki en pm (ix2 r p) then 0 else ⊥ := by
  unfold bias
  rw [pay8_apply, pay7_eq, thr_apply, rounds]

theorem pay17_apply (r : Fin 64) (c : Fin 128) : k0_pay17 (ix2 r c) = 1#1 ↔ r.val < c.val ∧ c.val ≤ r.val + 64 := by
  pointwise [k0_pay17]
  rw [IntOp.andi_eq_one, IntOp.cmpi_sgt, IntOp.cmpi_sle]
  have e1 : IntOp.addi (BitVec.ofNat 32 r.val) 64#32 = BitVec.ofNat 32 (r.val + 64) := by
    apply BitVec.eq_of_toNat_eq
    simp only [IntOp.addi, BitVec.toNat_add, BitVec.toNat_ofNat]
    omega
  rw [e1, toInt_small _ (by omega), toInt_small _ (by omega), toInt_small _ (by omega)]
  omega

theorem pay18_apply (t : Fin 8) (r : Fin 64) (c : Fin 128) : k0_pay18 (BitVec.ofNat 32 t.val) (ix2 r c) = 1#1 ↔
    (r.val < c.val ∧ c.val ≤ r.val + 64) ∧ (64 ≤ c.val ∨ 0 < t.val) := by
  rw [← pay17_apply]
  unfold k0_pay18
  generalize k0_pay17 = a
  pointwise
  have h1 : IntOp.cmpi .sge (BitVec.ofNat 32 c.val) 64#32 = 1#1 ↔ 64 ≤ c.val := by
    rw [IntOp.cmpi_sge, toInt_small _ (by omega), toInt_small _ (by omega)]; omega
  have h2 : Scalar.cmpi .sgt (BitVec.ofNat 32 t.val) 0#32 = 1#1 ↔ 0 < t.val := by
    show IntOp.cmpi .sgt (BitVec.ofNat 32 t.val) 0#32 = 1#1 ↔ _
    rw [IntOp.cmpi_sgt, toInt_small _ (by omega), toInt_small _ (by omega)]; omega
  rw [IntOp.andi_eq_one, IntOp.ori_eq_one, h1, h2]

theorem pay9_apply (x y : Vec Ideal S256x512 .bf16) (c : Fin 128) (j : Fin 512) : (k0_pay9 (F := Ideal) x y) (ix2 c j)
    = if h : c.val < 64 then x (ix2 (⟨192 + c.val, by omega⟩ : Fin 256) j) else y (ix2 (⟨c.val - 64, by omega⟩ : Fin 256) j) := by
  pointwise [k0_pay9]

theorem pay11_apply (y : Vec Ideal S256x512 .bf16) (c : Fin 128) (j : Fin 512) : (k0_pay11 (F := Ideal) y) (ix2 c j)
    = y (ix2 (⟨c.val, by omega⟩ : Fin 256) j) := by
  pointwise! [k0_pay11]

theorem pay13_apply (y : Vec Ideal S256x512 .bf16) (c : Fin 128) (j : Fin 512) : (k0_pay13 (F := Ideal) y) (ix2 c j)
    = y (ix2 (⟨64 + c.val, by omega⟩ : Fin 256) j) := by
  pointwise! [k0_pay13]

theorem pay15_apply (y : Vec Ideal S256x512 .bf16) (c : Fin 128) (j : Fin 512) : (k0_pay15 (F := Ideal) y) (ix2 c j)
    = y (ix2 (⟨128 + c.val, by omega⟩ : Fin 256) j) := by
  pointwise! [k0_pay15]

theorem halo_eq (x y : Vec Ideal S256x512 .bf16) : k0_pay10 (F := Ideal) x y = k0_pay9 (F := Ideal) x y ∧ k0_pay12 (F := Ideal) y = k0_pay11 (F := Ideal) y
    ∧ k0_pay14 (F := Ideal) y = k0_pay13 (F := Ideal) y ∧ k0_pay16 (F := Ideal) y = k0_pay15 (F := Ideal) y := ⟨rfl, rfl, rfl, rfl⟩

end Cert.Kernel2Ideal.Head

end
-- ==== Proof.Ctx.lean ====
module

public import proofs.«01_k».proof.Proof.HeadAt

/-! One head's context at a row, and a grid point's result, from whole arrays. -/

@[expose] public section

set_option maxRecDepth 16384

noncomputable section

open Idealize.ShloMosaic Idealize.ShloMosaic.TcCoe Idealize.SL.Sem

namespace Cert.Kernel2Ideal.Head

open Cert.Kernel2Ideal Cert.Kernel2Ideal.Gen Cert.Select Cert.Attend

/-- Row `r` of block `t`. -/
def row (t : Fin 8) (r : Fin 256) : Fin 2048 := ⟨256 * t.val + r.val, by omega⟩

/-- The key row in column `c` of the group of row `r`. -/
def key (t : Fin 8) (r : Fin 256) (c : Fin 128) : Fin 2048 := ⟨256 * t.val + 64 * (r.val / 64) + c.val - 64, by omega⟩

/-- The columns that a row uses. -/
def used (t : Fin 8) (r : Fin 256) (c : Fin 128) : Prop :=
  (r.val % 64 < c.val ∧ c.val ≤ r.val % 64 + 64) ∧ (64 ≤ r.val ∨ 64 ≤ c.val ∨ 0 < t.val)

theorem mask_iff (t : Fin 8) (r : Fin 256) (c : Fin 128) :
    (if r.val < 64 then k0_pay18 (BitVec.ofNat 32 t.val) else k0_pay17) (ix2 (⟨r.val % 64, Nat.mod_lt _ (by decide)⟩ : Fin 64) c) = 1#1
      ↔ used t r c := by
  unfold used
  by_cases h : r.val < 64
  · rw [if_pos h, pay18_apply]
    simp only []
    constructor
    · rintro ⟨h1, h2⟩; exact ⟨h1, Or.inr h2⟩
    · rintro ⟨h1, h2 | h2⟩
      · omega
      · exact ⟨h1, h2⟩
  · rw [if_neg h, pay17_apply]
    simp only []
    constructor
    · intro h1; exact ⟨h1, Or.inl (by omega)⟩
    · intro h1; exact h1.1

theorem four_key (t : Fin 8) (r : Fin 256) (c : Fin 128) (hu : used t r c) (x y : Vec Ideal S256x512 .bf16) (K : Fin 2048 → Fin 512 → EReal)
    (hy : ∀ p j, y (ix2 p j) = K (row t p) j)
    (hx : 0 < t.val → ∀ (p : Fin 256) j, x (ix2 p j) = K ⟨256 * t.val + p.val - 256, by omega⟩ j) (j : Fin 512) :
    four r (k0_pay9 (F := Ideal) x y) (k0_pay11 (F := Ideal) y) (k0_pay13 (F := Ideal) y) (k0_pay15 (F := Ideal) y) (ix2 c j) = K (key t r c) j := by
  unfold four
  unfold used at hu
  by_cases h0 : r.val < 64
  · rw [if_pos h0, pay9_apply]
    by_cases hc : c.val < 64
    · rw [dif_pos hc, hx (by omega)]
      exact congrArg (K · j) (Fin.ext (by simp only [key]; omega))
    · rw [dif_neg hc, hy]
      exact congrArg (K · j) (Fin.ext (by simp only [key, row]; omega))
  by_cases h1 : r.val < 128
  · rw [if_neg h0, if_pos h1, pay11_apply, hy]
    exact congrArg (K · j) (Fin.ext (by simp only [key, row]; omega))
  by_cases h2 : r.val < 192
  · rw [if_neg h0, if_neg h1, if_pos h2, pay13_apply, hy]
    exact congrArg (K · j) (Fin.ext (by simp only [key, row]; omega))
  · rw [if_neg h0, if_neg h1, if_neg h2, pay15_apply, hy]
    exact congrArg (K · j) (Fin.ext (by simp only [key, row]; omega))

instance alDec (t : ℕ) (en pm : Vec Ideal S1x256 .i32) (r : Fin 256) : DecidablePred (al t en pm r) :=
  fun p => inferInstanceAs (Decidable (_ ∧ _))

theorem masked_eq (i : grid0.Coords) (qi ki : Vec Ideal S256x64 .f32) (en pm : Vec Ideal S1x256 .i32) (r : Fin 256) :
    (fun p => k0_pay6 (F := Ideal) i qi ki en pm (ix2 r p))
      = Spec.masked (al (i 0).val en pm r) (fun l => qi (ix2 r l)) (fun p l => ki (ix2 p l)) := by
  funext p
  rw [pay6_apply]
  exact if_congr (pay5_apply i en pm r p) rfl rfl

theorem lp_eq (i : grid0.Coords) (qi ki : Vec Ideal S256x64 .f32) (en pm : Vec Ideal S1x256 .i32) (q : Fin 512 → EReal)
    (pk : Fin 256 → Fin 512 → EReal) (h : Fin 8) (r : Fin 256) :
    (fun p => Spec.logit q (pk p) h + bias i qi ki en pm (ix2 r p))
      = Spec.lp (al (i 0).val en pm r) (Spec.masked (al (i 0).val en pm r) (fun l => qi (ix2 r l)) (fun p l => ki (ix2 p l))) q pk h := by
  funext p
  rw [bias_apply, ← masked_eq]
  unfold Spec.lp
  simp only [pay5_apply]
  by_cases hp : al (i 0).val en pm r p ∧ top (drop^[7] fun p => k0_pay6 (F := Ideal) i qi ki en pm (ix2 r p))
            ≤ k0_pay6 (F := Ideal) i qi ki en pm (ix2 r p)
  · rw [if_pos hp, if_pos hp, add_zero]
  · rw [if_neg hp, if_neg hp, EReal.add_bot]

theorem head_ctx (o : ℕ) (h : Fin 8) (ho : o = 64 * h.val) (hq : S256x512.Slices ![0, o] S256x64) (hk : S128x512.Slices ![0, o] S128x64)
    (i : grid0.Coords) (t : Fin 8) (ht : (i 0).val = t.val)
    (x0 x10 : Vec Ideal S256x64 .f32) (x1 x2 : Vec Ideal S1x256 .i32) (x3 x4 x5 x6 x7 x8 x9 : Vec Ideal S256x512 .bf16)
    (sk : FVec Ideal S64x1 .bf16) (sv : FVec Ideal S1x64 .f32) (K V : Fin 2048 → Fin 512 → EReal)
    (SK : Fin 64 → Fin 8 → EReal) (SV : Fin 8 → Fin 64 → EReal)
    (h5 : ∀ p j, x5 (ix2 p j) = K (row t p) j)
    (h4 : 0 < t.val → ∀ (p : Fin 256) j, x4 (ix2 p j) = K ⟨256 * t.val + p.val - 256, by omega⟩ j)
    (h7 : ∀ p j, x7 (ix2 p j) = V (row t p) j)
    (h6 : 0 < t.val → ∀ (p : Fin 256) j, x6 (ix2 p j) = V ⟨256 * t.val + p.val - 256, by omega⟩ j)
    (hsk : ∀ l, sk (ix2 l 0) = SK l h) (hsv : ∀ d, sv (ix2 0 d) = SV h d) (r : Fin 256) (d : Fin 64) :
    head o hq hk (bias i x0 x10 x1 x2) k0_pay17 (k0_pay18 (BitVec.ofNat 32 (i 0).val)) x3 (k0_pay9 (F := Ideal) x4 x5) (k0_pay11 (F := Ideal) x5)
        (k0_pay13 (F := Ideal) x5) (k0_pay15 (F := Ideal) x5) (k0_pay10 (F := Ideal) x6 x7) (k0_pay12 (F := Ideal) x7) (k0_pay14 (F := Ideal) x7)
        (k0_pay16 (F := Ideal) x7) x8 x9 sk sv (ix2 r d)
      = Spec.ctx (row t r) (al t.val x1 x2 r) (fun l => x0 (ix2 r l)) (fun p l => x10 (ix2 p l)) (fun j => x3 (ix2 r j)) K V
          (fun p j => x8 (ix2 p j)) (fun p j => x9 (ix2 p j)) SK SV h d := by
  rw [head_apply o h ho, (halo_eq x6 x7).1, (halo_eq x6 x7).2.1, (halo_eq x6 x7).2.2.1, (halo_eq x6 x7).2.2.2, lp_eq, hsv]
  simp only [hsk]
  rw [ht]
  unfold Spec.ctx
  refine att_reindex (key t r) (used t r) _ _ _ _ _ _ _ _ ?_ ?_ ?_ ?_ ?_
  · intro c c' hc hc' e
    have e := congrArg Fin.val e
    unfold used at hc hc'
    simp only [key] at e
    exact Fin.ext (by omega)
  · intro c hc
    rw [if_pos ((mask_iff t r c).2 hc)]
    unfold Spec.lw
    have hb : (key t r c).val ≤ (row t r).val ∧ (row t r).val < (key t r c).val + 64 := by
      unfold used at hc
      simp only [key, row]
      omega
    rw [if_pos hb]
    exact congrArg (Spec.logit _ · h) (funext fun j => four_key t r c hc x4 x5 K h5 h4 j)
  · intro c hc
    exact four_key t r c hc x6 x7 V h7 h6 _
  · intro c hc
    exact if_neg fun e => hc ((mask_iff t r c).1 e)
  · intro T hT
    unfold Spec.lw
    refine if_neg fun hb => ?_
    simp only [row] at hb
    refine hT ⟨T.val + 64 - 256 * t.val - 64 * (r.val / 64), by omega⟩ ?_ (Fin.ext ?_)
    · unfold used
      simp only []
      omega
    · simp only [key]
      omega

end Cert.Kernel2Ideal.Head

end
-- ==== Proof.Row.lean ====
module

public import proofs.«01_k».proof.Proof.Ctx

/-! A grid point's result at a row, from whole arrays. -/

@[expose] public section

set_option maxRecDepth 16384

noncomputable section

open Idealize.ShloMosaic Idealize.ShloMosaic.TcCoe Idealize.SL.Sem

namespace Cert.Kernel2Ideal.Head

open Cert.Kernel2Ideal Cert.Kernel2Ideal.Gen Cert.Select Cert.Attend

theorem ld_sk (x : Vec Ideal S64x8 .bf16) (o : ℕ) (h : Fin 8) (ho : o = h.val) (hi) (l : Fin 64) :
    View.ld x (Rect.unit ![0, o] ![64, 1] hi) (ix2 l 0) = x (ix2 l h) := by
  subst ho
  refine congrArg x (funext fun a => ?_)
  fin_cases a <;> exact Fin.ext (by simp)

theorem ld_sv (x : Vec Ideal S8x64 .f32) (o : ℕ) (h : Fin 8) (ho : o = h.val) (hi) (d : Fin 64) :
    View.ld x (Rect.unit ![o, 0] ![1, 64] hi) (ix2 0 d) = x (ix2 h d) := by
  subst ho
  refine congrArg x (funext fun a => ?_)
  fin_cases a <;> exact Fin.ext (by simp)

theorem point_apply (i : grid0.Coords) (t : Fin 8) (ht : (i 0).val = t.val)
    (x0 : Vec Ideal S256x64 .f32) (x1 x2 : Vec Ideal S1x256 .i32)
    (x3 x4 x5 x6 x7 x8 x9 : Vec Ideal S256x512 .bf16) (x10 : Vec Ideal S256x64 .f32) (x11 : Vec Ideal S64x8 .bf16)
    (x12 : Vec Ideal S8x64 .f32) (x13 : Vec Ideal S256x768 .f32) (x15 : Vec Ideal S1x768 .f32)
    (wo : Vec Ideal S512x768 .bf16) (w1 : Vec Ideal S768x3072 .bf16) (w2 : Vec Ideal S3072x768 .bf16)
    (K V : Fin 2048 → Fin 512 → EReal)
    (h5 : ∀ p j, x5 (ix2 p j) = K (row t p) j)
    (h4 : 0 < t.val → ∀ (p : Fin 256) j, x4 (ix2 p j) = K ⟨256 * t.val + p.val - 256, by omega⟩ j)
    (h7 : ∀ p j, x7 (ix2 p j) = V (row t p) j)
    (h6 : 0 < t.val → ∀ (p : Fin 256) j, x6 (ix2 p j) = V ⟨256 * t.val + p.val - 256, by omega⟩ j)
    (r : Fin 256) (c : Fin 768) :
    point i x0 x1 x2 x3 x4 x5 x6 x7 x8 x9 x10 x11 x12 x13 x15 wo w1 w2 (ix2 r c)
      = Spec.mlp (Spec.yrow (Spec.ctx (row t r) (al t.val x1 x2 r) (fun l => x0 (ix2 r l)) (fun p l => x10 (ix2 p l)) (fun j => x3 (ix2 r j)) K V
          (fun p j => x8 (ix2 p j)) (fun p j => x9 (ix2 p j)) (fun l h => x11 (ix2 l h)) (fun h d => x12 (ix2 h d)))
          (fun c => x13 (ix2 r c)) (fun j c => wo (ix2 j c))) (fun c => x15 (ix2 0 c)) (fun c f => w1 (ix2 c f)) (fun f c => w2 (ix2 f c)) c := by
  unfold point
  simp only []
  rw [pay1_apply]
  simp only [mid_apply]
  refine congrArg (fun f => Spec.mlp (Spec.yrow f _ _) _ _ _ c) (funext fun h => funext fun d => ?_)
  have hc := fun (o : ℕ) (h : Fin 8) (ho : o = 64 * h.val) hq hk sk sv hsk hsv =>
    head_ctx o h ho hq hk i t ht x0 x10 x1 x2 x3 x4 x5 x6 x7 x8 x9 sk sv K V (fun l h => x11 (ix2 l h)) (fun h d => x12 (ix2 h d)) h5 h4 h7 h6 hsk hsv r d
  fin_cases h
  · exact hc 0 0 rfl _ _ _ _ (ld_sk x11 0 0 rfl _) (ld_sv x12 0 0 rfl _)
  · exact hc 64 1 rfl _ _ _ _ (ld_sk x11 1 1 rfl _) (ld_sv x12 1 1 rfl _)
  · exact hc 128 2 rfl _ _ _ _ (ld_sk x11 2 2 rfl _) (ld_sv x12 2 2 rfl _)
  · exact hc 192 3 rfl _ _ _ _ (ld_sk x11 3 3 rfl _) (ld_sv x12 3 3 rfl _)
  · exact hc 256 4 rfl _ _ _ _ (ld_sk x11 4 4 rfl _) (ld_sv x12 4 4 rfl _)
  · exact hc 320 5 rfl _ _ _ _ (ld_sk x11 5 5 rfl _) (ld_sv x12 5 5 rfl _)
  · exact hc 384 6 rfl _ _ _ _ (ld_sk x11 6 6 rfl _) (ld_sv x12 6 6 rfl _)
  · exact hc 448 7 rfl _ _ _ _ (ld_sk x11 7 7 rfl _) (ld_sv x12 7 7 rfl _)

end Cert.Kernel2Ideal.Head

end
-- ==== Proof.Blocks.lean ====
module

public import proofs.«01_k».proof.Proof.Row
public import proofs.«01_k».proof.Proof.Gen.Kernel2Ideal.Value
public import Idealize.ShloMosaic.Lib.Pipeline.ValueKit

/-! The blocks that a grid point reads, and the result array. -/

@[expose] public section

set_option maxRecDepth 16384

noncomputable section

open Idealize.ShloMosaic Idealize.ShloMosaic.TcCoe Idealize.SL.Sem
open Idealize.ShloMosaic.Pipeline (Dat)

namespace Cert.Kernel2Ideal.Head

open Cert.Kernel2Ideal Cert.Kernel2Ideal.Gen Cert.Select Cert.Attend

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![t.val, 0] ∧ win0_4.index t = ![t.val - 1, 0] ∧ win0_5.index t = ![t.val, 0] ∧ win0_6.index t = ![t.val - 1, 0] ∧ win0_7.index t = ![t.val, 0] ∧ win0_8.index t = ![0, 0] ∧ win0_9.index t = ![0, 0] ∧ win0_10.index t = ![0, 0] ∧ win0_11.index t = ![0, 0] ∧ win0_12.index t = ![0, 0] ∧ win0_13.index t = ![t.val, 0] ∧ win0_14.index t = ![0, 0] ∧ win0_15.index t = ![0, 0] ∧ win0_16.index t = ![0, 0] ∧ win0_17.index t = ![0, 0]
    ∧ win0_18.index t = ![t.val, 0] ∧ (grid0.coords t 0).val = t.val :=
  (by decide +kernel : ∀ t : Fin grid0.N, _)

/-- The block's number. -/
def pt (t : Fin cfg0.N) : Fin 8 := ⟨t.val, lt_of_lt_of_eq t.isLt N_0⟩

theorem b0 (c : Dev nD) (t : Fin cfg0.N) (r : Fin 256) (j : Fin 64) : iblk m c 0 t (ix2 r j) = (m ((c : Thread nD τ).loc main_arg0)) (ix2 (row (pt t) r) j) := by
  blk_point [iblk, V, idx t]
  simp only [row, pt]; omega

theorem b1 (c : Dev nD) (t : Fin cfg0.N) : iblk m c 1 t = (m ((c : Thread nD τ).loc main_arg1)) := by
  funext y
  blk_point [iblk, V, idx t]

theorem b2 (c : Dev nD) (t : Fin cfg0.N) : iblk m c 2 t = (m ((c : Thread nD τ).loc main_arg2)) := by
  funext y
  blk_point [iblk, V, idx t]

theorem b3 (c : Dev nD) (t : Fin cfg0.N) (r : Fin 256) (j : Fin 512) : iblk m c 3 t (ix2 r j) = (m ((c : Thread nD τ).loc main_arg3)) (ix2 (row (pt t) r) j) := by
  blk_point [iblk, V, idx t]
  simp only [row, pt]; omega

theorem b4 (c : Dev nD) (t : Fin cfg0.N) (h0 : 0 < t.val) (r : Fin 256) (j : Fin 512) : iblk m c 4 t (ix2 r j) = (m ((c : Thread nD τ).loc main_arg4)) (ix2 (⟨256 * t.val + r.val - 256, by have := (pt t).isLt; simp only [pt] at this; omega⟩ : Fin 2048) j) := by
  blk_point [iblk, V, idx t]

theorem b5 (c : Dev nD) (t : Fin cfg0.N) (r : Fin 256) (j : Fin 512) : iblk m c 5 t (ix2 r j) = (m ((c : Thread nD τ).loc main_arg4)) (ix2 (row (pt t) r) j) := by
  blk_point [iblk, V, idx t]
  simp only [row, pt]; omega

theorem b6 (c : Dev nD) (t : Fin cfg0.N) (h0 : 0 < t.val) (r : Fin 256) (j : Fin 512) : iblk m c 6 t (ix2 r j) = (m ((c : Thread nD τ).loc main_arg5)) (ix2 (⟨256 * t.val + r.val - 256, by have := (pt t).isLt; simp only [pt] at this; omega⟩ : Fin 2048) j) := by
  blk_point [iblk, V, idx t]

theorem b7 (c : Dev nD) (t : Fin cfg0.N) (r : Fin 256) (j : Fin 512) : iblk m c 7 t (ix2 r j) = (m ((c : Thread nD τ).loc main_arg5)) (ix2 (row (pt t) r) j) := by
  blk_point [iblk, V, idx t]
  simp only [row, pt]; omega

theorem b8 (c : Dev nD) (t : Fin cfg0.N) : iblk m c 8 t = (m ((c : Thread nD τ).loc main_arg6)) := by
  funext y
  blk_point [iblk, V, idx t]

theorem b9 (c : Dev nD) (t : Fin cfg0.N) : iblk m c 9 t = (m ((c : Thread nD τ).loc main_arg7)) := by
  funext y
  blk_point [iblk, V, idx t]

theorem b10 (c : Dev nD) (t : Fin cfg0.N) : iblk m c 10 t = (m ((c : Thread nD τ).loc main_arg8)) := by
  funext y
  blk_point [iblk, V, idx t]

theorem b11 (c : Dev nD) (t : Fin cfg0.N) : iblk m c 11 t = (m ((c : Thread nD τ).loc main_arg9)) := by
  funext y
  blk_point [iblk, V, idx t]

theorem b12 (c : Dev nD) (t : Fin cfg0.N) : iblk m c 12 t = (m ((c : Thread nD τ).loc main_arg10)) := by
  funext y
  blk_point [iblk, V, idx t]

theorem b13 (c : Dev nD) (t : Fin cfg0.N) (r : Fin 256) (j : Fin 768) : iblk m c 13 t (ix2 r j) = (m ((c : Thread nD τ).loc main_arg11)) (ix2 (row (pt t) r) j) := by
  blk_point [iblk, V, idx t]
  simp only [row, pt]; omega

theorem b14 (c : Dev nD) (t : Fin cfg0.N) : iblk m c 14 t = (m ((c : Thread nD τ).loc main_arg12)) := by
  funext y
  blk_point [iblk, V, idx t]

theorem b15 (c : Dev nD) (t : Fin cfg0.N) : iblk m c 15 t = (m ((c : Thread nD τ).loc main_arg13)) := by
  funext y
  blk_point [iblk, V, idx t]

theorem b16 (c : Dev nD) (t : Fin cfg0.N) : iblk m c 16 t = (m ((c : Thread nD τ).loc main_arg14)) := by
  funext y
  blk_point [iblk, V, idx t]

theorem b17 (c : Dev nD) (t : Fin cfg0.N) : iblk m c 17 t = (m ((c : Thread nD τ).loc main_arg15)) := by
  funext y
  blk_point [iblk, V, idx t]

theorem scr (c : Dev nD) : ∀ (n : ℕ) (hn : n < cfg0.N), (outsAt0 m c n hn).2.1 = (m ((c : Thread nD τ).loc main_arg12)) ∧ (outsAt0 m c n hn).2.2.1 = (m ((c : Thread nD τ).loc main_arg14))
    ∧ (outsAt0 m c n hn).2.2.2 = (m ((c : Thread nD τ).loc main_arg15)) := by
  intro n
  induction n with
  | zero =>
    intro hn
    rw [show outsAt0 m c 0 hn = _ from outsAt0_A m c ⟨0, hn⟩ rfl]
    simp only [sout_A_0, sout_A_1, sout_A_2, pay2_eq, pay3_eq, pay4_eq, b14, b16, b17, and_self]
  | succ n ih =>
    intro hn
    have hN := lt_of_lt_of_eq hn (show cfg0.N = 8 from N_0)
    rw [show outsAt0 m c (n + 1) hn = _ from outsAt0_B m c ⟨n + 1, hn⟩ (by show ¬(n + 1) % 8 = 0; omega)]
    exact ih (Nat.lt_of_succ_lt hn)

theorem out_eq (c : Dev nD) (t : Fin cfg0.N) : (outsAt0 m c t.val t.isLt).1
    = point (grid0.coords t) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t) (iblk m c 15 t)
        (m ((c : Thread nD τ).loc main_arg12)) (m ((c : Thread nD τ).loc main_arg14)) (m ((c : Thread nD τ).loc main_arg15)) := by
  by_cases h0 : t.val % 8 = 0
  · rw [outsAt0_A m c t h0]
    simp only [out_A, pay2_eq, pay3_eq, pay4_eq, b14, b16, b17]
  · rw [outsAt0_B m c t h0]
    simp only [out_B]
    have h := scr m c (t.val - 1) (Nat.lt_of_le_of_lt (Nat.sub_le _ _) t.isLt)
    rw [h.1, h.2.1, h.2.2]

/-- A phrase that row `s` may use. -/
def alw (s : ℕ) (en pm : IVec S1x256 32) (p : Fin 256) : Prop := (en (ix2 0 p)).toInt ≤ (s : ℕ) ∧ pm (ix2 0 p) ≠ 0#32

instance alwDec (s : ℕ) (en pm : IVec S1x256 32) : DecidablePred (alw s en pm) :=
  fun p => inferInstanceAs (Decidable (_ ∧ _))

/-- One entry of the result. -/
def res (a0 : FVec Ideal S2048x64 .f32) (a1 a2 : IVec S1x256 32) (a3 a4 a5 : FVec Ideal S2048x512 .bf16) (a6 a7 : FVec Ideal S256x512 .bf16)
    (a8 : FVec Ideal S256x64 .f32) (a9 : FVec Ideal S64x8 .bf16) (a10 : FVec Ideal S8x64 .f32) (a11 : FVec Ideal S2048x768 .f32)
    (a12 : FVec Ideal S512x768 .bf16) (a13 : FVec Ideal S1x768 .f32) (a14 : FVec Ideal S768x3072 .bf16) (a15 : FVec Ideal S3072x768 .bf16)
    (s : Fin 2048) (c : Fin 768) : EReal :=
  Spec.mlp (Spec.yrow (Spec.ctx s (alw s.val a1 a2) (fun l => a0 (ix2 s l)) (fun p l => a8 (ix2 p l)) (fun j => a3 (ix2 s j))
      (fun t j => a4 (ix2 t j)) (fun t j => a5 (ix2 t j)) (fun p j => a6 (ix2 p j)) (fun p j => a7 (ix2 p j)) (fun l h => a9 (ix2 l h))
      (fun h d => a10 (ix2 h d))) (fun c => a11 (ix2 s c)) (fun j c => a12 (ix2 j c)))
    (fun c => a13 (ix2 0 c)) (fun c f => a14 (ix2 c f)) (fun f c => a15 (ix2 f c)) c

theorem ctx_al {s : Fin 2048} {al al' : Fin 256 → Prop} [i1 : DecidablePred al] [i2 : DecidablePred al'] (e : al = al') {qi : Fin 64 → EReal}
    {ki : Fin 256 → Fin 64 → EReal} {q : Fin 512 → EReal} {k v : Fin 2048 → Fin 512 → EReal} {pk pv : Fin 256 → Fin 512 → EReal}
    {sk : Fin 64 → Fin 8 → EReal} {sv : Fin 8 → Fin 64 → EReal} {h : Fin 8} {d : Fin 64} :
    Spec.ctx s al qi ki q k v pk pv sk sv h d = Spec.ctx s al' qi ki q k v pk pv sk sv h d := by
  subst e
  rw [Subsingleton.elim i1 i2]

theorem block_apply (c : Dev nD) (t : Fin cfg0.N) (r : Fin 256) (j : Fin 768) : (outsAt0 m c t.val t.isLt).1 (ix2 r j)
    = res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (row (pt t) r) j := by
  have hi : (grid0.coords t 0).val = (pt t).val := (idx t).2.2.2.2.2.2.2.2.2.2.2.2.2.2.2.2.2.2.2
  rw [out_eq, point_apply (grid0.coords t) (pt t) hi _ _ _ _ _ _ _ _ _ _ _ _ _ _ _ _ _ _ (fun s j => (m ((c : Thread nD τ).loc main_arg4)) (ix2 s j)) (fun s j => (m ((c : Thread nD τ).loc main_arg5)) (ix2 s j))
    (fun p j => b5 m c t p j) (fun h0 p j => b4 m c t h0 p j) (fun p j => b7 m c t p j) (fun h0 p j => b6 m c t h0 p j)]
  rw [b1, b2, b8, b9, b10, b11, b12, b15, funext (b0 m c t r), funext (b3 m c t r), funext (b13 m c t r)]
  unfold res
  refine congrArg (fun f => Spec.mlp (Spec.yrow f _ _) _ _ _ j) (funext fun h => funext fun d => ctx_al ?_)
  rfl

/-- The result array after the run. -/
theorem final (c : Dev nD) : (dats m 0 c).arrAt 18 (cfgs 0).N
    = fun i : S2048x768.Idx => res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (i 0) (i 1) := by
  refine (dats m 0 c).arrAt_eq_of_covers 18 _ (by decide +kernel) fun t _ y => ?_
  blk_simp
  rw [after0_18]
  idx_vars y
  refine (block_apply m c t y0 y1).trans (congrArg₂ (res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (Fin.ext ?_) (Fin.ext ?_))
  · blk_simp
    simp [idx t, row, pt, Nat.mul_comm]
  · blk_simp
    simp [idx t]

end Cert.Kernel2Ideal.Head

end
-- ==== Proof.Result.lean ====
module

public import proofs.«01_k».proof.Proof.Context
public import proofs.«01_k».proof.Proof.Blocks

@[expose] public section

set_option maxRecDepth 16384

noncomputable section

open Idealize.ShloMosaic Idealize.ShloMosaic.TcCoe Idealize.SL.Sem

namespace Cert.Reference2Ideal.Rows

open Cert.Reference2Ideal Cert.Reference2Ideal.Gen Cert.Reference2Ideal.Read Cert.Select Cert.Attend

section
variable (x0 : FVec Ideal S2048x64 .f32) (x1 x2 : IVec S1x256 32) (x3 x4 x5 : FVec Ideal S2048x512 .bf16) (x6 x7 : FVec Ideal S256x512 .bf16) (x8 : FVec Ideal S256x64 .f32) (x9 : FVec Ideal S64x8 .bf16) (x10 : FVec Ideal S8x64 .f32)
  (x11 : FVec Ideal S2048x768 .f32) (x12 : FVec Ideal S512x768 .f32) (x13 : FVec Ideal S1x768 .f32) (x14 : FVec Ideal S768x3072 .f32) (x15 : FVec Ideal S3072x768 .f32)

theorem row_apply (s : Fin 2048) (c : Fin 768) :
    val_main_v91 (F := Ideal) x0 x1 x2 x3 x4 x5 x6 x7 x8 x9 x10 x11 x12 (ix3 0 s c)
      = Spec.yrow (fun h d => val_main_v88 (F := Ideal) x0 x1 x2 x3 x4 x5 x6 x7 x8 x9 x10 (ix4 0 s h d)) (fun c => x11 (ix2 s c)) (fun j c => x12 (ix2 j c)) c := by
  unfold val_main_v91 val_main_v90 val_main_v89
  generalize val_main_v88 (F := Ideal) x0 x1 x2 x3 x4 x5 x6 x7 x8 x9 x10 = y
  pointwise [val_main_v12]
  unfold Spec.yrow
  refine congrArg _ ?_
  rw [Spec.sum_lane]
  refine Finset.sum_congr rfl fun h _ => Finset.sum_congr rfl fun d _ => ?_
  have e1 : (⟨(Spec.lane h d).val / 64, by omega⟩ : Fin 8) = h := Fin.ext (by unfold Spec.lane; simp only; omega)
  have e2 : (⟨(Spec.lane h d).val % 64, by omega⟩ : Fin 64) = d := Fin.ext (by unfold Spec.lane; simp only; omega)
  rw [e1, e2]

theorem norm_apply (s : Fin 2048) (c : Fin 768) :
    val_main_v104 (F := Ideal) x0 x1 x2 x3 x4 x5 x6 x7 x8 x9 x10 x11 x12 x13 (ix3 0 s c)
      = Spec.nrow (fun c => val_main_v91 (F := Ideal) x0 x1 x2 x3 x4 x5 x6 x7 x8 x9 x10 x11 x12 (ix3 0 s c)) (fun c => x13 (ix2 0 c)) c := by
  unfold val_main_v104 val_main_v101 val_main_v100 val_main_v99 val_main_v98 val_main_v96 val_main_v94 val_main_v93 val_main_v92
  generalize val_main_v91 (F := Ideal) x0 x1 x2 x3 x4 x5 x6 x7 x8 x9 x10 x11 x12 = y
  pointwise [val_main_v103, val_main_v102, val_main_v97, val_main_v95, val_main_cst_11, val_main_cst_12, val_main_cst_13]
  unfold Spec.nrow
  dsimp only

theorem hid_apply (s : Fin 2048) (f : Fin 3072) :
    val_main_v105 (F := Ideal) x0 x1 x2 x3 x4 x5 x6 x7 x8 x9 x10 x11 x12 x13 x14 (ix3 0 s f)
      = ∑ c, val_main_v104 (F := Ideal) x0 x1 x2 x3 x4 x5 x6 x7 x8 x9 x10 x11 x12 x13 (ix3 0 s c) * x14 (ix2 c f) := by
  unfold val_main_v105
  generalize val_main_v104 (F := Ideal) x0 x1 x2 x3 x4 x5 x6 x7 x8 x9 x10 x11 x12 x13 = y
  pointwise []

theorem act_apply (s : Fin 2048) (f : Fin 3072) :
    val_main_v118 (F := Ideal) x0 x1 x2 x3 x4 x5 x6 x7 x8 x9 x10 x11 x12 x13 x14 (ix3 0 s f)
      = Spec.act (val_main_v105 (F := Ideal) x0 x1 x2 x3 x4 x5 x6 x7 x8 x9 x10 x11 x12 x13 x14 (ix3 0 s f)) := by
  unfold val_main_v118 val_main_v117 val_main_v115 val_main_v113 val_main_v112 val_main_v110 val_main_v109 val_main_v107 val_main_v106
  generalize val_main_v105 (F := Ideal) x0 x1 x2 x3 x4 x5 x6 x7 x8 x9 x10 x11 x12 x13 x14 = y
  pointwise [val_main_v108, val_main_v111, val_main_v114, val_main_v116, val_main_cst_14, val_main_cst_15, val_main_cst_16, val_main_cst_17]
  unfold Spec.act
  rw [mul_assoc (y (ix3 0 s f)) (y (ix3 0 s f)) (y (ix3 0 s f))]

theorem out_apply (s : Fin 2048) (c : Fin 768) :
    val_main_v121 (F := Ideal) x0 x1 x2 x3 x4 x5 x6 x7 x8 x9 x10 x11 x12 x13 x14 x15 (ix2 s c)
      = val_main_v91 (F := Ideal) x0 x1 x2 x3 x4 x5 x6 x7 x8 x9 x10 x11 x12 (ix3 0 s c)
        + ∑ f, val_main_v118 (F := Ideal) x0 x1 x2 x3 x4 x5 x6 x7 x8 x9 x10 x11 x12 x13 x14 (ix3 0 s f) * x15 (ix2 f c) := by
  unfold val_main_v121 val_main_v120 val_main_v119
  generalize val_main_v118 (F := Ideal) x0 x1 x2 x3 x4 x5 x6 x7 x8 x9 x10 x11 x12 x13 x14 = y
  generalize val_main_v91 (F := Ideal) x0 x1 x2 x3 x4 x5 x6 x7 x8 x9 x10 x11 x12 = z
  pointwise []

/-- The reference's result is the kernel's. -/
theorem result_apply (h3 : ∀ i, Fine (x3 i)) (h4 : ∀ i, Fine (x4 i)) (h6 : ∀ i, Fine (x6 i)) (h9 : ∀ i, Fine (x9 i))
    (hs : ∀ s : Fin 2048, Separate (alw s.val x1 x2) (Spec.masked (alw s.val x1 x2) (fun l => x0 (ix2 s l)) (fun p l => x8 (ix2 p l)))) :
    val_main_v121 (F := Ideal) x0 x1 x2 x3 x4 x5 x6 x7 x8 x9 x10 x11 x12 x13 x14 x15
      = fun i : S2048x768.Idx => Cert.Kernel2Ideal.Head.res x0 x1 x2 x3 x4 x5 x6 x7 x8 x9 x10 x11 x12 x13 x14 x15 (i 0) (i 1) := by
  funext i
  obtain ⟨s, c, rfl⟩ : ∃ (s : Fin 2048) (c : Fin 768), i = ix2 s c := ⟨i 0, i 1, by funext a; fin_cases a <;> rfl⟩
  show _ = Cert.Kernel2Ideal.Head.res x0 x1 x2 x3 x4 x5 x6 x7 x8 x9 x10 x11 x12 x13 x14 x15 s c
  rw [out_apply]
  have ec : (fun h d => val_main_v88 (F := Ideal) x0 x1 x2 x3 x4 x5 x6 x7 x8 x9 x10 (ix4 0 s h d)) = _ :=
    funext fun h => funext fun d => ctx_apply x0 x1 x2 x3 x4 x5 x6 x7 x8 x9 x10 s h3 h4 h6 h9 (hs s) h d
  have ey : (fun c => val_main_v91 (F := Ideal) x0 x1 x2 x3 x4 x5 x6 x7 x8 x9 x10 x11 x12 (ix3 0 s c)) = _ :=
    funext fun c => (row_apply x0 x1 x2 x3 x4 x5 x6 x7 x8 x9 x10 x11 x12 s c).trans (congrArg (fun k => Spec.yrow k (fun c => x11 (ix2 s c)) (fun j c => x12 (ix2 j c)) c) ec)
  have ef : ∀ f, val_main_v118 (F := Ideal) x0 x1 x2 x3 x4 x5 x6 x7 x8 x9 x10 x11 x12 x13 x14 (ix3 0 s f) * x15 (ix2 f c)
      = Spec.act (∑ c', Spec.nrow (fun c => val_main_v91 (F := Ideal) x0 x1 x2 x3 x4 x5 x6 x7 x8 x9 x10 x11 x12 (ix3 0 s c)) (fun c => x13 (ix2 0 c)) c' * x14 (ix2 c' f)) * x15 (ix2 f c) := fun f => by
    rw [act_apply, hid_apply, Finset.sum_congr rfl fun c' _ => congrArg (· * x14 (ix2 c' f)) (norm_apply x0 x1 x2 x3 x4 x5 x6 x7 x8 x9 x10 x11 x12 x13 s c')]
  rw [Finset.sum_congr rfl fun f _ => ef f]
  rw [ey, show val_main_v91 (F := Ideal) x0 x1 x2 x3 x4 x5 x6 x7 x8 x9 x10 x11 x12 (ix3 0 s c) = _ from congrFun ey c]
  rfl

end

end Cert.Reference2Ideal.Rows
end
-- ==== Proof.Separate.lean ====
module

public import proofs.«01_k».proof.Proof.Context
public import proofs.«01_k».proof.Pre_scores_separate
public import Idealize.ShloMosaic.Lib.ReduceAll

@[expose] public section

set_option maxRecDepth 16384

noncomputable section

open Idealize.ShloMosaic Idealize.ShloMosaic.TcCoe Idealize.SL.Sem

namespace Cert.Pre_scores_separate

open Cert.Select Cert.Reference2Ideal.Rows

instance facts : Facts where
  shapeCasts_S1x256_S256 := by decide
  bcast_S256_S1x256_1 := by decide
  bcast_S2048_S2048x1_0 := by decide
  bcast_S1x256_S2048x256_0_1 := by decide
  bcast_S2048x1_S2048x256_0_1 := by decide
  bcast_S_S256 := by decide
  bcast_S256_S256x1_0 := by decide
  bcast_S256x1_S256x256_0_1 := by decide
  bcast_S1x256_S256x256_0_1 := by decide
  bcast_S256x256_S1x256x256_1_2 := by decide
  bcast_S2048x256_S2048x256x1_0_1 := by decide
  bcast_S1x256x256_S2048x256x256_0_1_2 := by decide
  bcast_S2048x256x1_S2048x256x256_0_1_2 := by decide
  bcast_S2048x256_S2048x1x256_0_2 := by decide
  bcast_S2048x1x256_S2048x256x256_0_1_2 := by decide
  bcast_S_S2048x256 := by decide
  reducesTo_S2048x256x256_S_d0_1_2 := by decide
  h_S_ := by decide
  reducesTo_S2048x256_S_d0_1 := by decide
  bitsLt_bf16_f32 := by decide
  bcast_S_S2048x512 := by decide
  reducesTo_S2048x512_S_d0_1 := by decide
  bcast_S_S256x512 := by decide
  reducesTo_S256x512_S_d0_1 := by decide
  bcast_S_S64x8 := by decide
  reducesTo_S64x8_S_d0_1 := by decide
  dot_S2048x64_S256x64_S2048x256_1_1_0_0_n_n_wf := by decide

instance : Subsingleton S_.Idx := ⟨fun a b => funext fun i => i.elim0⟩

theorem inf_bits : Ideal.ofBits .f32 0x7F800000#32 = ⊤ := by simp [Ideal.ofBits, Ideal.ieee]

theorem fine_of {φ : FTy} (x : Ideal φ) (h : Ideal.cmp .olt (max x (-x) : EReal) (Ideal.ofBits .f32 0x7F800000#32) = 1#1) : Fine x := by
  rw [inf_bits] at h
  have h : max (x : EReal) (-x) < ⊤ := by
    unfold Ideal.cmp at h
    by_contra hc
    simp [hc] at h
  constructor
  · rintro rfl
    simp at h
  · rintro rfl
    simp at h

theorem part3 (a : IVec S_ 1) (b : FVec Ideal S64x8 .f32) (h : fn_part3 (F := Ideal) a b ix0 = 1#1) : a ix0 = 1#1 ∧ ∀ i, Fine (b i) := by
  unfold fn_part3 at h
  dsimp only at h
  have h := IntOp.andi_eq_one.1 h
  exact ⟨h.1, fun i => fine_of _ (Host.reduce_andi_all _ _ _ _ _ h.2 i)⟩

theorem part2 (x4 : FVec Ideal S2048x512 .bf16) (x6 : FVec Ideal S256x512 .bf16) (x9 : FVec Ideal S64x8 .bf16) (a : IVec S_ 1) (b : FVec Ideal S2048x512 .f32)
    (h : fn_part2 (F := Ideal) x4 x6 x9 a b ix0 = 1#1) : a ix0 = 1#1 ∧ (∀ i, Fine (b i)) ∧ (∀ i, Fine (x4 i)) ∧ (∀ i, Fine (x6 i)) ∧ ∀ i, Fine (x9 i) := by
  unfold fn_part2 at h
  dsimp only at h
  obtain ⟨h, h9⟩ := part3 _ _ h
  obtain ⟨h, h6⟩ := IntOp.andi_eq_one.1 h
  obtain ⟨h, h4⟩ := IntOp.andi_eq_one.1 h
  obtain ⟨h, h3⟩ := IntOp.andi_eq_one.1 h
  exact ⟨h, fun i => fine_of _ (Host.reduce_andi_all _ _ _ _ _ h3 i), fun i => fine_of (x4 i) (Host.reduce_andi_all _ _ _ _ _ h4 i),
    fun i => fine_of (x6 i) (Host.reduce_andi_all _ _ _ _ _ h6 i), h9⟩

theorem part1 (x3 x4 : FVec Ideal S2048x512 .bf16) (x6 : FVec Ideal S256x512 .bf16) (x9 : FVec Ideal S64x8 .bf16) (v0 : FVec Ideal S2048x256 .f32)
    (al : IVec S2048x256 1) (ne : IVec S1x256x256 1) (al' : IVec S2048x256x1 1) (h : fn_part1 (F := Ideal) x3 x4 x6 x9 v0 al ne al' ix0 = 1#1) :
    (∀ s p p', ne (ix3 0 p p') = 1#1 → al' (ix3 s p 0) = 1#1 → al (ix2 s p') = 1#1 → v0 (ix2 s p) ≠ v0 (ix2 s p'))
      ∧ (∀ s p, al (ix2 s p) = 1#1 → v0 (ix2 s p) ≠ ⊥) ∧ (∀ i, Fine (x3 i)) ∧ (∀ i, Fine (x4 i)) ∧ (∀ i, Fine (x6 i)) ∧ ∀ i, Fine (x9 i) := by
  unfold fn_part1 at h
  dsimp only at h
  obtain ⟨h, h3, h4, h6, h9⟩ := part2 _ _ _ _ _ h
  obtain ⟨ht, hb⟩ := IntOp.andi_eq_one.1 h
  refine ⟨fun s p p' => ?_, fun s p => ?_, h3, h4, h6, h9⟩
  · have ht := Host.reduce_andi_all _ _ _ _ _ ht (ix3 s p p')
    revert ht
    pointwise []
    intro ht hn ha ha' he
    rw [hn, ha, ha', decide_eq_true he] at ht
    exact absurd ht (by decide)
  · have hb := Host.reduce_andi_all _ _ _ _ _ hb (ix2 s p)
    revert hb
    pointwise []
    intro hb ha he
    rw [ha, he, show Ideal.ofBits .f32 4286578688#32 = ⊥ from bot_bits] at hb
    exact absurd hb (by simp; decide)

theorem whole (x0 : FVec Ideal S2048x64 .f32) (x1 x2 : IVec S1x256 32) (x3 x4 x5 : FVec Ideal S2048x512 .bf16) (x6 x7 : FVec Ideal S256x512 .bf16)
    (x8 : FVec Ideal S256x64 .f32) (x9 : FVec Ideal S64x8 .bf16) (x10 : FVec Ideal S8x64 .f32) (x11 : FVec Ideal S2048x768 .f32) (x12 : FVec Ideal S512x768 .f32)
    (x13 : FVec Ideal S1x768 .f32) (x14 : FVec Ideal S768x3072 .f32) (x15 : FVec Ideal S3072x768 .f32)
    (h : fn (F := Ideal) x0 x1 x2 x3 x4 x5 x6 x7 x8 x9 x10 x11 x12 x13 x14 x15 ix0 = 1#1) :
    (∀ s : Fin 2048, Separate (alw s.val x1 x2) (Spec.masked (alw s.val x1 x2) (fun l => x0 (ix2 s l)) (fun p l => x8 (ix2 p l))))
      ∧ (∀ i, Fine (x3 i)) ∧ (∀ i, Fine (x4 i)) ∧ (∀ i, Fine (x6 i)) ∧ ∀ i, Fine (x9 i) := by
  unfold fn at h
  dsimp only at h
  obtain ⟨ht, hb, hf⟩ := part1 _ _ _ _ _ _ _ _ h
  refine ⟨fun s => ?_, hf⟩
  clear h
  have ht := ht s
  have hb := hb s
  revert ht hb
  pointwise []
  intro ht hb
  have ha : ∀ p, alw s.val x1 x2 p → IntOp.andi (IntOp.cmpi .sle (x1 (ix2 0 p)) (BitVec.ofNat 32 s.val)) (IntOp.cmpi .ne (x2 (ix2 0 p)) 0#32) = 1#1 := fun p hp => by
    rw [IntOp.andi_eq_one, IntOp.cmpi_sle, IntOp.cmpi_ne, toInt_small _ (by omega)]
    exact hp
  have hm : ∀ p, alw s.val x1 x2 p → Spec.masked (alw s.val x1 x2) (fun l => x0 (ix2 s l)) (fun p l => x8 (ix2 p l)) p = ∑ l, x0 (ix2 s l) * x8 (ix2 p l) := fun p hp => by
    unfold Spec.masked
    rw [if_pos hp]
  refine ⟨fun p hp => ?_, fun p hp => ?_, fun p p' hp hp' he => ?_⟩
  · unfold Spec.masked
    rw [if_neg hp]
  · rw [hm p hp]
    exact bot_lt_iff_ne_bot.2 (hb p (ha p hp))
  · rw [hm p hp, hm p' hp'] at he
    by_contra hc
    refine ht p p' ?_ (ha p hp) (ha p' hp') he
    rw [IntOp.cmpi_ne]
    intro e
    have e := congrArg BitVec.toInt e
    rw [toInt_small _ (by omega), toInt_small _ (by omega)] at e
    exact hc (Fin.ext (by omega))

end Cert.Pre_scores_separate
end
-- ==== Proof.Algebraic.lean ====
module

public import proofs.«01_k».proof.Defs
public import proofs.«01_k».proof.Proof.Result
public import proofs.«01_k».proof.Proof.Separate

@[expose] public section

set_option maxRecDepth 16384

noncomputable section

open Idealize.ShloMosaic Idealize.ShloMosaic.TcCoe Idealize.SL.Sem

namespace Cert.Proof

/-- The second call computes its reference. -/
theorem algebraic2 : Cert.algebraic_Kernel2Ideal_Reference2Ideal_pre_scores_separate (hKernel2Ideal := Cert.Kernel2Ideal.Gen.facts)
    (hReference2Ideal := Cert.Reference2Ideal.Gen.facts) (hPre_scores_separate := Cert.Pre_scores_separate.facts) := by
  intro m g m' g' hpre hargs
  refine ⟨fun c => fun i : Cert.Kernel2Ideal.S2048x768.Idx => Cert.Kernel2Ideal.Head.res (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (i 0) (i 1), ?_, ?_⟩
  · refine (θ_run _ _ _).mono (fun r h c => ⟨(h c).1.trans (Cert.Kernel2Ideal.Head.final m c), (h c).2⟩) (Cert.Kernel2Ideal.Value.run_blocks m g)
  · refine (θ_run _ _ _).mono (fun r h c => ⟨(h c).1.trans ?_, (h c).2⟩) (Cert.Reference2Ideal.Value.run m' g')
    refine (Cert.Reference2Ideal.Read.val_main_v121_eq (F := Ideal) _).trans ?_
    show Cert.Reference2Ideal.Read.val_main_v121 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) (m' ((c.tc : Thread Cert.Reference2Ideal.nD Cert.Reference2Ideal.τ).loc Cert.Reference2Ideal.main_arg11)) (m' ((c.tc : Thread Cert.Reference2Ideal.nD Cert.Reference2Ideal.τ).loc Cert.Reference2Ideal.main_arg12)) (m' ((c.tc : Thread Cert.Reference2Ideal.nD Cert.Reference2Ideal.τ).loc Cert.Reference2Ideal.main_arg13)) (m' ((c.tc : Thread Cert.Reference2Ideal.nD Cert.Reference2Ideal.τ).loc Cert.Reference2Ideal.main_arg14)) (m' ((c.tc : Thread Cert.Reference2Ideal.nD Cert.Reference2Ideal.τ).loc Cert.Reference2Ideal.main_arg15)) = _
    obtain ⟨a0, a1, a2, a3, a4, a5, a6, a7, a8, a9, a10, a11, a12, a13, a14, a15⟩ := hargs c
    rw [a0, a1, a2, a3, a4, a5, a6, a7, a8, a9, a10, a11, a12, a13, a14, a15]
    have hp := congrFun (hpre c) ValueIdx.ix0
    obtain ⟨hs, h3, h4, h6, h9⟩ := Cert.Pre_scores_separate.whole _ _ _ _ _ _ _ _ _ _ _ _ _ _ _ _ hp
    exact Cert.Reference2Ideal.Rows.result_apply _ _ _ _ _ _ _ _ _ _ _ _ _ _ _ _ h3 h4 h6 h9 hs

end Cert.Proof
end
-- ==== Proof.Cases.lean ====
module

public import proofs.«01_k».proof.Proof.Gen.Kernel1Ideal.Value
public import Idealize.ShloMosaic.Lib.Pipeline.ValueKit

/-! What each case of the first call leaves in its blocks and in its scratch. -/

@[expose] public section

set_option maxRecDepth 16384

noncomputable section

open Idealize.ShloMosaic Idealize.ShloMosaic.TcCoe Idealize.SL.Sem
open Idealize.ShloMosaic.Pipeline (Dat)

namespace Cert.Kernel1Ideal.Proj

open Cert.Kernel1Ideal Cert.Kernel1Ideal.Gen

/-- The running sum of the phrases after block `i`, over the sum before it. -/
def step (i : grid0.Coords) (x0 : Vec Ideal S256x768 .f32) (x1 : Vec Ideal S1x768 .f32) (x7 : Vec Ideal S256x16 .i32)
    (acc : Vec Ideal S256x768 .f32) : FVec Ideal S256x768 .f32 :=
  k0_pay1 (F := Ideal) (k0_pay13 x0 x1)
    (k0_pay21 x7 (k0_pay18 (BitVec.ofNat 32 (i 0).val)) (k0_pay19 (BitVec.ofNat 32 (i 0).val) x7) (k0_pay20 (BitVec.ofNat 32 (i 0).val) x7))
    (k0_pay22 x7 (k0_pay18 (BitVec.ofNat 32 (i 0).val))) acc

set_option maxHeartbeats 8000000 in
theorem out_A_9 (c : Dev nD) (i : grid0.Coords) (arg1 : Memref sig .tc .vmem S256x768 .f32) (harg1 : arg1.IsWhole) (arg2 : Memref sig .tc .vmem S1x768 .f32) (harg2 : arg2.IsWhole) (arg3 : Memref sig .tc .vmem S768x256 .f32) (harg3 : arg3.IsWhole) (arg4 : Memref sig .tc .vmem S256x512 .f32) (harg4 : arg4.IsWhole) (arg5 : Memref sig .tc .vmem S768x512 .f32) (harg5 : arg5.IsWhole) (arg6 : Memref sig .tc .vmem S768x512 .f32) (harg6 : arg6.IsWhole) (arg7 : Memref sig .tc .vmem S768x64 .f32) (harg7 : arg7.IsWhole) (arg8 : Memref sig .tc .vmem S256x16 .i32) (harg8 : arg8.IsWhole) (arg9 : Memref sig .tc .vmem S768x64 .f32) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x64 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x64 .f32) (harg16 : arg16.IsWhole) (arg17 : Memref sig .tc .vmem S768x256 .bf16) (harg17 : arg17.IsWhole) (arg18 : Memref sig .tc .vmem S256x512 .bf16) (harg18 : arg18.IsWhole) (arg19 : Memref sig .tc .vmem S768x512 .bf16) (harg19 : arg19.IsWhole) (arg20 : Memref sig .tc .vmem S768x512 .bf16) (harg20 : arg20.IsWhole) (arg21 : Memref sig .tc .vmem S256x768 .f32) (harg21 : arg21.IsWhole) (hc0 : cond0_0 i) (hc1 : ¬cond0_1 i)
    (x0 : Vec Ideal S256x768 .f32) (x1 : Vec Ideal S1x768 .f32) (x2 : Vec Ideal S768x256 .f32) (x3 : Vec Ideal S256x512 .f32) (x4 : Vec Ideal S768x512 .f32) (x5 : Vec Ideal S768x512 .f32) (x6 : Vec Ideal S768x64 .f32) (x7 : Vec Ideal S256x16 .i32) (x8 : Vec Ideal S768x64 .f32) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 = k0_pay14 (F := Ideal) x0 x1 (k0_pay7 (F := Ideal) x2) (k0_pay8 (F := Ideal) x3) := by
  frame_out
  first | done | rfl

set_option maxHeartbeats 8000000 in
theorem out_A_10 (c : Dev nD) (i : grid0.Coords) (arg1 : Memref sig .tc .vmem S256x768 .f32) (harg1 : arg1.IsWhole) (arg2 : Memref sig .tc .vmem S1x768 .f32) (harg2 : arg2.IsWhole) (arg3 : Memref sig .tc .vmem S768x256 .f32) (harg3 : arg3.IsWhole) (arg4 : Memref sig .tc .vmem S256x512 .f32) (harg4 : arg4.IsWhole) (arg5 : Memref sig .tc .vmem S768x512 .f32) (harg5 : arg5.IsWhole) (arg6 : Memref sig .tc .vmem S768x512 .f32) (harg6 : arg6.IsWhole) (arg7 : Memref sig .tc .vmem S768x64 .f32) (harg7 : arg7.IsWhole) (arg8 : Memref sig .tc .vmem S256x16 .i32) (harg8 : arg8.IsWhole) (arg9 : Memref sig .tc .vmem S768x64 .f32) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x64 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x64 .f32) (harg16 : arg16.IsWhole) (arg17 : Memref sig .tc .vmem S768x256 .bf16) (harg17 : arg17.IsWhole) (arg18 : Memref sig .tc .vmem S256x512 .bf16) (harg18 : arg18.IsWhole) (arg19 : Memref sig .tc .vmem S768x512 .bf16) (harg19 : arg19.IsWhole) (arg20 : Memref sig .tc .vmem S768x512 .bf16) (harg20 : arg20.IsWhole) (arg21 : Memref sig .tc .vmem S256x768 .f32) (harg21 : arg21.IsWhole) (hc0 : cond0_0 i) (hc1 : ¬cond0_1 i)
    (x0 : Vec Ideal S256x768 .f32) (x1 : Vec Ideal S1x768 .f32) (x2 : Vec Ideal S768x256 .f32) (x3 : Vec Ideal S256x512 .f32) (x4 : Vec Ideal S768x512 .f32) (x5 : Vec Ideal S768x512 .f32) (x6 : Vec Ideal S768x64 .f32) (x7 : Vec Ideal S256x16 .i32) (x8 : Vec Ideal S768x64 .f32) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 = k0_pay15 (F := Ideal) x0 x1 (k0_pay9 (F := Ideal) x4) := by
  frame_out
  first | done | rfl

set_option maxHeartbeats 8000000 in
theorem out_A_11 (c : Dev nD) (i : grid0.Coords) (arg1 : Memref sig .tc .vmem S256x768 .f32) (harg1 : arg1.IsWhole) (arg2 : Memref sig .tc .vmem S1x768 .f32) (harg2 : arg2.IsWhole) (arg3 : Memref sig .tc .vmem S768x256 .f32) (harg3 : arg3.IsWhole) (arg4 : Memref sig .tc .vmem S256x512 .f32) (harg4 : arg4.IsWhole) (arg5 : Memref sig .tc .vmem S768x512 .f32) (harg5 : arg5.IsWhole) (arg6 : Memref sig .tc .vmem S768x512 .f32) (harg6 : arg6.IsWhole) (arg7 : Memref sig .tc .vmem S768x64 .f32) (harg7 : arg7.IsWhole) (arg8 : Memref sig .tc .vmem S256x16 .i32) (harg8 : arg8.IsWhole) (arg9 : Memref sig .tc .vmem S768x64 .f32) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x64 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x64 .f32) (harg16 : arg16.IsWhole) (arg17 : Memref sig .tc .vmem S768x256 .bf16) (harg17 : arg17.IsWhole) (arg18 : Memref sig .tc .vmem S256x512 .bf16) (harg18 : arg18.IsWhole) (arg19 : Memref sig .tc .vmem S768x512 .bf16) (harg19 : arg19.IsWhole) (arg20 : Memref sig .tc .vmem S768x512 .bf16) (harg20 : arg20.IsWhole) (arg21 : Memref sig .tc .vmem S256x768 .f32) (harg21 : arg21.IsWhole) (hc0 : cond0_0 i) (hc1 : ¬cond0_1 i)
    (x0 : Vec Ideal S256x768 .f32) (x1 : Vec Ideal S1x768 .f32) (x2 : Vec Ideal S768x256 .f32) (x3 : Vec Ideal S256x512 .f32) (x4 : Vec Ideal S768x512 .f32) (x5 : Vec Ideal S768x512 .f32) (x6 : Vec Ideal S768x64 .f32) (x7 : Vec Ideal S256x16 .i32) (x8 : Vec Ideal S768x64 .f32) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 = k0_pay16 (F := Ideal) (k0_pay13 x0 x1) (k0_pay10 (F := Ideal) x5) := by
  frame_out
  first | done | rfl

set_option maxHeartbeats 8000000 in
theorem out_A_12 (c : Dev nD) (i : grid0.Coords) (arg1 : Memref sig .tc .vmem S256x768 .f32) (harg1 : arg1.IsWhole) (arg2 : Memref sig .tc .vmem S1x768 .f32) (harg2 : arg2.IsWhole) (arg3 : Memref sig .tc .vmem S768x256 .f32) (harg3 : arg3.IsWhole) (arg4 : Memref sig .tc .vmem S256x512 .f32) (harg4 : arg4.IsWhole) (arg5 : Memref sig .tc .vmem S768x512 .f32) (harg5 : arg5.IsWhole) (arg6 : Memref sig .tc .vmem S768x512 .f32) (harg6 : arg6.IsWhole) (arg7 : Memref sig .tc .vmem S768x64 .f32) (harg7 : arg7.IsWhole) (arg8 : Memref sig .tc .vmem S256x16 .i32) (harg8 : arg8.IsWhole) (arg9 : Memref sig .tc .vmem S768x64 .f32) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x64 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x64 .f32) (harg16 : arg16.IsWhole) (arg17 : Memref sig .tc .vmem S768x256 .bf16) (harg17 : arg17.IsWhole) (arg18 : Memref sig .tc .vmem S256x512 .bf16) (harg18 : arg18.IsWhole) (arg19 : Memref sig .tc .vmem S768x512 .bf16) (harg19 : arg19.IsWhole) (arg20 : Memref sig .tc .vmem S768x512 .bf16) (harg20 : arg20.IsWhole) (arg21 : Memref sig .tc .vmem S256x768 .f32) (harg21 : arg21.IsWhole) (hc0 : cond0_0 i) (hc1 : ¬cond0_1 i)
    (x0 : Vec Ideal S256x768 .f32) (x1 : Vec Ideal S1x768 .f32) (x2 : Vec Ideal S768x256 .f32) (x3 : Vec Ideal S256x512 .f32) (x4 : Vec Ideal S768x512 .f32) (x5 : Vec Ideal S768x512 .f32) (x6 : Vec Ideal S768x64 .f32) (x7 : Vec Ideal S256x16 .i32) (x8 : Vec Ideal S768x64 .f32) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 = k0_pay17 (F := Ideal) (k0_pay12 x0 x1) x6 := by
  frame_out
  first | done | rfl

set_option maxHeartbeats 8000000 in
theorem sout_A_0 (c : Dev nD) (i : grid0.Coords) (arg1 : Memref sig .tc .vmem S256x768 .f32) (harg1 : arg1.IsWhole) (arg2 : Memref sig .tc .vmem S1x768 .f32) (harg2 : arg2.IsWhole) (arg3 : Memref sig .tc .vmem S768x256 .f32) (harg3 : arg3.IsWhole) (arg4 : Memref sig .tc .vmem S256x512 .f32) (harg4 : arg4.IsWhole) (arg5 : Memref sig .tc .vmem S768x512 .f32) (harg5 : arg5.IsWhole) (arg6 : Memref sig .tc .vmem S768x512 .f32) (harg6 : arg6.IsWhole) (arg7 : Memref sig .tc .vmem S768x64 .f32) (harg7 : arg7.IsWhole) (arg8 : Memref sig .tc .vmem S256x16 .i32) (harg8 : arg8.IsWhole) (arg9 : Memref sig .tc .vmem S768x64 .f32) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x64 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x64 .f32) (harg16 : arg16.IsWhole) (arg17 : Memref sig .tc .vmem S768x256 .bf16) (harg17 : arg17.IsWhole) (arg18 : Memref sig .tc .vmem S256x512 .bf16) (harg18 : arg18.IsWhole) (arg19 : Memref sig .tc .vmem S768x512 .bf16) (harg19 : arg19.IsWhole) (arg20 : Memref sig .tc .vmem S768x512 .bf16) (harg20 : arg20.IsWhole) (arg21 : Memref sig .tc .vmem S256x768 .f32) (harg21 : arg21.IsWhole) (hc0 : cond0_0 i) (hc1 : ¬cond0_1 i)
    (x0 : Vec Ideal S256x768 .f32) (x1 : Vec Ideal S1x768 .f32) (x2 : Vec Ideal S768x256 .f32) (x3 : Vec Ideal S256x512 .f32) (x4 : Vec Ideal S768x512 .f32) (x5 : Vec Ideal S768x512 .f32) (x6 : Vec Ideal S768x64 .f32) (x7 : Vec Ideal S256x16 .i32) (x8 : Vec Ideal S768x64 .f32) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 = (k0_pay7 (F := Ideal) x2) := by
  first | rfl | frame_out

set_option maxHeartbeats 8000000 in
theorem sout_A_1 (c : Dev nD) (i : grid0.Coords) (arg1 : Memref sig .tc .vmem S256x768 .f32) (harg1 : arg1.IsWhole) (arg2 : Memref sig .tc .vmem S1x768 .f32) (harg2 : arg2.IsWhole) (arg3 : Memref sig .tc .vmem S768x256 .f32) (harg3 : arg3.IsWhole) (arg4 : Memref sig .tc .vmem S256x512 .f32) (harg4 : arg4.IsWhole) (arg5 : Memref sig .tc .vmem S768x512 .f32) (harg5 : arg5.IsWhole) (arg6 : Memref sig .tc .vmem S768x512 .f32) (harg6 : arg6.IsWhole) (arg7 : Memref sig .tc .vmem S768x64 .f32) (harg7 : arg7.IsWhole) (arg8 : Memref sig .tc .vmem S256x16 .i32) (harg8 : arg8.IsWhole) (arg9 : Memref sig .tc .vmem S768x64 .f32) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x64 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x64 .f32) (harg16 : arg16.IsWhole) (arg17 : Memref sig .tc .vmem S768x256 .bf16) (harg17 : arg17.IsWhole) (arg18 : Memref sig .tc .vmem S256x512 .bf16) (harg18 : arg18.IsWhole) (arg19 : Memref sig .tc .vmem S768x512 .bf16) (harg19 : arg19.IsWhole) (arg20 : Memref sig .tc .vmem S768x512 .bf16) (harg20 : arg20.IsWhole) (arg21 : Memref sig .tc .vmem S256x768 .f32) (harg21 : arg21.IsWhole) (hc0 : cond0_0 i) (hc1 : ¬cond0_1 i)
    (x0 : Vec Ideal S256x768 .f32) (x1 : Vec Ideal S1x768 .f32) (x2 : Vec Ideal S768x256 .f32) (x3 : Vec Ideal S256x512 .f32) (x4 : Vec Ideal S768x512 .f32) (x5 : Vec Ideal S768x512 .f32) (x6 : Vec Ideal S768x64 .f32) (x7 : Vec Ideal S256x16 .i32) (x8 : Vec Ideal S768x64 .f32) :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 = (k0_pay8 (F := Ideal) x3) := by
  first | rfl | frame_out

set_option maxHeartbeats 8000000 in
theorem sout_A_2 (c : Dev nD) (i : grid0.Coords) (arg1 : Memref sig .tc .vmem S256x768 .f32) (harg1 : arg1.IsWhole) (arg2 : Memref sig .tc .vmem S1x768 .f32) (harg2 : arg2.IsWhole) (arg3 : Memref sig .tc .vmem S768x256 .f32) (harg3 : arg3.IsWhole) (arg4 : Memref sig .tc .vmem S256x512 .f32) (harg4 : arg4.IsWhole) (arg5 : Memref sig .tc .vmem S768x512 .f32) (harg5 : arg5.IsWhole) (arg6 : Memref sig .tc .vmem S768x512 .f32) (harg6 : arg6.IsWhole) (arg7 : Memref sig .tc .vmem S768x64 .f32) (harg7 : arg7.IsWhole) (arg8 : Memref sig .tc .vmem S256x16 .i32) (harg8 : arg8.IsWhole) (arg9 : Memref sig .tc .vmem S768x64 .f32) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x64 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x64 .f32) (harg16 : arg16.IsWhole) (arg17 : Memref sig .tc .vmem S768x256 .bf16) (harg17 : arg17.IsWhole) (arg18 : Memref sig .tc .vmem S256x512 .bf16) (harg18 : arg18.IsWhole) (arg19 : Memref sig .tc .vmem S768x512 .bf16) (harg19 : arg19.IsWhole) (arg20 : Memref sig .tc .vmem S768x512 .bf16) (harg20 : arg20.IsWhole) (arg21 : Memref sig .tc .vmem S256x768 .f32) (harg21 : arg21.IsWhole) (hc0 : cond0_0 i) (hc1 : ¬cond0_1 i)
    (x0 : Vec Ideal S256x768 .f32) (x1 : Vec Ideal S1x768 .f32) (x2 : Vec Ideal S768x256 .f32) (x3 : Vec Ideal S256x512 .f32) (x4 : Vec Ideal S768x512 .f32) (x5 : Vec Ideal S768x512 .f32) (x6 : Vec Ideal S768x64 .f32) (x7 : Vec Ideal S256x16 .i32) (x8 : Vec Ideal S768x64 .f32) :
    sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 = (k0_pay9 (F := Ideal) x4) := by
  first | rfl | frame_out

set_option maxHeartbeats 8000000 in
theorem sout_A_3 (c : Dev nD) (i : grid0.Coords) (arg1 : Memref sig .tc .vmem S256x768 .f32) (harg1 : arg1.IsWhole) (arg2 : Memref sig .tc .vmem S1x768 .f32) (harg2 : arg2.IsWhole) (arg3 : Memref sig .tc .vmem S768x256 .f32) (harg3 : arg3.IsWhole) (arg4 : Memref sig .tc .vmem S256x512 .f32) (harg4 : arg4.IsWhole) (arg5 : Memref sig .tc .vmem S768x512 .f32) (harg5 : arg5.IsWhole) (arg6 : Memref sig .tc .vmem S768x512 .f32) (harg6 : arg6.IsWhole) (arg7 : Memref sig .tc .vmem S768x64 .f32) (harg7 : arg7.IsWhole) (arg8 : Memref sig .tc .vmem S256x16 .i32) (harg8 : arg8.IsWhole) (arg9 : Memref sig .tc .vmem S768x64 .f32) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x64 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x64 .f32) (harg16 : arg16.IsWhole) (arg17 : Memref sig .tc .vmem S768x256 .bf16) (harg17 : arg17.IsWhole) (arg18 : Memref sig .tc .vmem S256x512 .bf16) (harg18 : arg18.IsWhole) (arg19 : Memref sig .tc .vmem S768x512 .bf16) (harg19 : arg19.IsWhole) (arg20 : Memref sig .tc .vmem S768x512 .bf16) (harg20 : arg20.IsWhole) (arg21 : Memref sig .tc .vmem S256x768 .f32) (harg21 : arg21.IsWhole) (hc0 : cond0_0 i) (hc1 : ¬cond0_1 i)
    (x0 : Vec Ideal S256x768 .f32) (x1 : Vec Ideal S1x768 .f32) (x2 : Vec Ideal S768x256 .f32) (x3 : Vec Ideal S256x512 .f32) (x4 : Vec Ideal S768x512 .f32) (x5 : Vec Ideal S768x512 .f32) (x6 : Vec Ideal S768x64 .f32) (x7 : Vec Ideal S256x16 .i32) (x8 : Vec Ideal S768x64 .f32) :
    sout0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 = (k0_pay10 (F := Ideal) x5) := by
  first | rfl | frame_out

set_option maxHeartbeats 8000000 in
theorem sout_A_4 (c : Dev nD) (i : grid0.Coords) (arg1 : Memref sig .tc .vmem S256x768 .f32) (harg1 : arg1.IsWhole) (arg2 : Memref sig .tc .vmem S1x768 .f32) (harg2 : arg2.IsWhole) (arg3 : Memref sig .tc .vmem S768x256 .f32) (harg3 : arg3.IsWhole) (arg4 : Memref sig .tc .vmem S256x512 .f32) (harg4 : arg4.IsWhole) (arg5 : Memref sig .tc .vmem S768x512 .f32) (harg5 : arg5.IsWhole) (arg6 : Memref sig .tc .vmem S768x512 .f32) (harg6 : arg6.IsWhole) (arg7 : Memref sig .tc .vmem S768x64 .f32) (harg7 : arg7.IsWhole) (arg8 : Memref sig .tc .vmem S256x16 .i32) (harg8 : arg8.IsWhole) (arg9 : Memref sig .tc .vmem S768x64 .f32) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x64 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x64 .f32) (harg16 : arg16.IsWhole) (arg17 : Memref sig .tc .vmem S768x256 .bf16) (harg17 : arg17.IsWhole) (arg18 : Memref sig .tc .vmem S256x512 .bf16) (harg18 : arg18.IsWhole) (arg19 : Memref sig .tc .vmem S768x512 .bf16) (harg19 : arg19.IsWhole) (arg20 : Memref sig .tc .vmem S768x512 .bf16) (harg20 : arg20.IsWhole) (arg21 : Memref sig .tc .vmem S256x768 .f32) (harg21 : arg21.IsWhole) (hc0 : cond0_0 i) (hc1 : ¬cond0_1 i)
    (x0 : Vec Ideal S256x768 .f32) (x1 : Vec Ideal S1x768 .f32) (x2 : Vec Ideal S768x256 .f32) (x3 : Vec Ideal S256x512 .f32) (x4 : Vec Ideal S768x512 .f32) (x5 : Vec Ideal S768x512 .f32) (x6 : Vec Ideal S768x64 .f32) (x7 : Vec Ideal S256x16 .i32) (x8 : Vec Ideal S768x64 .f32) :
    sout0_A_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 = step i x0 x1 x7 (k0_pay11 (F := Ideal)) := by
  frame_out
  first | done | rfl

set_option maxHeartbeats 8000000 in
theorem out_B_9 (c : Dev nD) (i : grid0.Coords) (arg1 : Memref sig .tc .vmem S256x768 .f32) (harg1 : arg1.IsWhole) (arg2 : Memref sig .tc .vmem S1x768 .f32) (harg2 : arg2.IsWhole) (arg3 : Memref sig .tc .vmem S768x256 .f32) (harg3 : arg3.IsWhole) (arg4 : Memref sig .tc .vmem S256x512 .f32) (harg4 : arg4.IsWhole) (arg5 : Memref sig .tc .vmem S768x512 .f32) (harg5 : arg5.IsWhole) (arg6 : Memref sig .tc .vmem S768x512 .f32) (harg6 : arg6.IsWhole) (arg7 : Memref sig .tc .vmem S768x64 .f32) (harg7 : arg7.IsWhole) (arg8 : Memref sig .tc .vmem S256x16 .i32) (harg8 : arg8.IsWhole) (arg9 : Memref sig .tc .vmem S768x64 .f32) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x64 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x64 .f32) (harg16 : arg16.IsWhole) (arg17 : Memref sig .tc .vmem S768x256 .bf16) (harg17 : arg17.IsWhole) (arg18 : Memref sig .tc .vmem S256x512 .bf16) (harg18 : arg18.IsWhole) (arg19 : Memref sig .tc .vmem S768x512 .bf16) (harg19 : arg19.IsWhole) (arg20 : Memref sig .tc .vmem S768x512 .bf16) (harg20 : arg20.IsWhole) (arg21 : Memref sig .tc .vmem S256x768 .f32) (harg21 : arg21.IsWhole) (hc0 : ¬cond0_0 i) (hc1 : ¬cond0_1 i)
    (x0 : Vec Ideal S256x768 .f32) (x1 : Vec Ideal S1x768 .f32) (x2 : Vec Ideal S768x256 .f32) (x3 : Vec Ideal S256x512 .f32) (x4 : Vec Ideal S768x512 .f32) (x5 : Vec Ideal S768x512 .f32) (x6 : Vec Ideal S768x64 .f32) (x7 : Vec Ideal S256x16 .i32) (x8 : Vec Ideal S768x64 .f32) (xs0 : Vec Ideal S768x256 .bf16) (xs1 : Vec Ideal S256x512 .bf16) (xs2 : Vec Ideal S768x512 .bf16) (xs3 : Vec Ideal S768x512 .bf16) (xs4 : Vec Ideal S256x768 .f32) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 xs0 xs1 xs2 xs3 xs4 = k0_pay14 (F := Ideal) x0 x1 xs0 xs1 := by
  frame_out
  first | done | rfl

set_option maxHeartbeats 8000000 in
theorem out_B_10 (c : Dev nD) (i : grid0.Coords) (arg1 : Memref sig .tc .vmem S256x768 .f32) (harg1 : arg1.IsWhole) (arg2 : Memref sig .tc .vmem S1x768 .f32) (harg2 : arg2.IsWhole) (arg3 : Memref sig .tc .vmem S768x256 .f32) (harg3 : arg3.IsWhole) (arg4 : Memref sig .tc .vmem S256x512 .f32) (harg4 : arg4.IsWhole) (arg5 : Memref sig .tc .vmem S768x512 .f32) (harg5 : arg5.IsWhole) (arg6 : Memref sig .tc .vmem S768x512 .f32) (harg6 : arg6.IsWhole) (arg7 : Memref sig .tc .vmem S768x64 .f32) (harg7 : arg7.IsWhole) (arg8 : Memref sig .tc .vmem S256x16 .i32) (harg8 : arg8.IsWhole) (arg9 : Memref sig .tc .vmem S768x64 .f32) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x64 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x64 .f32) (harg16 : arg16.IsWhole) (arg17 : Memref sig .tc .vmem S768x256 .bf16) (harg17 : arg17.IsWhole) (arg18 : Memref sig .tc .vmem S256x512 .bf16) (harg18 : arg18.IsWhole) (arg19 : Memref sig .tc .vmem S768x512 .bf16) (harg19 : arg19.IsWhole) (arg20 : Memref sig .tc .vmem S768x512 .bf16) (harg20 : arg20.IsWhole) (arg21 : Memref sig .tc .vmem S256x768 .f32) (harg21 : arg21.IsWhole) (hc0 : ¬cond0_0 i) (hc1 : ¬cond0_1 i)
    (x0 : Vec Ideal S256x768 .f32) (x1 : Vec Ideal S1x768 .f32) (x2 : Vec Ideal S768x256 .f32) (x3 : Vec Ideal S256x512 .f32) (x4 : Vec Ideal S768x512 .f32) (x5 : Vec Ideal S768x512 .f32) (x6 : Vec Ideal S768x64 .f32) (x7 : Vec Ideal S256x16 .i32) (x8 : Vec Ideal S768x64 .f32) (xs0 : Vec Ideal S768x256 .bf16) (xs1 : Vec Ideal S256x512 .bf16) (xs2 : Vec Ideal S768x512 .bf16) (xs3 : Vec Ideal S768x512 .bf16) (xs4 : Vec Ideal S256x768 .f32) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 xs0 xs1 xs2 xs3 xs4 = k0_pay15 (F := Ideal) x0 x1 xs2 := by
  frame_out
  first | done | rfl

set_option maxHeartbeats 8000000 in
theorem out_B_11 (c : Dev nD) (i : grid0.Coords) (arg1 : Memref sig .tc .vmem S256x768 .f32) (harg1 : arg1.IsWhole) (arg2 : Memref sig .tc .vmem S1x768 .f32) (harg2 : arg2.IsWhole) (arg3 : Memref sig .tc .vmem S768x256 .f32) (harg3 : arg3.IsWhole) (arg4 : Memref sig .tc .vmem S256x512 .f32) (harg4 : arg4.IsWhole) (arg5 : Memref sig .tc .vmem S768x512 .f32) (harg5 : arg5.IsWhole) (arg6 : Memref sig .tc .vmem S768x512 .f32) (harg6 : arg6.IsWhole) (arg7 : Memref sig .tc .vmem S768x64 .f32) (harg7 : arg7.IsWhole) (arg8 : Memref sig .tc .vmem S256x16 .i32) (harg8 : arg8.IsWhole) (arg9 : Memref sig .tc .vmem S768x64 .f32) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x64 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x64 .f32) (harg16 : arg16.IsWhole) (arg17 : Memref sig .tc .vmem S768x256 .bf16) (harg17 : arg17.IsWhole) (arg18 : Memref sig .tc .vmem S256x512 .bf16) (harg18 : arg18.IsWhole) (arg19 : Memref sig .tc .vmem S768x512 .bf16) (harg19 : arg19.IsWhole) (arg20 : Memref sig .tc .vmem S768x512 .bf16) (harg20 : arg20.IsWhole) (arg21 : Memref sig .tc .vmem S256x768 .f32) (harg21 : arg21.IsWhole) (hc0 : ¬cond0_0 i) (hc1 : ¬cond0_1 i)
    (x0 : Vec Ideal S256x768 .f32) (x1 : Vec Ideal S1x768 .f32) (x2 : Vec Ideal S768x256 .f32) (x3 : Vec Ideal S256x512 .f32) (x4 : Vec Ideal S768x512 .f32) (x5 : Vec Ideal S768x512 .f32) (x6 : Vec Ideal S768x64 .f32) (x7 : Vec Ideal S256x16 .i32) (x8 : Vec Ideal S768x64 .f32) (xs0 : Vec Ideal S768x256 .bf16) (xs1 : Vec Ideal S256x512 .bf16) (xs2 : Vec Ideal S768x512 .bf16) (xs3 : Vec Ideal S768x512 .bf16) (xs4 : Vec Ideal S256x768 .f32) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 xs0 xs1 xs2 xs3 xs4 = k0_pay16 (F := Ideal) (k0_pay13 x0 x1) xs3 := by
  frame_out
  first | done | rfl

set_option maxHeartbeats 8000000 in
theorem out_B_12 (c : Dev nD) (i : grid0.Coords) (arg1 : Memref sig .tc .vmem S256x768 .f32) (harg1 : arg1.IsWhole) (arg2 : Memref sig .tc .vmem S1x768 .f32) (harg2 : arg2.IsWhole) (arg3 : Memref sig .tc .vmem S768x256 .f32) (harg3 : arg3.IsWhole) (arg4 : Memref sig .tc .vmem S256x512 .f32) (harg4 : arg4.IsWhole) (arg5 : Memref sig .tc .vmem S768x512 .f32) (harg5 : arg5.IsWhole) (arg6 : Memref sig .tc .vmem S768x512 .f32) (harg6 : arg6.IsWhole) (arg7 : Memref sig .tc .vmem S768x64 .f32) (harg7 : arg7.IsWhole) (arg8 : Memref sig .tc .vmem S256x16 .i32) (harg8 : arg8.IsWhole) (arg9 : Memref sig .tc .vmem S768x64 .f32) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x64 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x64 .f32) (harg16 : arg16.IsWhole) (arg17 : Memref sig .tc .vmem S768x256 .bf16) (harg17 : arg17.IsWhole) (arg18 : Memref sig .tc .vmem S256x512 .bf16) (harg18 : arg18.IsWhole) (arg19 : Memref sig .tc .vmem S768x512 .bf16) (harg19 : arg19.IsWhole) (arg20 : Memref sig .tc .vmem S768x512 .bf16) (harg20 : arg20.IsWhole) (arg21 : Memref sig .tc .vmem S256x768 .f32) (harg21 : arg21.IsWhole) (hc0 : ¬cond0_0 i) (hc1 : ¬cond0_1 i)
    (x0 : Vec Ideal S256x768 .f32) (x1 : Vec Ideal S1x768 .f32) (x2 : Vec Ideal S768x256 .f32) (x3 : Vec Ideal S256x512 .f32) (x4 : Vec Ideal S768x512 .f32) (x5 : Vec Ideal S768x512 .f32) (x6 : Vec Ideal S768x64 .f32) (x7 : Vec Ideal S256x16 .i32) (x8 : Vec Ideal S768x64 .f32) (xs0 : Vec Ideal S768x256 .bf16) (xs1 : Vec Ideal S256x512 .bf16) (xs2 : Vec Ideal S768x512 .bf16) (xs3 : Vec Ideal S768x512 .bf16) (xs4 : Vec Ideal S256x768 .f32) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 xs0 xs1 xs2 xs3 xs4 = k0_pay17 (F := Ideal) (k0_pay12 x0 x1) x6 := by
  frame_out
  first | done | rfl

set_option maxHeartbeats 8000000 in
theorem sout_B_0 (c : Dev nD) (i : grid0.Coords) (arg1 : Memref sig .tc .vmem S256x768 .f32) (harg1 : arg1.IsWhole) (arg2 : Memref sig .tc .vmem S1x768 .f32) (harg2 : arg2.IsWhole) (arg3 : Memref sig .tc .vmem S768x256 .f32) (harg3 : arg3.IsWhole) (arg4 : Memref sig .tc .vmem S256x512 .f32) (harg4 : arg4.IsWhole) (arg5 : Memref sig .tc .vmem S768x512 .f32) (harg5 : arg5.IsWhole) (arg6 : Memref sig .tc .vmem S768x512 .f32) (harg6 : arg6.IsWhole) (arg7 : Memref sig .tc .vmem S768x64 .f32) (harg7 : arg7.IsWhole) (arg8 : Memref sig .tc .vmem S256x16 .i32) (harg8 : arg8.IsWhole) (arg9 : Memref sig .tc .vmem S768x64 .f32) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x64 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x64 .f32) (harg16 : arg16.IsWhole) (arg17 : Memref sig .tc .vmem S768x256 .bf16) (harg17 : arg17.IsWhole) (arg18 : Memref sig .tc .vmem S256x512 .bf16) (harg18 : arg18.IsWhole) (arg19 : Memref sig .tc .vmem S768x512 .bf16) (harg19 : arg19.IsWhole) (arg20 : Memref sig .tc .vmem S768x512 .bf16) (harg20 : arg20.IsWhole) (arg21 : Memref sig .tc .vmem S256x768 .f32) (harg21 : arg21.IsWhole) (hc0 : ¬cond0_0 i) (hc1 : ¬cond0_1 i)
    (x0 : Vec Ideal S256x768 .f32) (x1 : Vec Ideal S1x768 .f32) (x2 : Vec Ideal S768x256 .f32) (x3 : Vec Ideal S256x512 .f32) (x4 : Vec Ideal S768x512 .f32) (x5 : Vec Ideal S768x512 .f32) (x6 : Vec Ideal S768x64 .f32) (x7 : Vec Ideal S256x16 .i32) (x8 : Vec Ideal S768x64 .f32) (xs0 : Vec Ideal S768x256 .bf16) (xs1 : Vec Ideal S256x512 .bf16) (xs2 : Vec Ideal S768x512 .bf16) (xs3 : Vec Ideal S768x512 .bf16) (xs4 : Vec Ideal S256x768 .f32) :
    sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 xs0 xs1 xs2 xs3 xs4 = xs0 := by
  first | rfl | frame_out

set_option maxHeartbeats 8000000 in
theorem sout_B_1 (c : Dev nD) (i : grid0.Coords) (arg1 : Memref sig .tc .vmem S256x768 .f32) (harg1 : arg1.IsWhole) (arg2 : Memref sig .tc .vmem S1x768 .f32) (harg2 : arg2.IsWhole) (arg3 : Memref sig .tc .vmem S768x256 .f32) (harg3 : arg3.IsWhole) (arg4 : Memref sig .tc .vmem S256x512 .f32) (harg4 : arg4.IsWhole) (arg5 : Memref sig .tc .vmem S768x512 .f32) (harg5 : arg5.IsWhole) (arg6 : Memref sig .tc .vmem S768x512 .f32) (harg6 : arg6.IsWhole) (arg7 : Memref sig .tc .vmem S768x64 .f32) (harg7 : arg7.IsWhole) (arg8 : Memref sig .tc .vmem S256x16 .i32) (harg8 : arg8.IsWhole) (arg9 : Memref sig .tc .vmem S768x64 .f32) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x64 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x64 .f32) (harg16 : arg16.IsWhole) (arg17 : Memref sig .tc .vmem S768x256 .bf16) (harg17 : arg17.IsWhole) (arg18 : Memref sig .tc .vmem S256x512 .bf16) (harg18 : arg18.IsWhole) (arg19 : Memref sig .tc .vmem S768x512 .bf16) (harg19 : arg19.IsWhole) (arg20 : Memref sig .tc .vmem S768x512 .bf16) (harg20 : arg20.IsWhole) (arg21 : Memref sig .tc .vmem S256x768 .f32) (harg21 : arg21.IsWhole) (hc0 : ¬cond0_0 i) (hc1 : ¬cond0_1 i)
    (x0 : Vec Ideal S256x768 .f32) (x1 : Vec Ideal S1x768 .f32) (x2 : Vec Ideal S768x256 .f32) (x3 : Vec Ideal S256x512 .f32) (x4 : Vec Ideal S768x512 .f32) (x5 : Vec Ideal S768x512 .f32) (x6 : Vec Ideal S768x64 .f32) (x7 : Vec Ideal S256x16 .i32) (x8 : Vec Ideal S768x64 .f32) (xs0 : Vec Ideal S768x256 .bf16) (xs1 : Vec Ideal S256x512 .bf16) (xs2 : Vec Ideal S768x512 .bf16) (xs3 : Vec Ideal S768x512 .bf16) (xs4 : Vec Ideal S256x768 .f32) :
    sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 xs0 xs1 xs2 xs3 xs4 = xs1 := by
  first | rfl | frame_out

set_option maxHeartbeats 8000000 in
theorem sout_B_2 (c : Dev nD) (i : grid0.Coords) (arg1 : Memref sig .tc .vmem S256x768 .f32) (harg1 : arg1.IsWhole) (arg2 : Memref sig .tc .vmem S1x768 .f32) (harg2 : arg2.IsWhole) (arg3 : Memref sig .tc .vmem S768x256 .f32) (harg3 : arg3.IsWhole) (arg4 : Memref sig .tc .vmem S256x512 .f32) (harg4 : arg4.IsWhole) (arg5 : Memref sig .tc .vmem S768x512 .f32) (harg5 : arg5.IsWhole) (arg6 : Memref sig .tc .vmem S768x512 .f32) (harg6 : arg6.IsWhole) (arg7 : Memref sig .tc .vmem S768x64 .f32) (harg7 : arg7.IsWhole) (arg8 : Memref sig .tc .vmem S256x16 .i32) (harg8 : arg8.IsWhole) (arg9 : Memref sig .tc .vmem S768x64 .f32) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x64 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x64 .f32) (harg16 : arg16.IsWhole) (arg17 : Memref sig .tc .vmem S768x256 .bf16) (harg17 : arg17.IsWhole) (arg18 : Memref sig .tc .vmem S256x512 .bf16) (harg18 : arg18.IsWhole) (arg19 : Memref sig .tc .vmem S768x512 .bf16) (harg19 : arg19.IsWhole) (arg20 : Memref sig .tc .vmem S768x512 .bf16) (harg20 : arg20.IsWhole) (arg21 : Memref sig .tc .vmem S256x768 .f32) (harg21 : arg21.IsWhole) (hc0 : ¬cond0_0 i) (hc1 : ¬cond0_1 i)
    (x0 : Vec Ideal S256x768 .f32) (x1 : Vec Ideal S1x768 .f32) (x2 : Vec Ideal S768x256 .f32) (x3 : Vec Ideal S256x512 .f32) (x4 : Vec Ideal S768x512 .f32) (x5 : Vec Ideal S768x512 .f32) (x6 : Vec Ideal S768x64 .f32) (x7 : Vec Ideal S256x16 .i32) (x8 : Vec Ideal S768x64 .f32) (xs0 : Vec Ideal S768x256 .bf16) (xs1 : Vec Ideal S256x512 .bf16) (xs2 : Vec Ideal S768x512 .bf16) (xs3 : Vec Ideal S768x512 .bf16) (xs4 : Vec Ideal S256x768 .f32) :
    sout0_B_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 xs0 xs1 xs2 xs3 xs4 = xs2 := by
  first | rfl | frame_out

set_option maxHeartbeats 8000000 in
theorem sout_B_3 (c : Dev nD) (i : grid0.Coords) (arg1 : Memref sig .tc .vmem S256x768 .f32) (harg1 : arg1.IsWhole) (arg2 : Memref sig .tc .vmem S1x768 .f32) (harg2 : arg2.IsWhole) (arg3 : Memref sig .tc .vmem S768x256 .f32) (harg3 : arg3.IsWhole) (arg4 : Memref sig .tc .vmem S256x512 .f32) (harg4 : arg4.IsWhole) (arg5 : Memref sig .tc .vmem S768x512 .f32) (harg5 : arg5.IsWhole) (arg6 : Memref sig .tc .vmem S768x512 .f32) (harg6 : arg6.IsWhole) (arg7 : Memref sig .tc .vmem S768x64 .f32) (harg7 : arg7.IsWhole) (arg8 : Memref sig .tc .vmem S256x16 .i32) (harg8 : arg8.IsWhole) (arg9 : Memref sig .tc .vmem S768x64 .f32) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x64 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x64 .f32) (harg16 : arg16.IsWhole) (arg17 : Memref sig .tc .vmem S768x256 .bf16) (harg17 : arg17.IsWhole) (arg18 : Memref sig .tc .vmem S256x512 .bf16) (harg18 : arg18.IsWhole) (arg19 : Memref sig .tc .vmem S768x512 .bf16) (harg19 : arg19.IsWhole) (arg20 : Memref sig .tc .vmem S768x512 .bf16) (harg20 : arg20.IsWhole) (arg21 : Memref sig .tc .vmem S256x768 .f32) (harg21 : arg21.IsWhole) (hc0 : ¬cond0_0 i) (hc1 : ¬cond0_1 i)
    (x0 : Vec Ideal S256x768 .f32) (x1 : Vec Ideal S1x768 .f32) (x2 : Vec Ideal S768x256 .f32) (x3 : Vec Ideal S256x512 .f32) (x4 : Vec Ideal S768x512 .f32) (x5 : Vec Ideal S768x512 .f32) (x6 : Vec Ideal S768x64 .f32) (x7 : Vec Ideal S256x16 .i32) (x8 : Vec Ideal S768x64 .f32) (xs0 : Vec Ideal S768x256 .bf16) (xs1 : Vec Ideal S256x512 .bf16) (xs2 : Vec Ideal S768x512 .bf16) (xs3 : Vec Ideal S768x512 .bf16) (xs4 : Vec Ideal S256x768 .f32) :
    sout0_B_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 xs0 xs1 xs2 xs3 xs4 = xs3 := by
  first | rfl | frame_out

set_option maxHeartbeats 8000000 in
theorem sout_B_4 (c : Dev nD) (i : grid0.Coords) (arg1 : Memref sig .tc .vmem S256x768 .f32) (harg1 : arg1.IsWhole) (arg2 : Memref sig .tc .vmem S1x768 .f32) (harg2 : arg2.IsWhole) (arg3 : Memref sig .tc .vmem S768x256 .f32) (harg3 : arg3.IsWhole) (arg4 : Memref sig .tc .vmem S256x512 .f32) (harg4 : arg4.IsWhole) (arg5 : Memref sig .tc .vmem S768x512 .f32) (harg5 : arg5.IsWhole) (arg6 : Memref sig .tc .vmem S768x512 .f32) (harg6 : arg6.IsWhole) (arg7 : Memref sig .tc .vmem S768x64 .f32) (harg7 : arg7.IsWhole) (arg8 : Memref sig .tc .vmem S256x16 .i32) (harg8 : arg8.IsWhole) (arg9 : Memref sig .tc .vmem S768x64 .f32) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x64 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x64 .f32) (harg16 : arg16.IsWhole) (arg17 : Memref sig .tc .vmem S768x256 .bf16) (harg17 : arg17.IsWhole) (arg18 : Memref sig .tc .vmem S256x512 .bf16) (harg18 : arg18.IsWhole) (arg19 : Memref sig .tc .vmem S768x512 .bf16) (harg19 : arg19.IsWhole) (arg20 : Memref sig .tc .vmem S768x512 .bf16) (harg20 : arg20.IsWhole) (arg21 : Memref sig .tc .vmem S256x768 .f32) (harg21 : arg21.IsWhole) (hc0 : ¬cond0_0 i) (hc1 : ¬cond0_1 i)
    (x0 : Vec Ideal S256x768 .f32) (x1 : Vec Ideal S1x768 .f32) (x2 : Vec Ideal S768x256 .f32) (x3 : Vec Ideal S256x512 .f32) (x4 : Vec Ideal S768x512 .f32) (x5 : Vec Ideal S768x512 .f32) (x6 : Vec Ideal S768x64 .f32) (x7 : Vec Ideal S256x16 .i32) (x8 : Vec Ideal S768x64 .f32) (xs0 : Vec Ideal S768x256 .bf16) (xs1 : Vec Ideal S256x512 .bf16) (xs2 : Vec Ideal S768x512 .bf16) (xs3 : Vec Ideal S768x512 .bf16) (xs4 : Vec Ideal S256x768 .f32) :
    sout0_B_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 xs0 xs1 xs2 xs3 xs4 = step i x0 x1 x7 xs4 := by
  frame_out
  first | done | rfl

set_option maxHeartbeats 8000000 in
theorem out_C_9 (c : Dev nD) (i : grid0.Coords) (arg1 : Memref sig .tc .vmem S256x768 .f32) (harg1 : arg1.IsWhole) (arg2 : Memref sig .tc .vmem S1x768 .f32) (harg2 : arg2.IsWhole) (arg3 : Memref sig .tc .vmem S768x256 .f32) (harg3 : arg3.IsWhole) (arg4 : Memref sig .tc .vmem S256x512 .f32) (harg4 : arg4.IsWhole) (arg5 : Memref sig .tc .vmem S768x512 .f32) (harg5 : arg5.IsWhole) (arg6 : Memref sig .tc .vmem S768x512 .f32) (harg6 : arg6.IsWhole) (arg7 : Memref sig .tc .vmem S768x64 .f32) (harg7 : arg7.IsWhole) (arg8 : Memref sig .tc .vmem S256x16 .i32) (harg8 : arg8.IsWhole) (arg9 : Memref sig .tc .vmem S768x64 .f32) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x64 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x64 .f32) (harg16 : arg16.IsWhole) (arg17 : Memref sig .tc .vmem S768x256 .bf16) (harg17 : arg17.IsWhole) (arg18 : Memref sig .tc .vmem S256x512 .bf16) (harg18 : arg18.IsWhole) (arg19 : Memref sig .tc .vmem S768x512 .bf16) (harg19 : arg19.IsWhole) (arg20 : Memref sig .tc .vmem S768x512 .bf16) (harg20 : arg20.IsWhole) (arg21 : Memref sig .tc .vmem S256x768 .f32) (harg21 : arg21.IsWhole) (hc0 : ¬cond0_0 i) (hc1 : cond0_1 i)
    (x0 : Vec Ideal S256x768 .f32) (x1 : Vec Ideal S1x768 .f32) (x2 : Vec Ideal S768x256 .f32) (x3 : Vec Ideal S256x512 .f32) (x4 : Vec Ideal S768x512 .f32) (x5 : Vec Ideal S768x512 .f32) (x6 : Vec Ideal S768x64 .f32) (x7 : Vec Ideal S256x16 .i32) (x8 : Vec Ideal S768x64 .f32) (xs0 : Vec Ideal S768x256 .bf16) (xs1 : Vec Ideal S256x512 .bf16) (xs2 : Vec Ideal S768x512 .bf16) (xs3 : Vec Ideal S768x512 .bf16) (xs4 : Vec Ideal S256x768 .f32) :
    out0_C_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 xs0 xs1 xs2 xs3 xs4 = k0_pay14 (F := Ideal) x0 x1 xs0 xs1 := by
  frame_out
  first | done | rfl

set_option maxHeartbeats 8000000 in
theorem out_C_10 (c : Dev nD) (i : grid0.Coords) (arg1 : Memref sig .tc .vmem S256x768 .f32) (harg1 : arg1.IsWhole) (arg2 : Memref sig .tc .vmem S1x768 .f32) (harg2 : arg2.IsWhole) (arg3 : Memref sig .tc .vmem S768x256 .f32) (harg3 : arg3.IsWhole) (arg4 : Memref sig .tc .vmem S256x512 .f32) (harg4 : arg4.IsWhole) (arg5 : Memref sig .tc .vmem S768x512 .f32) (harg5 : arg5.IsWhole) (arg6 : Memref sig .tc .vmem S768x512 .f32) (harg6 : arg6.IsWhole) (arg7 : Memref sig .tc .vmem S768x64 .f32) (harg7 : arg7.IsWhole) (arg8 : Memref sig .tc .vmem S256x16 .i32) (harg8 : arg8.IsWhole) (arg9 : Memref sig .tc .vmem S768x64 .f32) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x64 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x64 .f32) (harg16 : arg16.IsWhole) (arg17 : Memref sig .tc .vmem S768x256 .bf16) (harg17 : arg17.IsWhole) (arg18 : Memref sig .tc .vmem S256x512 .bf16) (harg18 : arg18.IsWhole) (arg19 : Memref sig .tc .vmem S768x512 .bf16) (harg19 : arg19.IsWhole) (arg20 : Memref sig .tc .vmem S768x512 .bf16) (harg20 : arg20.IsWhole) (arg21 : Memref sig .tc .vmem S256x768 .f32) (harg21 : arg21.IsWhole) (hc0 : ¬cond0_0 i) (hc1 : cond0_1 i)
    (x0 : Vec Ideal S256x768 .f32) (x1 : Vec Ideal S1x768 .f32) (x2 : Vec Ideal S768x256 .f32) (x3 : Vec Ideal S256x512 .f32) (x4 : Vec Ideal S768x512 .f32) (x5 : Vec Ideal S768x512 .f32) (x6 : Vec Ideal S768x64 .f32) (x7 : Vec Ideal S256x16 .i32) (x8 : Vec Ideal S768x64 .f32) (xs0 : Vec Ideal S768x256 .bf16) (xs1 : Vec Ideal S256x512 .bf16) (xs2 : Vec Ideal S768x512 .bf16) (xs3 : Vec Ideal S768x512 .bf16) (xs4 : Vec Ideal S256x768 .f32) :
    out0_C_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 xs0 xs1 xs2 xs3 xs4 = k0_pay15 (F := Ideal) x0 x1 xs2 := by
  frame_out
  first | done | rfl

set_option maxHeartbeats 8000000 in
theorem out_C_11 (c : Dev nD) (i : grid0.Coords) (arg1 : Memref sig .tc .vmem S256x768 .f32) (harg1 : arg1.IsWhole) (arg2 : Memref sig .tc .vmem S1x768 .f32) (harg2 : arg2.IsWhole) (arg3 : Memref sig .tc .vmem S768x256 .f32) (harg3 : arg3.IsWhole) (arg4 : Memref sig .tc .vmem S256x512 .f32) (harg4 : arg4.IsWhole) (arg5 : Memref sig .tc .vmem S768x512 .f32) (harg5 : arg5.IsWhole) (arg6 : Memref sig .tc .vmem S768x512 .f32) (harg6 : arg6.IsWhole) (arg7 : Memref sig .tc .vmem S768x64 .f32) (harg7 : arg7.IsWhole) (arg8 : Memref sig .tc .vmem S256x16 .i32) (harg8 : arg8.IsWhole) (arg9 : Memref sig .tc .vmem S768x64 .f32) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x64 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x64 .f32) (harg16 : arg16.IsWhole) (arg17 : Memref sig .tc .vmem S768x256 .bf16) (harg17 : arg17.IsWhole) (arg18 : Memref sig .tc .vmem S256x512 .bf16) (harg18 : arg18.IsWhole) (arg19 : Memref sig .tc .vmem S768x512 .bf16) (harg19 : arg19.IsWhole) (arg20 : Memref sig .tc .vmem S768x512 .bf16) (harg20 : arg20.IsWhole) (arg21 : Memref sig .tc .vmem S256x768 .f32) (harg21 : arg21.IsWhole) (hc0 : ¬cond0_0 i) (hc1 : cond0_1 i)
    (x0 : Vec Ideal S256x768 .f32) (x1 : Vec Ideal S1x768 .f32) (x2 : Vec Ideal S768x256 .f32) (x3 : Vec Ideal S256x512 .f32) (x4 : Vec Ideal S768x512 .f32) (x5 : Vec Ideal S768x512 .f32) (x6 : Vec Ideal S768x64 .f32) (x7 : Vec Ideal S256x16 .i32) (x8 : Vec Ideal S768x64 .f32) (xs0 : Vec Ideal S768x256 .bf16) (xs1 : Vec Ideal S256x512 .bf16) (xs2 : Vec Ideal S768x512 .bf16) (xs3 : Vec Ideal S768x512 .bf16) (xs4 : Vec Ideal S256x768 .f32) :
    out0_C_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 xs0 xs1 xs2 xs3 xs4 = k0_pay16 (F := Ideal) (k0_pay13 x0 x1) xs3 := by
  frame_out
  first | done | rfl

set_option maxHeartbeats 8000000 in
theorem out_C_12 (c : Dev nD) (i : grid0.Coords) (arg1 : Memref sig .tc .vmem S256x768 .f32) (harg1 : arg1.IsWhole) (arg2 : Memref sig .tc .vmem S1x768 .f32) (harg2 : arg2.IsWhole) (arg3 : Memref sig .tc .vmem S768x256 .f32) (harg3 : arg3.IsWhole) (arg4 : Memref sig .tc .vmem S256x512 .f32) (harg4 : arg4.IsWhole) (arg5 : Memref sig .tc .vmem S768x512 .f32) (harg5 : arg5.IsWhole) (arg6 : Memref sig .tc .vmem S768x512 .f32) (harg6 : arg6.IsWhole) (arg7 : Memref sig .tc .vmem S768x64 .f32) (harg7 : arg7.IsWhole) (arg8 : Memref sig .tc .vmem S256x16 .i32) (harg8 : arg8.IsWhole) (arg9 : Memref sig .tc .vmem S768x64 .f32) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x64 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x64 .f32) (harg16 : arg16.IsWhole) (arg17 : Memref sig .tc .vmem S768x256 .bf16) (harg17 : arg17.IsWhole) (arg18 : Memref sig .tc .vmem S256x512 .bf16) (harg18 : arg18.IsWhole) (arg19 : Memref sig .tc .vmem S768x512 .bf16) (harg19 : arg19.IsWhole) (arg20 : Memref sig .tc .vmem S768x512 .bf16) (harg20 : arg20.IsWhole) (arg21 : Memref sig .tc .vmem S256x768 .f32) (harg21 : arg21.IsWhole) (hc0 : ¬cond0_0 i) (hc1 : cond0_1 i)
    (x0 : Vec Ideal S256x768 .f32) (x1 : Vec Ideal S1x768 .f32) (x2 : Vec Ideal S768x256 .f32) (x3 : Vec Ideal S256x512 .f32) (x4 : Vec Ideal S768x512 .f32) (x5 : Vec Ideal S768x512 .f32) (x6 : Vec Ideal S768x64 .f32) (x7 : Vec Ideal S256x16 .i32) (x8 : Vec Ideal S768x64 .f32) (xs0 : Vec Ideal S768x256 .bf16) (xs1 : Vec Ideal S256x512 .bf16) (xs2 : Vec Ideal S768x512 .bf16) (xs3 : Vec Ideal S768x512 .bf16) (xs4 : Vec Ideal S256x768 .f32) :
    out0_C_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 xs0 xs1 xs2 xs3 xs4 = k0_pay17 (F := Ideal) (k0_pay12 x0 x1) x6 := by
  frame_out
  first | done | rfl

set_option maxHeartbeats 8000000 in
theorem out_C_13 (c : Dev nD) (i : grid0.Coords) (arg1 : Memref sig .tc .vmem S256x768 .f32) (harg1 : arg1.IsWhole) (arg2 : Memref sig .tc .vmem S1x768 .f32) (harg2 : arg2.IsWhole) (arg3 : Memref sig .tc .vmem S768x256 .f32) (harg3 : arg3.IsWhole) (arg4 : Memref sig .tc .vmem S256x512 .f32) (harg4 : arg4.IsWhole) (arg5 : Memref sig .tc .vmem S768x512 .f32) (harg5 : arg5.IsWhole) (arg6 : Memref sig .tc .vmem S768x512 .f32) (harg6 : arg6.IsWhole) (arg7 : Memref sig .tc .vmem S768x64 .f32) (harg7 : arg7.IsWhole) (arg8 : Memref sig .tc .vmem S256x16 .i32) (harg8 : arg8.IsWhole) (arg9 : Memref sig .tc .vmem S768x64 .f32) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x64 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x64 .f32) (harg16 : arg16.IsWhole) (arg17 : Memref sig .tc .vmem S768x256 .bf16) (harg17 : arg17.IsWhole) (arg18 : Memref sig .tc .vmem S256x512 .bf16) (harg18 : arg18.IsWhole) (arg19 : Memref sig .tc .vmem S768x512 .bf16) (harg19 : arg19.IsWhole) (arg20 : Memref sig .tc .vmem S768x512 .bf16) (harg20 : arg20.IsWhole) (arg21 : Memref sig .tc .vmem S256x768 .f32) (harg21 : arg21.IsWhole) (hc0 : ¬cond0_0 i) (hc1 : cond0_1 i)
    (x0 : Vec Ideal S256x768 .f32) (x1 : Vec Ideal S1x768 .f32) (x2 : Vec Ideal S768x256 .f32) (x3 : Vec Ideal S256x512 .f32) (x4 : Vec Ideal S768x512 .f32) (x5 : Vec Ideal S768x512 .f32) (x6 : Vec Ideal S768x64 .f32) (x7 : Vec Ideal S256x16 .i32) (x8 : Vec Ideal S768x64 .f32) (xs0 : Vec Ideal S768x256 .bf16) (xs1 : Vec Ideal S256x512 .bf16) (xs2 : Vec Ideal S768x512 .bf16) (xs3 : Vec Ideal S768x512 .bf16) (xs4 : Vec Ideal S256x768 .f32) :
    out0_C_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 xs0 xs1 xs2 xs3 xs4 = k0_pay4 (F := Ideal) (step i x0 x1 x7 xs4) xs2 := by
  frame_out
  first | done | rfl

set_option maxHeartbeats 8000000 in
theorem out_C_14 (c : Dev nD) (i : grid0.Coords) (arg1 : Memref sig .tc .vmem S256x768 .f32) (harg1 : arg1.IsWhole) (arg2 : Memref sig .tc .vmem S1x768 .f32) (harg2 : arg2.IsWhole) (arg3 : Memref sig .tc .vmem S768x256 .f32) (harg3 : arg3.IsWhole) (arg4 : Memref sig .tc .vmem S256x512 .f32) (harg4 : arg4.IsWhole) (arg5 : Memref sig .tc .vmem S768x512 .f32) (harg5 : arg5.IsWhole) (arg6 : Memref sig .tc .vmem S768x512 .f32) (harg6 : arg6.IsWhole) (arg7 : Memref sig .tc .vmem S768x64 .f32) (harg7 : arg7.IsWhole) (arg8 : Memref sig .tc .vmem S256x16 .i32) (harg8 : arg8.IsWhole) (arg9 : Memref sig .tc .vmem S768x64 .f32) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x64 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x64 .f32) (harg16 : arg16.IsWhole) (arg17 : Memref sig .tc .vmem S768x256 .bf16) (harg17 : arg17.IsWhole) (arg18 : Memref sig .tc .vmem S256x512 .bf16) (harg18 : arg18.IsWhole) (arg19 : Memref sig .tc .vmem S768x512 .bf16) (harg19 : arg19.IsWhole) (arg20 : Memref sig .tc .vmem S768x512 .bf16) (harg20 : arg20.IsWhole) (arg21 : Memref sig .tc .vmem S256x768 .f32) (harg21 : arg21.IsWhole) (hc0 : ¬cond0_0 i) (hc1 : cond0_1 i)
    (x0 : Vec Ideal S256x768 .f32) (x1 : Vec Ideal S1x768 .f32) (x2 : Vec Ideal S768x256 .f32) (x3 : Vec Ideal S256x512 .f32) (x4 : Vec Ideal S768x512 .f32) (x5 : Vec Ideal S768x512 .f32) (x6 : Vec Ideal S768x64 .f32) (x7 : Vec Ideal S256x16 .i32) (x8 : Vec Ideal S768x64 .f32) (xs0 : Vec Ideal S768x256 .bf16) (xs1 : Vec Ideal S256x512 .bf16) (xs2 : Vec Ideal S768x512 .bf16) (xs3 : Vec Ideal S768x512 .bf16) (xs4 : Vec Ideal S256x768 .f32) :
    out0_C_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 xs0 xs1 xs2 xs3 xs4 = k0_pay5 (F := Ideal) (step i x0 x1 x7 xs4) xs3 := by
  frame_out
  first | done | rfl

set_option maxHeartbeats 8000000 in
theorem out_C_15 (c : Dev nD) (i : grid0.Coords) (arg1 : Memref sig .tc .vmem S256x768 .f32) (harg1 : arg1.IsWhole) (arg2 : Memref sig .tc .vmem S1x768 .f32) (harg2 : arg2.IsWhole) (arg3 : Memref sig .tc .vmem S768x256 .f32) (harg3 : arg3.IsWhole) (arg4 : Memref sig .tc .vmem S256x512 .f32) (harg4 : arg4.IsWhole) (arg5 : Memref sig .tc .vmem S768x512 .f32) (harg5 : arg5.IsWhole) (arg6 : Memref sig .tc .vmem S768x512 .f32) (harg6 : arg6.IsWhole) (arg7 : Memref sig .tc .vmem S768x64 .f32) (harg7 : arg7.IsWhole) (arg8 : Memref sig .tc .vmem S256x16 .i32) (harg8 : arg8.IsWhole) (arg9 : Memref sig .tc .vmem S768x64 .f32) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x64 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x64 .f32) (harg16 : arg16.IsWhole) (arg17 : Memref sig .tc .vmem S768x256 .bf16) (harg17 : arg17.IsWhole) (arg18 : Memref sig .tc .vmem S256x512 .bf16) (harg18 : arg18.IsWhole) (arg19 : Memref sig .tc .vmem S768x512 .bf16) (harg19 : arg19.IsWhole) (arg20 : Memref sig .tc .vmem S768x512 .bf16) (harg20 : arg20.IsWhole) (arg21 : Memref sig .tc .vmem S256x768 .f32) (harg21 : arg21.IsWhole) (hc0 : ¬cond0_0 i) (hc1 : cond0_1 i)
    (x0 : Vec Ideal S256x768 .f32) (x1 : Vec Ideal S1x768 .f32) (x2 : Vec Ideal S768x256 .f32) (x3 : Vec Ideal S256x512 .f32) (x4 : Vec Ideal S768x512 .f32) (x5 : Vec Ideal S768x512 .f32) (x6 : Vec Ideal S768x64 .f32) (x7 : Vec Ideal S256x16 .i32) (x8 : Vec Ideal S768x64 .f32) (xs0 : Vec Ideal S768x256 .bf16) (xs1 : Vec Ideal S256x512 .bf16) (xs2 : Vec Ideal S768x512 .bf16) (xs3 : Vec Ideal S768x512 .bf16) (xs4 : Vec Ideal S256x768 .f32) :
    out0_C_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 xs0 xs1 xs2 xs3 xs4 = k0_pay6 (F := Ideal) (step i x0 x1 x7 xs4) x8 := by
  frame_out
  first | done | rfl

set_option maxHeartbeats 8000000 in
theorem sout_C_0 (c : Dev nD) (i : grid0.Coords) (arg1 : Memref sig .tc .vmem S256x768 .f32) (harg1 : arg1.IsWhole) (arg2 : Memref sig .tc .vmem S1x768 .f32) (harg2 : arg2.IsWhole) (arg3 : Memref sig .tc .vmem S768x256 .f32) (harg3 : arg3.IsWhole) (arg4 : Memref sig .tc .vmem S256x512 .f32) (harg4 : arg4.IsWhole) (arg5 : Memref sig .tc .vmem S768x512 .f32) (harg5 : arg5.IsWhole) (arg6 : Memref sig .tc .vmem S768x512 .f32) (harg6 : arg6.IsWhole) (arg7 : Memref sig .tc .vmem S768x64 .f32) (harg7 : arg7.IsWhole) (arg8 : Memref sig .tc .vmem S256x16 .i32) (harg8 : arg8.IsWhole) (arg9 : Memref sig .tc .vmem S768x64 .f32) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x64 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x64 .f32) (harg16 : arg16.IsWhole) (arg17 : Memref sig .tc .vmem S768x256 .bf16) (harg17 : arg17.IsWhole) (arg18 : Memref sig .tc .vmem S256x512 .bf16) (harg18 : arg18.IsWhole) (arg19 : Memref sig .tc .vmem S768x512 .bf16) (harg19 : arg19.IsWhole) (arg20 : Memref sig .tc .vmem S768x512 .bf16) (harg20 : arg20.IsWhole) (arg21 : Memref sig .tc .vmem S256x768 .f32) (harg21 : arg21.IsWhole) (hc0 : ¬cond0_0 i) (hc1 : cond0_1 i)
    (x0 : Vec Ideal S256x768 .f32) (x1 : Vec Ideal S1x768 .f32) (x2 : Vec Ideal S768x256 .f32) (x3 : Vec Ideal S256x512 .f32) (x4 : Vec Ideal S768x512 .f32) (x5 : Vec Ideal S768x512 .f32) (x6 : Vec Ideal S768x64 .f32) (x7 : Vec Ideal S256x16 .i32) (x8 : Vec Ideal S768x64 .f32) (xs0 : Vec Ideal S768x256 .bf16) (xs1 : Vec Ideal S256x512 .bf16) (xs2 : Vec Ideal S768x512 .bf16) (xs3 : Vec Ideal S768x512 .bf16) (xs4 : Vec Ideal S256x768 .f32) :
    sout0_C_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 xs0 xs1 xs2 xs3 xs4 = xs0 := by
  first | rfl | frame_out

set_option maxHeartbeats 8000000 in
theorem sout_C_1 (c : Dev nD) (i : grid0.Coords) (arg1 : Memref sig .tc .vmem S256x768 .f32) (harg1 : arg1.IsWhole) (arg2 : Memref sig .tc .vmem S1x768 .f32) (harg2 : arg2.IsWhole) (arg3 : Memref sig .tc .vmem S768x256 .f32) (harg3 : arg3.IsWhole) (arg4 : Memref sig .tc .vmem S256x512 .f32) (harg4 : arg4.IsWhole) (arg5 : Memref sig .tc .vmem S768x512 .f32) (harg5 : arg5.IsWhole) (arg6 : Memref sig .tc .vmem S768x512 .f32) (harg6 : arg6.IsWhole) (arg7 : Memref sig .tc .vmem S768x64 .f32) (harg7 : arg7.IsWhole) (arg8 : Memref sig .tc .vmem S256x16 .i32) (harg8 : arg8.IsWhole) (arg9 : Memref sig .tc .vmem S768x64 .f32) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x64 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x64 .f32) (harg16 : arg16.IsWhole) (arg17 : Memref sig .tc .vmem S768x256 .bf16) (harg17 : arg17.IsWhole) (arg18 : Memref sig .tc .vmem S256x512 .bf16) (harg18 : arg18.IsWhole) (arg19 : Memref sig .tc .vmem S768x512 .bf16) (harg19 : arg19.IsWhole) (arg20 : Memref sig .tc .vmem S768x512 .bf16) (harg20 : arg20.IsWhole) (arg21 : Memref sig .tc .vmem S256x768 .f32) (harg21 : arg21.IsWhole) (hc0 : ¬cond0_0 i) (hc1 : cond0_1 i)
    (x0 : Vec Ideal S256x768 .f32) (x1 : Vec Ideal S1x768 .f32) (x2 : Vec Ideal S768x256 .f32) (x3 : Vec Ideal S256x512 .f32) (x4 : Vec Ideal S768x512 .f32) (x5 : Vec Ideal S768x512 .f32) (x6 : Vec Ideal S768x64 .f32) (x7 : Vec Ideal S256x16 .i32) (x8 : Vec Ideal S768x64 .f32) (xs0 : Vec Ideal S768x256 .bf16) (xs1 : Vec Ideal S256x512 .bf16) (xs2 : Vec Ideal S768x512 .bf16) (xs3 : Vec Ideal S768x512 .bf16) (xs4 : Vec Ideal S256x768 .f32) :
    sout0_C_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 xs0 xs1 xs2 xs3 xs4 = xs1 := by
  first | rfl | frame_out

set_option maxHeartbeats 8000000 in
theorem sout_C_2 (c : Dev nD) (i : grid0.Coords) (arg1 : Memref sig .tc .vmem S256x768 .f32) (harg1 : arg1.IsWhole) (arg2 : Memref sig .tc .vmem S1x768 .f32) (harg2 : arg2.IsWhole) (arg3 : Memref sig .tc .vmem S768x256 .f32) (harg3 : arg3.IsWhole) (arg4 : Memref sig .tc .vmem S256x512 .f32) (harg4 : arg4.IsWhole) (arg5 : Memref sig .tc .vmem S768x512 .f32) (harg5 : arg5.IsWhole) (arg6 : Memref sig .tc .vmem S768x512 .f32) (harg6 : arg6.IsWhole) (arg7 : Memref sig .tc .vmem S768x64 .f32) (harg7 : arg7.IsWhole) (arg8 : Memref sig .tc .vmem S256x16 .i32) (harg8 : arg8.IsWhole) (arg9 : Memref sig .tc .vmem S768x64 .f32) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x64 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x64 .f32) (harg16 : arg16.IsWhole) (arg17 : Memref sig .tc .vmem S768x256 .bf16) (harg17 : arg17.IsWhole) (arg18 : Memref sig .tc .vmem S256x512 .bf16) (harg18 : arg18.IsWhole) (arg19 : Memref sig .tc .vmem S768x512 .bf16) (harg19 : arg19.IsWhole) (arg20 : Memref sig .tc .vmem S768x512 .bf16) (harg20 : arg20.IsWhole) (arg21 : Memref sig .tc .vmem S256x768 .f32) (harg21 : arg21.IsWhole) (hc0 : ¬cond0_0 i) (hc1 : cond0_1 i)
    (x0 : Vec Ideal S256x768 .f32) (x1 : Vec Ideal S1x768 .f32) (x2 : Vec Ideal S768x256 .f32) (x3 : Vec Ideal S256x512 .f32) (x4 : Vec Ideal S768x512 .f32) (x5 : Vec Ideal S768x512 .f32) (x6 : Vec Ideal S768x64 .f32) (x7 : Vec Ideal S256x16 .i32) (x8 : Vec Ideal S768x64 .f32) (xs0 : Vec Ideal S768x256 .bf16) (xs1 : Vec Ideal S256x512 .bf16) (xs2 : Vec Ideal S768x512 .bf16) (xs3 : Vec Ideal S768x512 .bf16) (xs4 : Vec Ideal S256x768 .f32) :
    sout0_C_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 xs0 xs1 xs2 xs3 xs4 = xs2 := by
  first | rfl | frame_out

set_option maxHeartbeats 8000000 in
theorem sout_C_3 (c : Dev nD) (i : grid0.Coords) (arg1 : Memref sig .tc .vmem S256x768 .f32) (harg1 : arg1.IsWhole) (arg2 : Memref sig .tc .vmem S1x768 .f32) (harg2 : arg2.IsWhole) (arg3 : Memref sig .tc .vmem S768x256 .f32) (harg3 : arg3.IsWhole) (arg4 : Memref sig .tc .vmem S256x512 .f32) (harg4 : arg4.IsWhole) (arg5 : Memref sig .tc .vmem S768x512 .f32) (harg5 : arg5.IsWhole) (arg6 : Memref sig .tc .vmem S768x512 .f32) (harg6 : arg6.IsWhole) (arg7 : Memref sig .tc .vmem S768x64 .f32) (harg7 : arg7.IsWhole) (arg8 : Memref sig .tc .vmem S256x16 .i32) (harg8 : arg8.IsWhole) (arg9 : Memref sig .tc .vmem S768x64 .f32) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x64 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x64 .f32) (harg16 : arg16.IsWhole) (arg17 : Memref sig .tc .vmem S768x256 .bf16) (harg17 : arg17.IsWhole) (arg18 : Memref sig .tc .vmem S256x512 .bf16) (harg18 : arg18.IsWhole) (arg19 : Memref sig .tc .vmem S768x512 .bf16) (harg19 : arg19.IsWhole) (arg20 : Memref sig .tc .vmem S768x512 .bf16) (harg20 : arg20.IsWhole) (arg21 : Memref sig .tc .vmem S256x768 .f32) (harg21 : arg21.IsWhole) (hc0 : ¬cond0_0 i) (hc1 : cond0_1 i)
    (x0 : Vec Ideal S256x768 .f32) (x1 : Vec Ideal S1x768 .f32) (x2 : Vec Ideal S768x256 .f32) (x3 : Vec Ideal S256x512 .f32) (x4 : Vec Ideal S768x512 .f32) (x5 : Vec Ideal S768x512 .f32) (x6 : Vec Ideal S768x64 .f32) (x7 : Vec Ideal S256x16 .i32) (x8 : Vec Ideal S768x64 .f32) (xs0 : Vec Ideal S768x256 .bf16) (xs1 : Vec Ideal S256x512 .bf16) (xs2 : Vec Ideal S768x512 .bf16) (xs3 : Vec Ideal S768x512 .bf16) (xs4 : Vec Ideal S256x768 .f32) :
    sout0_C_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 xs0 xs1 xs2 xs3 xs4 = xs3 := by
  first | rfl | frame_out

set_option maxHeartbeats 8000000 in
theorem sout_C_4 (c : Dev nD) (i : grid0.Coords) (arg1 : Memref sig .tc .vmem S256x768 .f32) (harg1 : arg1.IsWhole) (arg2 : Memref sig .tc .vmem S1x768 .f32) (harg2 : arg2.IsWhole) (arg3 : Memref sig .tc .vmem S768x256 .f32) (harg3 : arg3.IsWhole) (arg4 : Memref sig .tc .vmem S256x512 .f32) (harg4 : arg4.IsWhole) (arg5 : Memref sig .tc .vmem S768x512 .f32) (harg5 : arg5.IsWhole) (arg6 : Memref sig .tc .vmem S768x512 .f32) (harg6 : arg6.IsWhole) (arg7 : Memref sig .tc .vmem S768x64 .f32) (harg7 : arg7.IsWhole) (arg8 : Memref sig .tc .vmem S256x16 .i32) (harg8 : arg8.IsWhole) (arg9 : Memref sig .tc .vmem S768x64 .f32) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x64 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x64 .f32) (harg16 : arg16.IsWhole) (arg17 : Memref sig .tc .vmem S768x256 .bf16) (harg17 : arg17.IsWhole) (arg18 : Memref sig .tc .vmem S256x512 .bf16) (harg18 : arg18.IsWhole) (arg19 : Memref sig .tc .vmem S768x512 .bf16) (harg19 : arg19.IsWhole) (arg20 : Memref sig .tc .vmem S768x512 .bf16) (harg20 : arg20.IsWhole) (arg21 : Memref sig .tc .vmem S256x768 .f32) (harg21 : arg21.IsWhole) (hc0 : ¬cond0_0 i) (hc1 : cond0_1 i)
    (x0 : Vec Ideal S256x768 .f32) (x1 : Vec Ideal S1x768 .f32) (x2 : Vec Ideal S768x256 .f32) (x3 : Vec Ideal S256x512 .f32) (x4 : Vec Ideal S768x512 .f32) (x5 : Vec Ideal S768x512 .f32) (x6 : Vec Ideal S768x64 .f32) (x7 : Vec Ideal S256x16 .i32) (x8 : Vec Ideal S768x64 .f32) (xs0 : Vec Ideal S768x256 .bf16) (xs1 : Vec Ideal S256x512 .bf16) (xs2 : Vec Ideal S768x512 .bf16) (xs3 : Vec Ideal S768x512 .bf16) (xs4 : Vec Ideal S256x768 .f32) :
    sout0_C_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 xs0 xs1 xs2 xs3 xs4 = step i x0 x1 x7 xs4 := by
  frame_out
  first | done | rfl

end Cert.Kernel1Ideal.Proj

end
-- ==== Proof.Phrase.lean ====
module

public import proofs.«01_k».proof.Proof.Spec

/-! The projections of a row, and the means of the phrases, over plain functions of the indices. -/

@[expose] public section

noncomputable section

open Idealize.ShloMosaic

namespace Cert.Phrase

/-- One row against a matrix. -/
def proj {n k : ℕ} (h : Fin n → EReal) (w : Fin n → Fin k → EReal) (j : Fin k) : EReal := ∑ c, h c * w c j

/-- The query of a row: two matrices, then the scale. -/
def query (h : Fin 768 → EReal) (w1 : Fin 768 → Fin 256 → EReal) (w2 : Fin 256 → Fin 512 → EReal) (j : Fin 512) : EReal :=
  proj (proj h w1) w2 j * Ideal.ofBits .f32 0x3E000000#32

/-- The mean of the rows a phrase names. -/
def mean (h : Fin 2048 → EReal) (f : Fin 16 → Fin 2048) : EReal :=
  Ideal.div (∑ l, h (f l)) (Ideal.ofBits .f32 0x41800000#32)

/-- How often a phrase names token `t`. -/
def count (f : Fin 16 → ℕ) (t : ℕ) : EReal := ∑ l, if f l = t then 1 else 0

/-- What token `t` gives to the sum of a phrase. -/
def part (f : Fin 16 → ℕ) (h : ℕ → EReal) (t : ℕ) : EReal := ∑ l, if f l = t then h t else 0

theorem count_mul (f : Fin 16 → ℕ) (h : ℕ → EReal) (t : ℕ) : count f t * h t = part f h t := by
  unfold count part
  have key : ∀ s : Finset (Fin 16), (0 : EReal) ≤ (∑ l ∈ s, if f l = t then (1 : EReal) else 0)
      ∧ (∑ l ∈ s, if f l = t then (1 : EReal) else 0) * h t = ∑ l ∈ s, if f l = t then h t else 0 := by
    intro s
    induction s using Finset.induction_on with
    | empty => simp
    | insert a s ha ih =>
      rw [Finset.sum_insert ha, Finset.sum_insert ha]
      have h0 : (0 : EReal) ≤ if f a = t then (1 : EReal) else 0 := by split <;> norm_num
      refine ⟨add_nonneg h0 ih.1, ?_⟩
      rw [EReal.right_distrib_of_nonneg h0 ih.1, ih.2]
      congr 1
      split <;> simp
  exact (key Finset.univ).2

/-- The tokens of one block after the other are all tokens. -/
theorem blocks_sum (g : ℕ → EReal) (n : ℕ) : (∑ i ∈ Finset.range n, ∑ r : Fin 256, g (256 * i + r.val)) = ∑ t ∈ Finset.range (256 * n), g t := by
  induction n with
  | zero => simp
  | succ n ih =>
    rw [Finset.sum_range_succ, ih, Nat.mul_succ, Finset.sum_range_add, Finset.sum_range (fun x => g (256 * n + x))]

theorem part_sum (f : Fin 16 → Fin 2048) (h : ℕ → EReal) :
    (∑ t ∈ Finset.range 2048, part (fun l => (f l).val) h t) = ∑ l, h (f l).val := by
  unfold part
  rw [Finset.sum_comm]
  refine Finset.sum_congr rfl fun l _ => ?_
  rw [Finset.sum_ite_eq, if_pos (Finset.mem_range.2 (f l).isLt)]

theorem sixteen : Ideal.ofBits .f32 0x41800000#32 = ((16 : ℝ) : EReal) := by
  simp [Ideal.ofBits, Ideal.ieee, -EReal.coe_mul]; norm_num

theorem sixteenth : Ideal.ofBits .f32 0x3D800000#32 = ((1 / 16 : ℝ) : EReal) := by
  simp [Ideal.ofBits, Ideal.ieee, -EReal.coe_mul]; norm_num

theorem div_sixteen (x : EReal) : Ideal.div x (Ideal.ofBits .f32 0x41800000#32) = x * Ideal.ofBits .f32 0x3D800000#32 := by
  rw [sixteen, sixteenth]
  unfold Ideal.div
  rw [if_neg (by norm_cast), ← EReal.coe_inv, one_div]

/-- The sum the blocks leave, scaled, is the mean. -/
theorem mean_eq (h : ℕ → EReal) (f : Fin 16 → Fin 2048) :
    (∑ i ∈ Finset.range 8, ∑ r : Fin 256, part (fun l => (f l).val) h (256 * i + r.val)) * Ideal.ofBits .f32 0x3D800000#32
      = mean (fun s => h s.val) f := by
  rw [blocks_sum, part_sum, ← div_sixteen]
  rfl

end Cert.Phrase

end
-- ==== Proof.Payload.lean ====
module

public import proofs.«01_k».proof.Proof.Cases
public import proofs.«01_k».proof.Proof.Phrase

/-! The values of the first call's body, read at an index. -/

@[expose] public section

set_option maxRecDepth 16384

noncomputable section

open Idealize.ShloMosaic Idealize.ShloMosaic.TcCoe Idealize.SL.Sem

namespace Cert.Kernel1Ideal.Proj

open Cert.Kernel1Ideal Cert.Kernel1Ideal.Gen Cert.Phrase

theorem pay7_eq (x : Vec Ideal S768x256 .f32) : k0_pay7 (F := Ideal) x = x := by
  funext j; pointwise! [k0_pay7]

theorem pay8_eq (x : Vec Ideal S256x512 .f32) : k0_pay8 (F := Ideal) x = x := by
  funext j; pointwise! [k0_pay8]

theorem pay9_eq (x : Vec Ideal S768x512 .f32) : k0_pay9 (F := Ideal) x = x := by
  funext j; pointwise! [k0_pay9]

theorem pay10_eq (x : Vec Ideal S768x512 .f32) : k0_pay10 (F := Ideal) x = x := by
  funext j; pointwise! [k0_pay10]

variable (x0 : Vec Ideal S256x768 .f32) (x1 : Vec Ideal S1x768 .f32)

/-- The normalised row `r` of a block. -/
def hrow (r : Fin 256) : Fin 768 → EReal := Spec.nrow (fun c => x0 (ix2 r c)) (fun c => x1 (ix2 0 c))

theorem pay12_apply (r : Fin 256) (c : Fin 768) : k0_pay12 (F := Ideal) x0 x1 (ix2 r c) = hrow x0 x1 r c := by
  pointwise [k0_pay12]
  rfl

theorem pay13_apply (r : Fin 256) (c : Fin 768) : k0_pay13 (F := Ideal) x0 x1 (ix2 r c) = hrow x0 x1 r c := by
  rw [← pay12_apply]
  pointwise! [k0_pay13]

theorem pay14_apply (a : Vec Ideal S768x256 .bf16) (b : Vec Ideal S256x512 .bf16) (r : Fin 256) (j : Fin 512) :
    k0_pay14 (F := Ideal) x0 x1 a b (ix2 r j) = query (hrow x0 x1 r) (fun c a' => a (ix2 c a')) (fun a' j => b (ix2 a' j)) j := by
  pointwise [k0_pay14, k0_pay13]
  simp only [pay12_apply]
  rfl

theorem pay15_apply (w : Vec Ideal S768x512 .bf16) (r : Fin 256) (j : Fin 512) :
    k0_pay15 (F := Ideal) x0 x1 w (ix2 r j) = proj (hrow x0 x1 r) (fun c j => w (ix2 c j)) j := by
  pointwise [k0_pay15, k0_pay13]
  simp only [pay12_apply]
  rfl

theorem pay16_apply (w : Vec Ideal S768x512 .bf16) (r : Fin 256) (j : Fin 512) :
    k0_pay16 (F := Ideal) (k0_pay13 x0 x1) w (ix2 r j) = proj (hrow x0 x1 r) (fun c j => w (ix2 c j)) j := by
  pointwise [k0_pay16, k0_pay13]
  simp only [pay12_apply]
  rfl

theorem pay17_apply (w : Vec Ideal S768x64 .f32) (r : Fin 256) (j : Fin 64) :
    k0_pay17 (F := Ideal) (k0_pay12 x0 x1) w (ix2 r j) = proj (hrow x0 x1 r) (fun c j => w (ix2 c j)) j := by
  pointwise [k0_pay17]
  simp only [pay12_apply]
  rfl

theorem pay4_apply (s : Vec Ideal S256x768 .f32) (w : Vec Ideal S768x512 .bf16) (p : Fin 256) (j : Fin 512) :
    k0_pay4 (F := Ideal) s w (ix2 p j) = proj (fun c => s (ix2 p c) * Ideal.ofBits .f32 0x3D800000#32) (fun c j => w (ix2 c j)) j := by
  pointwise [k0_pay4, k0_pay3, k0_pay2]
  rfl

theorem pay5_apply (s : Vec Ideal S256x768 .f32) (w : Vec Ideal S768x512 .bf16) (p : Fin 256) (j : Fin 512) :
    k0_pay5 (F := Ideal) s w (ix2 p j) = proj (fun c => s (ix2 p c) * Ideal.ofBits .f32 0x3D800000#32) (fun c j => w (ix2 c j)) j := by
  pointwise [k0_pay5, k0_pay3, k0_pay2]
  rfl

theorem pay6_apply (s : Vec Ideal S256x768 .f32) (w : Vec Ideal S768x64 .f32) (p : Fin 256) (j : Fin 64) :
    k0_pay6 (F := Ideal) s w (ix2 p j) = proj (fun c => s (ix2 p c) * Ideal.ofBits .f32 0x3D800000#32) (fun c j => w (ix2 c j)) j := by
  pointwise [k0_pay6, k0_pay2]
  rfl

theorem pay11_apply (p : Fin 256) (c : Fin 768) : k0_pay11 (F := Ideal) (ix2 p c) = 0 := by
  pointwise! [k0_pay11]

/-- Row `r` of block `a` is token `256 a + r`. -/
theorem pay18_apply (a : ℕ) (ha : a < 8) (p r : Fin 256) : k0_pay18 (BitVec.ofNat 32 a) (ix2 p r) = BitVec.ofNat 32 (256 * a + r.val) := by
  pointwise [k0_pay18]
  show BitVec.ofNat 32 a * 256#32 + BitVec.ofNat 32 r.val = _
  refine BitVec.eq_of_toNat_eq ?_
  simp only [BitVec.toNat_add, BitVec.toNat_mul, BitVec.toNat_ofNat]
  omega

/-- An equality of words, as a number. -/
theorem eq_num (a : BitVec 32) (t : ℕ) (ht : t < 2048) :
    FloatOps.sitofp (F := Ideal) .f32 (BitVec.setWidth 32 (IntOp.cmpi .eq a (BitVec.ofNat 32 t))) = if a.toNat = t then (1 : EReal) else 0 := by
  by_cases h : a.toNat = t
  · have e : a = BitVec.ofNat 32 t := BitVec.eq_of_toNat_eq (by rw [BitVec.toNat_ofNat]; omega)
    rw [if_pos h, (IntOp.cmpi_eq).2 e]
    show ((((1#1 : BitVec 1).setWidth 32).toInt : ℝ) : EReal) = 1
    norm_num
  · have e : ¬ a = BitVec.ofNat 32 t := fun e => h (by rw [e, BitVec.toNat_ofNat]; omega)
    have e0 : IntOp.cmpi .eq a (BitVec.ofNat 32 t) = 0#1 := by
      rcases BitVec.eq_zero_or_eq_one (IntOp.cmpi .eq a (BitVec.ofNat 32 t)) with h0 | h1
      · exact h0
      · exact absurd ((IntOp.cmpi_eq).1 h1) e
    rw [if_neg h, e0]
    show ((((0#1 : BitVec 1).setWidth 32).toInt : ℝ) : EReal) = 0
    norm_num

set_option maxHeartbeats 4000000 in
/-- The sixteen comparisons of a phrase with a token are its count. -/
theorem count_apply (a : ℕ) (ha : a < 8) (x7 : Vec Ideal S256x16 .i32) (p r : Fin 256) :
    k0_pay21 (F := Ideal) x7 (k0_pay18 (BitVec.ofNat 32 a)) (k0_pay19 (BitVec.ofNat 32 a) x7) (k0_pay20 (F := Ideal) (BitVec.ofNat 32 a) x7) (ix2 p r)
      + FloatOps.sitofp (F := Ideal) .f32 (BitVec.setWidth 32 (k0_pay22 (F := Ideal) x7 (k0_pay18 (BitVec.ofNat 32 a)) (ix2 p r)))
      = Phrase.count (fun l => (x7 (ix2 p l)).toNat) (256 * a + r.val) := by
  pointwise [k0_pay21, k0_pay19, k0_pay20, k0_pay22]
  simp only [pay18_apply a ha, eq_num _ (256 * a + r.val) (by omega)]
  unfold Phrase.count
  rw [show (∑ l : Fin 16, if (x7 (ix2 p l)).toNat = 256 * a + r.val then (1 : EReal) else 0) = _ from by
    simp only [Fin.sum_univ_castSucc, Fin.sum_univ_zero, zero_add]; rfl]
  rfl

/-- What a block adds to the sum of a phrase. -/
theorem step_apply (i : grid0.Coords) (a : ℕ) (ha : a < 8) (hi : (i 0).val = a) (x7 : Vec Ideal S256x16 .i32) (acc : Vec Ideal S256x768 .f32)
    (p : Fin 256) (c : Fin 768) (h : ℕ → EReal) (hh : ∀ r : Fin 256, hrow x0 x1 r c = h (256 * a + r.val)) :
    step i x0 x1 x7 acc (ix2 p c)
      = acc (ix2 p c) + ∑ r : Fin 256, part (fun l => (x7 (ix2 p l)).toNat) h (256 * a + r.val) := by
  unfold step
  rw [hi]
  have hc := count_apply a ha x7 p
  revert hc
  generalize k0_pay21 (F := Ideal) x7 (k0_pay18 (BitVec.ofNat 32 a)) (k0_pay19 (BitVec.ofNat 32 a) x7) (k0_pay20 (F := Ideal) (BitVec.ofNat 32 a) x7) = u
  generalize k0_pay22 (F := Ideal) x7 (k0_pay18 (BitVec.ofNat 32 a)) = w
  intro hc
  pointwise [k0_pay1]
  simp only [hc, pay13_apply, hh, count_mul]

end Cert.Kernel1Ideal.Proj

end
-- ==== Proof.Grid.lean ====
module

public import proofs.«01_k».proof.Proof.Payload

/-! The blocks of the first call, the tables it keeps from point to point, and its result arrays. -/

@[expose] public section

set_option maxRecDepth 16384

noncomputable section

open Idealize.ShloMosaic Idealize.ShloMosaic.TcCoe Idealize.SL.Sem
open Idealize.ShloMosaic.Pipeline (Dat)

namespace Cert.Kernel1Ideal.Proj

open Cert.Kernel1Ideal Cert.Kernel1Ideal.Gen Cert.Phrase

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![t.val, 0] ∧ win0_10.index t = ![t.val, 0] ∧ win0_11.index t = ![t.val, 0] ∧ win0_12.index t = ![t.val, 0] ∧ win0_13.index t = ![0, 0] ∧ win0_14.index t = ![0, 0] ∧ win0_15.index t = ![0, 0] ∧ (grid0.coords t 0).val = t.val :=
  (by decide +kernel : ∀ t : Fin grid0.N, _)

theorem lt8 (t : Fin cfg0.N) : t.val < 8 := lt_of_lt_of_eq t.isLt N_0

/-- Token `r` of block `t`. -/
def tok (t : Fin cfg0.N) (r : Fin 256) : Fin 2048 := ⟨256 * t.val + r.val, by have := lt8 t; omega⟩

/-- The normalised row of a token. -/
def nr (x : FVec Ideal S2048x768 .f32) (w : FVec Ideal S1x768 .f32) (s : Fin 2048) : Fin 768 → EReal :=
  Spec.nrow (fun c => x (ix2 s c)) (fun c => w (ix2 0 c))

/-- Column `c` of the normalised rows, over all numbers. -/
def col (x : FVec Ideal S2048x768 .f32) (w : FVec Ideal S1x768 .f32) (c : Fin 768) (s : ℕ) : EReal :=
  if h : s < 2048 then nr x w ⟨s, h⟩ c else 0

theorem col_tok (x : FVec Ideal S2048x768 .f32) (w : FVec Ideal S1x768 .f32) (c : Fin 768) (s : Fin 2048) : col x w c s.val = nr x w s c :=
  dif_pos s.isLt

/-- The sum of each phrase over the first `n` blocks. -/
def run (x : FVec Ideal S2048x768 .f32) (w : FVec Ideal S1x768 .f32) (f : IVec S256x16 32) (n : ℕ) : FVec Ideal S256x768 .f32 :=
  fun i => ∑ b ∈ Finset.range n, ∑ r : Fin 256, part (fun l => (f (ix2 (i 0) l)).toNat) (col x w (i 1)) (256 * b + r.val)

theorem b0 (c : Dev nD) (t : Fin cfg0.N) (r : Fin 256) (j : Fin 768) : iblk m c 0 t (ix2 r j) = (m ((c : Thread nD τ).loc main_arg0)) (ix2 (tok t r) j) := by
  blk_point [iblk, V, idx t]
  simp only [tok]; omega

theorem b1 (c : Dev nD) (t : Fin cfg0.N) : iblk m c 1 t = (m ((c : Thread nD τ).loc main_arg1)) := by
  funext y
  blk_point [iblk, V, idx t]

theorem b2 (c : Dev nD) (t : Fin cfg0.N) : iblk m c 2 t = (m ((c : Thread nD τ).loc main_arg2)) := by
  funext y
  blk_point [iblk, V, idx t]

theorem b3 (c : Dev nD) (t : Fin cfg0.N) : iblk m c 3 t = (m ((c : Thread nD τ).loc main_arg3)) := by
  funext y
  blk_point [iblk, V, idx t]

theorem b4 (c : Dev nD) (t : Fin cfg0.N) : iblk m c 4 t = (m ((c : Thread nD τ).loc main_arg4)) := by
  funext y
  blk_point [iblk, V, idx t]

theorem b5 (c : Dev nD) (t : Fin cfg0.N) : iblk m c 5 t = (m ((c : Thread nD τ).loc main_arg5)) := by
  funext y
  blk_point [iblk, V, idx t]

theorem b6 (c : Dev nD) (t : Fin cfg0.N) : iblk m c 6 t = (m ((c : Thread nD τ).loc main_arg6)) := by
  funext y
  blk_point [iblk, V, idx t]

theorem b7 (c : Dev nD) (t : Fin cfg0.N) : iblk m c 7 t = (m ((c : Thread nD τ).loc main_arg7)) := by
  funext y
  blk_point [iblk, V, idx t]

theorem b8 (c : Dev nD) (t : Fin cfg0.N) : iblk m c 8 t = (m ((c : Thread nD τ).loc main_arg8)) := by
  funext y
  blk_point [iblk, V, idx t]

theorem hrow_blk (c : Dev nD) (t : Fin cfg0.N) (r : Fin 256) : hrow (iblk m c 0 t) (iblk m c 1 t) r = nr (m ((c : Thread nD τ).loc main_arg0)) (m ((c : Thread nD τ).loc main_arg1)) (tok t r) := by
  unfold hrow nr
  rw [b1]
  exact congrArg₂ Spec.nrow (funext fun j => b0 m c t r j) rfl

/-- A block takes the sum one block further. -/
theorem step_run (c : Dev nD) (t : Fin cfg0.N) : step (grid0.coords t) (iblk m c 0 t) (iblk m c 1 t) (iblk m c 7 t) (run (m ((c : Thread nD τ).loc main_arg0)) (m ((c : Thread nD τ).loc main_arg1)) (m ((c : Thread nD τ).loc main_arg7)) t.val)
    = run (m ((c : Thread nD τ).loc main_arg0)) (m ((c : Thread nD τ).loc main_arg1)) (m ((c : Thread nD τ).loc main_arg7)) (t.val + 1) := by
  funext y
  idx_vars y
  refine (step_apply _ _ (grid0.coords t) t.val (lt8 t) (by simp only [idx t]) _ _ y0 y1 (col (m ((c : Thread nD τ).loc main_arg0)) (m ((c : Thread nD τ).loc main_arg1)) y1) fun r => ?_).trans ?_
  · rw [hrow_blk]
    exact (col_tok _ _ y1 (tok t r)).symm
  · rw [b7]
    exact (Finset.sum_range_succ _ t.val).symm

theorem run_zero (x : FVec Ideal S2048x768 .f32) (w : FVec Ideal S1x768 .f32) (f : IVec S256x16 32) : k0_pay11 (F := Ideal) = run x w f 0 := by
  funext y
  idx_vars y
  exact pay11_apply y0 y1

theorem kept (c : Dev nD) : ∀ (n : ℕ) (hn : n < cfg0.N), (outsAt0 m c n hn).2.2.2.2.2.2.2.1 = (m ((c : Thread nD τ).loc main_arg2)) ∧ (outsAt0 m c n hn).2.2.2.2.2.2.2.2.1 = (m ((c : Thread nD τ).loc main_arg3)) ∧ (outsAt0 m c n hn).2.2.2.2.2.2.2.2.2.1 = (m ((c : Thread nD τ).loc main_arg4)) ∧ (outsAt0 m c n hn).2.2.2.2.2.2.2.2.2.2.1 = (m ((c : Thread nD τ).loc main_arg5))
    ∧ (outsAt0 m c n hn).2.2.2.2.2.2.2.2.2.2.2 = run (m ((c : Thread nD τ).loc main_arg0)) (m ((c : Thread nD τ).loc main_arg1)) (m ((c : Thread nD τ).loc main_arg7)) (n + 1) := by
  intro n
  induction n with
  | zero =>
    intro hn
    rw [show outsAt0 m c 0 hn = _ from outsAt0_A m c ⟨0, hn⟩ rfl (by show ¬ 0 % 8 = 7; decide)]
    simp only [sout_A_0, sout_A_1, sout_A_2, sout_A_3, sout_A_4, pay7_eq, pay8_eq, pay9_eq, pay10_eq, b2, b3, b4, b5]
    refine ⟨trivial, trivial, trivial, trivial, ?_⟩
    rw [run_zero (m ((c : Thread nD τ).loc main_arg0)) (m ((c : Thread nD τ).loc main_arg1)) (m ((c : Thread nD τ).loc main_arg7))]
    exact step_run m c ⟨0, hn⟩
  | succ n ih =>
    intro hn
    have hN := lt_of_lt_of_eq hn (show cfg0.N = 8 from N_0)
    have h := ih (Nat.lt_of_succ_lt hn)
    by_cases h7 : (n + 1) % 8 = 7
    · rw [show outsAt0 m c (n + 1) hn = _ from outsAt0_C m c ⟨n + 1, hn⟩ (by show ¬(n + 1) % 8 = 0; omega) h7]
      simp only [sout_C_0, sout_C_1, sout_C_2, sout_C_3, sout_C_4]
      refine ⟨h.1, h.2.1, h.2.2.1, h.2.2.2.1, ?_⟩
      refine Eq.trans ?_ (step_run m c ⟨n + 1, hn⟩)
      exact congrArg _ h.2.2.2.2
    · rw [show outsAt0 m c (n + 1) hn = _ from outsAt0_B m c ⟨n + 1, hn⟩ (by show ¬(n + 1) % 8 = 0; omega) h7]
      simp only [sout_B_0, sout_B_1, sout_B_2, sout_B_3, sout_B_4]
      refine ⟨h.1, h.2.1, h.2.2.1, h.2.2.2.1, ?_⟩
      refine Eq.trans ?_ (step_run m c ⟨n + 1, hn⟩)
      exact congrArg _ h.2.2.2.2

/-- What a point leaves in the blocks of its rows. -/
theorem rows_eq (c : Dev nD) (t : Fin cfg0.N) : (outsAt0 m c t.val t.isLt).1 = k0_pay14 (F := Ideal) (iblk m c 0 t) (iblk m c 1 t) (m ((c : Thread nD τ).loc main_arg2)) (m ((c : Thread nD τ).loc main_arg3))
    ∧ (outsAt0 m c t.val t.isLt).2.1 = k0_pay15 (F := Ideal) (iblk m c 0 t) (iblk m c 1 t) (m ((c : Thread nD τ).loc main_arg4))
    ∧ (outsAt0 m c t.val t.isLt).2.2.1 = k0_pay16 (F := Ideal) (k0_pay13 (iblk m c 0 t) (iblk m c 1 t)) (m ((c : Thread nD τ).loc main_arg5))
    ∧ (outsAt0 m c t.val t.isLt).2.2.2.1 = k0_pay17 (F := Ideal) (k0_pay12 (iblk m c 0 t) (iblk m c 1 t)) (m ((c : Thread nD τ).loc main_arg6)) := by
  have hN := lt8 t
  by_cases h0 : t.val % 8 = 0
  · rw [outsAt0_A m c t h0 (by omega)]
    simp only [out_A_9, out_A_10, out_A_11, out_A_12, pay7_eq, pay8_eq, pay9_eq, pay10_eq, b2, b3, b4, b5, b6]
    exact ⟨trivial, trivial, trivial, trivial⟩
  · have h := kept m c (t.val - 1) (Nat.lt_of_le_of_lt (Nat.sub_le _ _) t.isLt)
    by_cases h7 : t.val % 8 = 7
    · rw [outsAt0_C m c t h0 h7]
      simp only [out_C_9, out_C_10, out_C_11, out_C_12, b6]
      rw [h.1, h.2.1, h.2.2.1, h.2.2.2.1]
      exact ⟨rfl, rfl, rfl, trivial⟩
    · rw [outsAt0_B m c t h0 h7]
      simp only [out_B_9, out_B_10, out_B_11, out_B_12, b6]
      rw [h.1, h.2.1, h.2.2.1, h.2.2.2.1]
      exact ⟨rfl, rfl, rfl, trivial⟩

/-- What the last point leaves for the phrases. -/
theorem last_eq (c : Dev nD) (t : Fin cfg0.N) (h7 : t.val % 8 = 7) :
    (outsAt0 m c t.val t.isLt).2.2.2.2.1 = k0_pay4 (F := Ideal) (run (m ((c : Thread nD τ).loc main_arg0)) (m ((c : Thread nD τ).loc main_arg1)) (m ((c : Thread nD τ).loc main_arg7)) 8) (m ((c : Thread nD τ).loc main_arg4))
    ∧ (outsAt0 m c t.val t.isLt).2.2.2.2.2.1 = k0_pay5 (F := Ideal) (run (m ((c : Thread nD τ).loc main_arg0)) (m ((c : Thread nD τ).loc main_arg1)) (m ((c : Thread nD τ).loc main_arg7)) 8) (m ((c : Thread nD τ).loc main_arg5))
    ∧ (outsAt0 m c t.val t.isLt).2.2.2.2.2.2.1 = k0_pay6 (F := Ideal) (run (m ((c : Thread nD τ).loc main_arg0)) (m ((c : Thread nD τ).loc main_arg1)) (m ((c : Thread nD τ).loc main_arg7)) 8) (m ((c : Thread nD τ).loc main_arg8)) := by
  have hN := lt8 t
  have h := kept m c (t.val - 1) (Nat.lt_of_le_of_lt (Nat.sub_le _ _) t.isLt)
  rw [outsAt0_C m c t (by omega) h7]
  simp only [out_C_13, out_C_14, out_C_15, b8]
  rw [h.2.2.1, h.2.2.2.1, h.2.2.2.2]
  have e : step (grid0.coords t) (iblk m c 0 t) (iblk m c 1 t) (iblk m c 7 t) (run (m ((c : Thread nD τ).loc main_arg0)) (m ((c : Thread nD τ).loc main_arg1)) (m ((c : Thread nD τ).loc main_arg7)) (t.val - 1 + 1)) = run (m ((c : Thread nD τ).loc main_arg0)) (m ((c : Thread nD τ).loc main_arg1)) (m ((c : Thread nD τ).loc main_arg7)) 8 := by
    rw [show t.val - 1 + 1 = t.val from by omega, step_run, show t.val + 1 = 8 from by omega]
  rw [e]
  exact ⟨rfl, rfl, rfl⟩

/-- An entry of the queries. -/
def resQ (X : FVec Ideal S2048x768 .f32) (W : FVec Ideal S1x768 .f32) (A : FVec Ideal S768x256 .f32) (B : FVec Ideal S256x512 .f32) (s : Fin 2048) (j : Fin 512) : EReal :=
  query (nr X W s) (fun c a => A (ix2 c a)) (fun a j => B (ix2 a j)) j

theorem final9 (c : Dev nD) : (dats m 0 c).arrAt 9 (cfgs 0).N = fun i : S2048x512.Idx => resQ (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 9 _ (by decide +kernel) fun t _ y => ?_
  blk_simp
  rw [after0_9, (rows_eq m c t).1]
  idx_vars y
  refine (pay14_apply _ _ _ _ y0 y1).trans ?_
  rw [hrow_blk]
  refine congrArg₂ (resQ (m ((c : Thread nD τ).loc main_arg0)) (m ((c : Thread nD τ).loc main_arg1)) (m ((c : Thread nD τ).loc main_arg2)) (m ((c : Thread nD τ).loc main_arg3))) (Fin.ext ?_) (Fin.ext ?_)
  · blk_simp
    simp [idx t, tok, Nat.mul_comm]
  · blk_simp
    simp [idx t]

/-- An entry of the keys, or of the values. -/
def resK (X : FVec Ideal S2048x768 .f32) (W : FVec Ideal S1x768 .f32) (A : FVec Ideal S768x512 .f32) (s : Fin 2048) (j : Fin 512) : EReal :=
  proj (nr X W s) (fun c j => A (ix2 c j)) j

theorem final10 (c : Dev nD) : (dats m 0 c).arrAt 10 (cfgs 0).N = fun i : S2048x512.Idx => resK (m ((c : Thread nD τ).loc main_arg0)) (m ((c : Thread nD τ).loc main_arg1)) (m ((c : Thread nD τ).loc main_arg4)) (i 0) (i 1) := by
  refine (dats m 0 c).arrAt_eq_of_covers 10 _ (by decide +kernel) fun t _ y => ?_
  blk_simp
  rw [after0_10, (rows_eq m c t).2.1]
  idx_vars y
  refine (pay15_apply _ _ _ y0 y1).trans ?_
  rw [hrow_blk]
  refine congrArg₂ (resK (m ((c : Thread nD τ).loc main_arg0)) (m ((c : Thread nD τ).loc main_arg1)) (m ((c : Thread nD τ).loc main_arg4))) (Fin.ext ?_) (Fin.ext ?_)
  · blk_simp
    simp [idx t, tok, Nat.mul_comm]
  · blk_simp
    simp [idx t]

theorem final11 (c : Dev nD) : (dats m 0 c).arrAt 11 (cfgs 0).N = fun i : S2048x512.Idx => resK (m ((c : Thread nD τ).loc main_arg0)) (m ((c : Thread nD τ).loc main_arg1)) (m ((c : Thread nD τ).loc main_arg5)) (i 0) (i 1) := by
  refine (dats m 0 c).arrAt_eq_of_covers 11 _ (by decide +kernel) fun t _ y => ?_
  blk_simp
  rw [after0_11, (rows_eq m c t).2.2.1]
  idx_vars y
  refine (pay16_apply _ _ _ y0 y1).trans ?_
  rw [hrow_blk]
  refine congrArg₂ (resK (m ((c : Thread nD τ).loc main_arg0)) (m ((c : Thread nD τ).loc main_arg1)) (m ((c : Thread nD τ).loc main_arg5))) (Fin.ext ?_) (Fin.ext ?_)
  · blk_simp
    simp [idx t, tok, Nat.mul_comm]
  · blk_simp
    simp [idx t]

/-- An entry of the index queries. -/
def resI (X : FVec Ideal S2048x768 .f32) (W : FVec Ideal S1x768 .f32) (A : FVec Ideal S768x64 .f32) (s : Fin 2048) (j : Fin 64) : EReal :=
  proj (nr X W s) (fun c j => A (ix2 c j)) j

theorem final12 (c : Dev nD) : (dats m 0 c).arrAt 12 (cfgs 0).N = fun i : S2048x64.Idx => resI (m ((c : Thread nD τ).loc main_arg0)) (m ((c : Thread nD τ).loc main_arg1)) (m ((c : Thread nD τ).loc main_arg6)) (i 0) (i 1) := by
  refine (dats m 0 c).arrAt_eq_of_covers 12 _ (by decide +kernel) fun t _ y => ?_
  blk_simp
  rw [after0_12, (rows_eq m c t).2.2.2]
  idx_vars y
  refine (pay17_apply _ _ _ y0 y1).trans ?_
  rw [hrow_blk]
  refine congrArg₂ (resI (m ((c : Thread nD τ).loc main_arg0)) (m ((c : Thread nD τ).loc main_arg1)) (m ((c : Thread nD τ).loc main_arg6))) (Fin.ext ?_) (Fin.ext ?_)
  · blk_simp
    simp [idx t, tok, Nat.mul_comm]
  · blk_simp
    simp [idx t]

/-- An entry of a projection of the phrases. -/
def resP {n : ℕ} (S : FVec Ideal S256x768 .f32) (w : Fin 768 → Fin n → EReal) (p : Fin 256) (j : Fin n) : EReal :=
  proj (fun c => S (ix2 p c) * Ideal.ofBits .f32 0x3D800000#32) w j

theorem final13 (c : Dev nD) : (dats m 0 c).arrAt 13 (cfgs 0).N
    = fun i : S256x512.Idx => resP (run (m ((c : Thread nD τ).loc main_arg0)) (m ((c : Thread nD τ).loc main_arg1)) (m ((c : Thread nD τ).loc main_arg7)) 8) (fun a j => (m ((c : Thread nD τ).loc main_arg4)) (ix2 a j)) (i 0) (i 1) := by
  refine (dats m 0 c).arrAt_eq_of_covers 13 _ (by decide +kernel) fun t ht y => ?_
  blk_simp
  rw [after0_13, (last_eq m c t ((flush0_13 t).1 ht)).1]
  idx_vars y
  refine (pay4_apply _ _ y0 y1).trans ?_
  refine congrArg₂ (resP (run (m ((c : Thread nD τ).loc main_arg0)) (m ((c : Thread nD τ).loc main_arg1)) (m ((c : Thread nD τ).loc main_arg7)) 8) (fun a j => (m ((c : Thread nD τ).loc main_arg4)) (ix2 a j))) (Fin.ext ?_) (Fin.ext ?_)
  · blk_simp
    simp [idx t]
  · blk_simp
    simp [idx t]

theorem final14 (c : Dev nD) : (dats m 0 c).arrAt 14 (cfgs 0).N
    = fun i : S256x512.Idx => resP (run (m ((c : Thread nD τ).loc main_arg0)) (m ((c : Thread nD τ).loc main_arg1)) (m ((c : Thread nD τ).loc main_arg7)) 8) (fun a j => (m ((c : Thread nD τ).loc main_arg5)) (ix2 a j)) (i 0) (i 1) := by
  refine (dats m 0 c).arrAt_eq_of_covers 14 _ (by decide +kernel) fun t ht y => ?_
  blk_simp
  rw [after0_14, (last_eq m c t ((flush0_14 t).1 ht)).2.1]
  idx_vars y
  refine (pay5_apply _ _ y0 y1).trans ?_
  refine congrArg₂ (resP (run (m ((c : Thread nD τ).loc main_arg0)) (m ((c : Thread nD τ).loc main_arg1)) (m ((c : Thread nD τ).loc main_arg7)) 8) (fun a j => (m ((c : Thread nD τ).loc main_arg5)) (ix2 a j))) (Fin.ext ?_) (Fin.ext ?_)
  · blk_simp
    simp [idx t]
  · blk_simp
    simp [idx t]

theorem final15 (c : Dev nD) : (dats m 0 c).arrAt 15 (cfgs 0).N
    = fun i : S256x64.Idx => resP (run (m ((c : Thread nD τ).loc main_arg0)) (m ((c : Thread nD τ).loc main_arg1)) (m ((c : Thread nD τ).loc main_arg7)) 8) (fun a j => (m ((c : Thread nD τ).loc main_arg8)) (ix2 a j)) (i 0) (i 1) := by
  refine (dats m 0 c).arrAt_eq_of_covers 15 _ (by decide +kernel) fun t ht y => ?_
  blk_simp
  rw [after0_15, (last_eq m c t ((flush0_15 t).1 ht)).2.2]
  idx_vars y
  refine (pay6_apply _ _ y0 y1).trans ?_
  refine congrArg₂ (resP (run (m ((c : Thread nD τ).loc main_arg0)) (m ((c : Thread nD τ).loc main_arg1)) (m ((c : Thread nD τ).loc main_arg7)) 8) (fun a j => (m ((c : Thread nD τ).loc main_arg8)) (ix2 a j))) (Fin.ext ?_) (Fin.ext ?_)
  · blk_simp
    simp [idx t]
  · blk_simp
    simp [idx t]

end Cert.Kernel1Ideal.Proj

end
-- ==== Proof.Means.lean ====
module

public import proofs.«01_k».proof.Proof.Phrase
public import proofs.«01_k».proof.Proof.Gen.Reference1Ideal.Read
public import Idealize.ShloMosaic.Lib.Pipeline.ValueKit

/-! The reference of the first call, read at an index. -/

@[expose] public section

set_option maxRecDepth 16384

noncomputable section

open Idealize.ShloMosaic Idealize.ShloMosaic.TcCoe Idealize.SL.Sem

namespace Cert.Reference1Ideal.Means

open Cert.Reference1Ideal Cert.Reference1Ideal.Gen Cert.Reference1Ideal.Read Cert.Phrase

variable (x0 : FVec Ideal S2048x768 .f32) (x1 : FVec Ideal S1x768 .f32) (x2 : FVec Ideal S768x256 .f32) (x3 : FVec Ideal S256x512 .f32)
  (x4 x5 : FVec Ideal S768x512 .f32) (x6 x8 : FVec Ideal S768x64 .f32) (x7 : IVec S256x16 32)

/-- The normalised row of token `s`. -/
def hrow (s : Fin 2048) : Fin 768 → EReal := Spec.nrow (fun c => x0 (ix2 s c)) (fun c => x1 (ix2 0 c))

theorem h_apply (s : Fin 2048) (c : Fin 768) : val_main_v11 (F := Ideal) x0 x1 (ix2 s c) = hrow x0 x1 s c := by
  pointwise [val_main_v11, val_main_v10, val_main_v9, val_main_v8, val_main_v7, val_main_v6, val_main_v5, val_main_v4, val_main_v3, val_main_v2, val_main_v1, val_main_v0, val_main_cst, val_main_cst_0, val_main_cst_1]
  rfl

theorem q_apply (s : Fin 2048) (j : Fin 512) : val_main_v32 (F := Ideal) x0 x1 x2 x3 (ix2 s j)
    = query (hrow x0 x1 s) (fun c a => x2 (ix2 c a)) (fun a j => x3 (ix2 a j)) j := by
  unfold val_main_v32 val_main_v15 val_main_v13 val_main_v12
  have e := h_apply x0 x1 s
  revert e
  generalize val_main_v11 (F := Ideal) x0 x1 = y
  intro e
  pointwise [val_main_v14, val_main_cst_2]
  simp only [e]
  rfl

theorem k_apply (s : Fin 2048) (j : Fin 512) : val_main_v33 (F := Ideal) x0 x1 x4 (ix2 s j) = proj (hrow x0 x1 s) (fun c j => x4 (ix2 c j)) j := by
  unfold val_main_v33 val_main_v16
  have e := h_apply x0 x1 s
  revert e
  generalize val_main_v11 (F := Ideal) x0 x1 = y
  intro e
  pointwise []
  simp only [e]
  rfl

theorem v_apply (s : Fin 2048) (j : Fin 512) : val_main_v34 (F := Ideal) x0 x1 x5 (ix2 s j) = proj (hrow x0 x1 s) (fun c j => x5 (ix2 c j)) j :=
  k_apply x0 x1 x5 s j

theorem i_apply (s : Fin 2048) (j : Fin 64) : val_main_v18 (F := Ideal) x0 x1 x6 (ix2 s j) = proj (hrow x0 x1 s) (fun c j => x6 (ix2 c j)) j := by
  unfold val_main_v18
  have e := h_apply x0 x1 s
  revert e
  generalize val_main_v11 (F := Ideal) x0 x1 = y
  intro e
  pointwise []
  simp only [e]
  rfl

variable (f : Fin 256 → Fin 16 → Fin 2048) (hf : ∀ p l, x7 (ix2 p l) = BitVec.ofNat 32 (f p l).val)

theorem toInt_tok (n : ℕ) (h : n < 2048) : (BitVec.ofNat 32 n).toInt = (n : ℤ) := by
  rw [BitVec.toInt_eq_toNat_of_lt (by rw [BitVec.toNat_ofNat]; omega), BitVec.toNat_ofNat]; omega

include hf in
theorem start_apply (p : Fin 256) (l : Fin 16) : val_main_v24 (F := Ideal) x7 (ix3 p l 0) = BitVec.ofNat 32 (f p l).val := by
  pointwise [val_main_v24, val_main_v23, val_main_v22, val_main_v21, val_main_v20, val_main_v19, val_main_c, val_main_c_3]
  rw [hf]
  unfold Scalar.select
  rw [if_neg]
  show ¬ (_ = 1#1)
  rw [IntOp.cmpi_slt, toInt_tok _ (f p l).isLt]
  have := toInt_tok 0 (by decide)
  omega

theorem gather_tok (x : FVec Ideal S2048x768 .f32) (idx : IVec S256x16x1 32) (p : Fin 256) (l : Fin 16) (c : Fin 768) (t : Fin 2048)
    (e : idx (ix3 p l 0) = BitVec.ofNat 32 t.val) :
    Host.gather gather_S2048x768_S256x16x1_S256x16x768_2_0_n_n_0_2_1768 x idx (ix3 p l c) = x (ix2 t c) := by
  unfold Host.gather
  refine congrArg x (funext fun a => Fin.ext ?_)
  have hsi : (gather_S2048x768_S256x16x1_S256x16x768_2_0_n_n_0_2_1768).siIdx (ix3 p l c) ⟨0, by decide⟩ = ix3 p l 0 := by
    funext b; refine Fin.ext ?_
    fin_cases b <;> rfl
  fin_cases a
  · show min (idx ((gather_S2048x768_S256x16x1_S256x16x768_2_0_n_n_0_2_1768).siIdx (ix3 p l c) ⟨0, by decide⟩)).toInt.toNat (2048 - 1) + 0 + 0 = t.val
    rw [hsi, e, toInt_tok _ t.isLt]
    omega
  · show 0 + 0 + c.val = c.val
    omega

include hf in
theorem ph_apply (p : Fin 256) (c : Fin 768) : val_main_v28 (F := Ideal) x0 x1 x7 (ix2 p c) = mean (fun s => hrow x0 x1 s c) (f p) := by
  unfold val_main_v28 val_main_v26
  have e : ∀ l, val_main_v25 (F := Ideal) x0 x1 x7 (ix3 p l c) = hrow x0 x1 (f p l) c := fun l =>
    (gather_tok _ _ p l c (f p l) (start_apply x7 f hf p l)).trans (h_apply x0 x1 _ c)
  revert e
  generalize val_main_v25 (F := Ideal) x0 x1 x7 = y
  intro e
  pointwise [val_main_v27, val_main_cst_5, val_main_cst_4]
  simp only [e]
  rfl

include hf in
theorem pk_apply (p : Fin 256) (j : Fin 512) : val_main_v35 (F := Ideal) x0 x1 x4 x7 (ix2 p j)
    = proj (fun c => mean (fun s => hrow x0 x1 s c) (f p)) (fun c j => x4 (ix2 c j)) j := by
  unfold val_main_v35 val_main_v29
  have e := ph_apply x0 x1 x7 f hf p
  revert e
  generalize val_main_v28 (F := Ideal) x0 x1 x7 = y
  intro e
  pointwise []
  simp only [e]
  rfl

include hf in
theorem pv_apply (p : Fin 256) (j : Fin 512) : val_main_v36 (F := Ideal) x0 x1 x5 x7 (ix2 p j)
    = proj (fun c => mean (fun s => hrow x0 x1 s c) (f p)) (fun c j => x5 (ix2 c j)) j :=
  pk_apply x0 x1 x5 x7 f hf p j

include hf in
theorem ki_apply (p : Fin 256) (j : Fin 64) : val_main_v31 (F := Ideal) x0 x1 x7 x8 (ix2 p j)
    = proj (fun c => mean (fun s => hrow x0 x1 s c) (f p)) (fun c j => x8 (ix2 c j)) j := by
  unfold val_main_v31
  have e := ph_apply x0 x1 x7 f hf p
  revert e
  generalize val_main_v28 (F := Ideal) x0 x1 x7 = y
  intro e
  pointwise []
  simp only [e]
  rfl

end Cert.Reference1Ideal.Means

end
-- ==== Proof.Tokens.lean ====
module

public import proofs.«01_k».proof.Pre_tokens_in_range
public import proofs.«01_k».proof.Proof.Means
public import Idealize.ShloMosaic.Lib.ReduceAll

/-! What the precondition of the first call says of the tokens that the phrases name. -/

@[expose] public section

set_option maxRecDepth 16384

noncomputable section

open Idealize.ShloMosaic Idealize.ShloMosaic.TcCoe Idealize.SL.Sem

namespace Cert.Pre_tokens_in_range

instance facts : Facts where
  bcast_S_S256x16 := by decide
  reducesTo_S256x16_S_d0_1 := by decide
  h_S_ := by decide

instance : Subsingleton S_.Idx := ⟨fun a b => funext fun i => i.elim0⟩

theorem named_tokens (x0 : FVec Ideal S2048x768 .f32) (x1 : FVec Ideal S1x768 .f32) (x2 : FVec Ideal S768x256 .f32) (x3 : FVec Ideal S256x512 .f32)
    (x4 x5 : FVec Ideal S768x512 .f32) (x6 : FVec Ideal S768x64 .f32) (x7 : IVec S256x16 32) (x8 : FVec Ideal S768x64 .f32)
    (h : fn (F := Ideal) x0 x1 x2 x3 x4 x5 x6 x7 x8 ValueIdx.ix0 = 1#1) :
    ∃ f : Fin 256 → Fin 16 → Fin 2048, ∀ p l, x7 (ix2 p l) = BitVec.ofNat 32 (f p l).val := by
  have key : ∀ (p : Fin 256) (l : Fin 16), ∃ t : Fin 2048, x7 (ix2 p l) = BitVec.ofNat 32 t.val := by
    intro p l
    have e := Host.reduce_andi_all _ _ _ _ _ h (ix2 p l)
    obtain ⟨e1, e2⟩ := (IntOp.andi_eq_one).1 e
    have g1 : (0#32 : BitVec 32).toInt ≤ (x7 (ix2 p l)).toInt := (IntOp.cmpi_sge).1 e1
    have g2 : (x7 (ix2 p l)).toInt < (2048#32 : BitVec 32).toInt := (IntOp.cmpi_slt).1 e2
    have z0 : (0#32 : BitVec 32).toInt = 0 := by decide
    have z1 : (2048#32 : BitVec 32).toInt = 2048 := by decide
    rw [z0] at g1
    rw [z1] at g2
    have hn : (x7 (ix2 p l)).toNat < 2048 := by
      have := BitVec.toInt_eq_toNat_cond (x7 (ix2 p l))
      have := (x7 (ix2 p l)).isLt
      split at * <;> omega
    exact ⟨⟨_, hn⟩, BitVec.eq_of_toNat_eq (by rw [BitVec.toNat_ofNat]; exact (Nat.mod_eq_of_lt (Nat.lt_trans hn (by decide))).symm)⟩
  choose f hf using key
  exact ⟨f, hf⟩

end Cert.Pre_tokens_in_range

end
-- ==== Proof.Projected.lean ====
module

public import proofs.«01_k».proof.Defs
public import proofs.«01_k».proof.Proof.Grid
public import proofs.«01_k».proof.Proof.Tokens

@[expose] public section

set_option maxRecDepth 16384

noncomputable section

open Idealize.ShloMosaic Idealize.ShloMosaic.TcCoe Idealize.SL.Sem

namespace Cert.Proof

/-- The means of the phrases are the scaled sums that the blocks leave. -/
theorem sums {n : ℕ} (x : FVec Ideal Cert.Kernel1Ideal.S2048x768 .f32) (w : FVec Ideal Cert.Kernel1Ideal.S1x768 .f32) (x7 : IVec Cert.Kernel1Ideal.S256x16 32)
    (f : Fin 256 → Fin 16 → Fin 2048) (hf : ∀ p l, x7 (ix2 p l) = BitVec.ofNat 32 (f p l).val) (v : Fin 768 → Fin n → EReal) (p : Fin 256) (j : Fin n) :
    Phrase.proj (fun c => Phrase.mean (fun s => Cert.Reference1Ideal.Means.hrow x w s c) (f p)) v j = Cert.Kernel1Ideal.Proj.resP (Cert.Kernel1Ideal.Proj.run x w x7 8) v p j := by
  refine congrArg (fun h => Phrase.proj h v j) (funext fun c => ?_)
  have e : (fun l => (x7 (ix2 p l)).toNat) = fun l => (f p l).val := funext fun l => by
    rw [hf, BitVec.toNat_ofNat, Nat.mod_eq_of_lt (Nat.lt_trans (f p l).isLt (by decide))]
  show _ = (∑ b ∈ Finset.range 8, ∑ r : Fin 256, Phrase.part (fun l => (x7 (ix2 p l)).toNat) (Cert.Kernel1Ideal.Proj.col x w c) (256 * b + r.val)) * Ideal.ofBits .f32 0x3D800000#32
  rw [e, Phrase.mean_eq]
  exact congrArg (fun h => Phrase.mean h (f p)) (funext fun s => (Cert.Kernel1Ideal.Proj.col_tok x w c s).symm)

/-- The first call computes its reference. -/
theorem algebraic1 : Cert.algebraic_Kernel1Ideal_Reference1Ideal_pre_tokens_in_range (hKernel1Ideal := Cert.Kernel1Ideal.Gen.facts)
    (hReference1Ideal := Cert.Reference1Ideal.Gen.facts) (hPre_tokens_in_range := Cert.Pre_tokens_in_range.facts) := by
  intro m g m' g' hpre hargs
  refine ⟨fun c => fun i : Cert.Kernel1Ideal.S2048x512.Idx => Cert.Kernel1Ideal.Proj.resQ (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (i 0) (i 1),
    fun c => fun i : Cert.Kernel1Ideal.S2048x512.Idx => Cert.Kernel1Ideal.Proj.resK (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg4)) (i 0) (i 1),
    fun c => fun i : Cert.Kernel1Ideal.S2048x512.Idx => Cert.Kernel1Ideal.Proj.resK (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg5)) (i 0) (i 1),
    fun c => fun i : Cert.Kernel1Ideal.S2048x64.Idx => Cert.Kernel1Ideal.Proj.resI (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg6)) (i 0) (i 1),
    fun c => fun i : Cert.Kernel1Ideal.S256x512.Idx => Cert.Kernel1Ideal.Proj.resP (Cert.Kernel1Ideal.Proj.run (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg7)) 8) (fun a j => (m ((c.tc : Thread Cert.Kernel1Ideal.nD Cert.Kernel1Ideal.τ).loc Cert.Kernel1Ideal.main_arg4)) (ix2 a j)) (i 0) (i 1),
    fun c => fun i : Cert.Kernel1Ideal.S256x512.Idx => Cert.Kernel1Ideal.Proj.resP (Cert.Kernel1Ideal.Proj.run (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg7)) 8) (fun a j => (m ((c.tc : Thread Cert.Kernel1Ideal.nD Cert.Kernel1Ideal.τ).loc Cert.Kernel1Ideal.main_arg5)) (ix2 a j)) (i 0) (i 1),
    fun c => fun i : Cert.Kernel1Ideal.S256x64.Idx => Cert.Kernel1Ideal.Proj.resP (Cert.Kernel1Ideal.Proj.run (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg7)) 8) (fun a j => (m ((c.tc : Thread Cert.Kernel1Ideal.nD Cert.Kernel1Ideal.τ).loc Cert.Kernel1Ideal.main_arg8)) (ix2 a j)) (i 0) (i 1), ?_, ?_⟩
  · refine (θ_run _ _ _).mono (fun r h c => ⟨(h c).1.trans (Cert.Kernel1Ideal.Proj.final9 m c), (h c).2.1.trans (Cert.Kernel1Ideal.Proj.final10 m c), (h c).2.2.1.trans (Cert.Kernel1Ideal.Proj.final11 m c), (h c).2.2.2.1.trans (Cert.Kernel1Ideal.Proj.final12 m c), (h c).2.2.2.2.1.trans (Cert.Kernel1Ideal.Proj.final13 m c), (h c).2.2.2.2.2.1.trans (Cert.Kernel1Ideal.Proj.final14 m c), (h c).2.2.2.2.2.2.1.trans (Cert.Kernel1Ideal.Proj.final15 m c), (h c).2.2.2.2.2.2.2⟩) (Cert.Kernel1Ideal.Value.run_blocks m g)
  · refine (θ_run _ _ _).mono (fun r h c => ?_) (Cert.Reference1Ideal.Value.run m' g')
    obtain ⟨a0, a1, a2, a3, a4, a5, a6, a7, a8⟩ := hargs c
    obtain ⟨f, hf⟩ := Cert.Pre_tokens_in_range.named_tokens _ _ _ _ _ _ _ _ _ (congrFun (hpre c) ValueIdx.ix0)
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩
    · refine (Cert.Reference1Ideal.Read.val_main_v32_eq (F := Ideal) _ _ _ _).trans ?_
      rw [a0, a1, a2, a3]
      funext i
      rw [eq_ix2 i]
      exact Cert.Reference1Ideal.Means.q_apply _ _ _ _ _ _
    · refine (Cert.Reference1Ideal.Read.val_main_v33_eq (F := Ideal) _ _ _).trans ?_
      rw [a0, a1, a4]
      funext i
      rw [eq_ix2 i]
      exact Cert.Reference1Ideal.Means.k_apply _ _ _ _ _
    · refine (Cert.Reference1Ideal.Read.val_main_v34_eq (F := Ideal) _ _ _).trans ?_
      rw [a0, a1, a5]
      funext i
      rw [eq_ix2 i]
      exact Cert.Reference1Ideal.Means.v_apply _ _ _ _ _
    · refine (Cert.Reference1Ideal.Read.val_main_v18_eq (F := Ideal) _ _ _).trans ?_
      rw [a0, a1, a6]
      funext i
      rw [eq_ix2 i]
      exact Cert.Reference1Ideal.Means.i_apply _ _ _ _ _
    · refine (Cert.Reference1Ideal.Read.val_main_v35_eq (F := Ideal) _ _ _ _).trans ?_
      rw [a0, a1, a4, a7]
      funext i
      rw [eq_ix2 i]
      exact (Cert.Reference1Ideal.Means.pk_apply _ _ _ _ f hf _ _).trans (sums _ _ _ f hf _ _ _)
    · refine (Cert.Reference1Ideal.Read.val_main_v36_eq (F := Ideal) _ _ _ _).trans ?_
      rw [a0, a1, a5, a7]
      funext i
      rw [eq_ix2 i]
      exact (Cert.Reference1Ideal.Means.pv_apply _ _ _ _ f hf _ _).trans (sums _ _ _ f hf _ _ _)
    · refine (Cert.Reference1Ideal.Read.val_main_v31_eq (F := Ideal) _ _ _ _).trans ?_
      rw [a0, a1, a7, a8]
      funext i
      rw [eq_ix2 i]
      exact (Cert.Reference1Ideal.Means.ki_apply _ _ _ _ f hf _ _).trans (sums _ _ _ f hf _ _ _)

end Cert.Proof

end
-- ==== Proof.lean ====
module

public import proofs.«01_k».proof.Defs
public import proofs.«01_k».proof.Proof.Algebraic
public import proofs.«01_k».proof.Proof.Projected
public import proofs.«01_k».proof.Proof.Gen.Kernel1Ideal.Value
public import proofs.«01_k».proof.Proof.Gen.Reference1Ideal.Run
public import proofs.«01_k».proof.Proof.Gen.Reference1Ideal.Read
public import proofs.«01_k».proof.Proof.Gen.Reference2Ideal.Run
public import proofs.«01_k».proof.Proof.Gen.Reference2Ideal.Read
public import proofs.«01_k».proof.Proof.Gen.Kernel2Ideal.Value
public import proofs.«01_k».proof.Proof.Gen.Kernel1
public import proofs.«01_k».proof.Proof.Gen.Kernel1.Skeleton
public import proofs.«01_k».proof.Proof.Gen.Kernel1.Launch
public import proofs.«01_k».proof.Proof.Gen.Kernel1.Points
public import proofs.«01_k».proof.Proof.Gen.Kernel1.Frame
public import proofs.«01_k».proof.Proof.Gen.Kernel1Ideal
public import proofs.«01_k».proof.Proof.Gen.Kernel1Ideal.Skeleton
public import proofs.«01_k».proof.Proof.Gen.Kernel1Ideal.Launch
public import proofs.«01_k».proof.Proof.Gen.Kernel1Ideal.Points
public import proofs.«01_k».proof.Proof.Gen.Kernel1Ideal.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

theorem preserves2 : Cert.preserves_Kernel2_Kernel2Ideal :=
  IdealRules.named_const.statement Cert.Kernel2Ideal.κ "mask" .f32 0xCE6E6B28#32 ⊥ rfl

theorem frameR2 : Cert.quiescent_Reference2Ideal (hReference2Ideal := Cert.Reference2Ideal.Gen.facts) := fun m g _ =>
  (θ_run _ _ _).mono (fun r h => ⟨fun c => (h c).2, sem_eq_zero_of_no_sems (by decide) r.2⟩) (Cert.Reference2Ideal.Value.run m g)

theorem frameR1 : Cert.quiescent_Reference1Ideal (hReference1Ideal := Cert.Reference1Ideal.Gen.facts) := fun m g _ =>
  (θ_run _ _ _).mono (fun r h => ⟨fun c => (h c).2.2.2.2.2.2.2, sem_eq_zero_of_no_sems (by decide) r.2⟩) (Cert.Reference1Ideal.Value.run m g)

theorem claim : Cert.Claim :=
  ⟨Cert.Kernel2.Gen.facts, Cert.Kernel2Ideal.Gen.facts, Cert.Reference2Ideal.Gen.facts, Cert.Kernel1.Gen.facts,
    Cert.Kernel1Ideal.Gen.facts, Cert.Reference1Ideal.Gen.facts, Cert.Pre_scores_separate.facts, Cert.Pre_tokens_in_range.facts,
    fun m ρ _ => Cert.Kernel2.Gen.frame m ρ, fun m ρ _ => Cert.Kernel2Ideal.Gen.frame m ρ,
    fun m ρ _ => Cert.Kernel2Ideal.Gen.frame m ρ, frameR2, fun m g _ => frameR2 m g trivial,
    fun m ρ _ => Cert.Kernel1.Gen.frame m ρ, fun m ρ _ => Cert.Kernel1Ideal.Gen.frame m ρ,
    fun m ρ _ => Cert.Kernel1Ideal.Gen.frame m ρ, frameR1, fun m g _ => frameR1 m g trivial,
    preserves2, algebraic2, trivial, algebraic1⟩

end Cert.Proof

end
